-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v39)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v40)) (v4 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v40) = v3 c
          ∧ r.2.mem ((c.tc : Thread Cert.KernelIdeal.nD Cert.KernelIdeal.τ).loc Cert.KernelIdeal.main_v40) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v399) = v0 c
          ∧ r.2.mem ((c.tc : Thread Cert.ReferenceIdeal.nD Cert.ReferenceIdeal.τ).loc Cert.ReferenceIdeal.main_v405) = v1 c
          ∧ r.2.mem ((c.tc : Thread Cert.ReferenceIdeal.nD Cert.ReferenceIdeal.τ).loc Cert.ReferenceIdeal.main_v410) = v2 c
          ∧ r.2.mem ((c.tc : Thread Cert.ReferenceIdeal.nD Cert.ReferenceIdeal.τ).loc Cert.ReferenceIdeal.main_v367) = v3 c
          ∧ r.2.mem ((c.tc : Thread Cert.ReferenceIdeal.nD Cert.ReferenceIdeal.τ).loc Cert.ReferenceIdeal.main_v375) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x1024 : Shape := ⟨3, ![8, 512, 1024]⟩
abbrev S4x256x512 : Shape := ⟨3, ![4, 256, 512]⟩
abbrev S4x256 : Shape := ⟨2, ![4, 256]⟩
abbrev S4x512x256 : Shape := ⟨3, ![4, 512, 256]⟩
abbrev S4x512 : Shape := ⟨2, ![4, 512]⟩
abbrev S4x1024x256 : Shape := ⟨3, ![4, 1024, 256]⟩
abbrev S8x1024x512 : Shape := ⟨3, ![8, 1024, 512]⟩
abbrev S8192x512 : Shape := ⟨2, ![8192, 512]⟩
abbrev S_ : Shape := ⟨0, ![]⟩
abbrev S4x256x1 : Shape := ⟨3, ![4, 256, 1]⟩
abbrev S4x512x1 : Shape := ⟨3, ![4, 512, 1]⟩
abbrev S4x1024 : Shape := ⟨2, ![4, 1024]⟩
abbrev S4x1024x1 : Shape := ⟨3, ![4, 1024, 1]⟩
abbrev S4x256x1024 : Shape := ⟨3, ![4, 256, 1024]⟩
abbrev S4x1x256 : Shape := ⟨3, ![4, 1, 256]⟩
abbrev S4x1x512 : Shape := ⟨3, ![4, 1, 512]⟩
abbrev S4x1x1024 : Shape := ⟨3, ![4, 1, 1024]⟩
abbrev S8192x4 : Shape := ⟨2, ![8192, 4]⟩
abbrev S8192x4x1024 : Shape := ⟨3, ![8192, 4, 1024]⟩
abbrev S1x1 : Shape := ⟨2, ![1, 1]⟩
abbrev S512x512 : Shape := ⟨2, ![512, 512]⟩
abbrev S512x4 : Shape := ⟨2, ![512, 4]⟩
abbrev S512x4x1024 : Shape := ⟨3, ![512, 4, 1024]⟩
abbrev S512x1024 : Shape := ⟨2, ![512, 1024]⟩
abbrev S1x512x256 : Shape := ⟨3, ![1, 512, 256]⟩
abbrev S512x256 : Shape := ⟨2, ![512, 256]⟩
abbrev S1x1x256 : Shape := ⟨3, ![1, 1, 256]⟩
abbrev S1x256 : Shape := ⟨2, ![1, 256]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩
abbrev S1x1x1024 : Shape := ⟨3, ![1, 1, 1024]⟩
abbrev S1x1024 : Shape := ⟨2, ![1, 1024]⟩
abbrev S512x1x1024 : Shape := ⟨3, ![512, 1, 1024]⟩
abbrev S1x1024x256 : Shape := ⟨3, ![1, 1024, 256]⟩
abbrev S1024x256 : Shape := ⟨2, ![1024, 256]⟩
abbrev S1 : Shape := ⟨1, ![1]⟩
abbrev S1x1x1 : Shape := ⟨3, ![1, 1, 1]⟩
abbrev S1x256x512 : Shape := ⟨3, ![1, 256, 512]⟩
abbrev S256x512 : Shape := ⟨2, ![256, 512]⟩
abbrev S1x1x512 : Shape := ⟨3, ![1, 1, 512]⟩
abbrev S1x512 : Shape := ⟨2, ![1, 512]⟩
abbrev S8x1024x4 : Shape := ⟨3, ![8, 1024, 4]⟩
abbrev S8x4x1024 : Shape := ⟨3, ![8, 4, 1024]⟩

abbrev nBuf : Space → Nat
  | .hbm => 62
  | .vmem => 16
  | .smem => 0
  | _ => 0

abbrev bufTy : (tb : Table) → Fin (tcTables nBuf tb) → BufTy
  | .hbm, ⟨0, _⟩ => ⟨S8x512x1024, .f32⟩
  | .hbm, ⟨1, _⟩ => ⟨S4x256x512, .f32⟩
  | .hbm, ⟨2, _⟩ => ⟨S4x256, .f32⟩
  | .hbm, ⟨3, _⟩ => ⟨S4x256, .f32⟩
  | .hbm, ⟨4, _⟩ => ⟨S4x512x256, .f32⟩
  | .hbm, ⟨5, _⟩ => ⟨S4x512, .f32⟩
  | .hbm, ⟨6, _⟩ => ⟨S4x512, .f32⟩
  | .hbm, ⟨7, _⟩ => ⟨S4x1024x256, .f32⟩
  | .hbm, ⟨8, _⟩ => ⟨S8x1024x512, .f32⟩
  | .hbm, ⟨9, _⟩ => ⟨S8192x512, .f32⟩
  | .hbm, ⟨10, _⟩ => ⟨S4x256x512, .f32⟩
  | .hbm, ⟨11, _⟩ => ⟨S_, .f32⟩
  | .hbm, ⟨12, _⟩ => ⟨S4x256, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S_, .f32⟩
  | .hbm, ⟨17, _⟩ => ⟨S4x256x1, .f32⟩
  | .hbm, ⟨18, _⟩ => ⟨S4x256x1, .f32⟩
  | .hbm, ⟨19, _⟩ => ⟨S4x256x1, .f32⟩
  | .hbm, ⟨20, _⟩ => ⟨S4x256x512, .f32⟩
  | .hbm, ⟨21, _⟩ => ⟨S4x256x512, .f32⟩
  | .hbm, ⟨22, _⟩ => ⟨S4x512x256, .f32⟩
  | .hbm, ⟨23, _⟩ => ⟨S_, .f32⟩
  | .hbm, ⟨24, _⟩ => ⟨S4x512, .f32⟩
  | .hbm, ⟨25, _⟩ => ⟨S4x512x1, .f32⟩
  | .hbm, ⟨26, _⟩ => ⟨S4x512x1, .f32⟩
  | .hbm, ⟨27, _⟩ => ⟨S4x512x1, .f32⟩
  | .hbm, ⟨28, _⟩ => ⟨S_, .f32⟩
  | .hbm, ⟨29, _⟩ => ⟨S4x512x1, .f32⟩
  | .hbm, ⟨30, _⟩ => ⟨S4x512x1, .f32⟩
  | .hbm, ⟨31, _⟩ => ⟨S4x512x1, .f32⟩
  | .hbm, ⟨32, _⟩ => ⟨S4x512x256, .f32⟩
  | .hbm, ⟨33, _⟩ => ⟨S4x512x256, .f32⟩
  | .hbm, ⟨34, _⟩ => ⟨S4x1024x256, .f32⟩
  | .hbm, ⟨35, _⟩ => ⟨S_, .f32⟩
  | .hbm, ⟨36, _⟩ => ⟨S4x1024, .f32⟩
  | .hbm, ⟨37, _⟩ => ⟨S4x1024x1, .f32⟩
  | .hbm, ⟨38, _⟩ => ⟨S4x1024x1, .f32⟩
  | .hbm, ⟨39, _⟩ => ⟨S_, .f32⟩
  | .hbm, ⟨40, _⟩ => ⟨S4x1024x1, .f32⟩
  | .hbm, ⟨41, _⟩ => ⟨S4x1024x1, .f32⟩
  | .hbm, ⟨42, _⟩ => ⟨S4x1024x256, .f32⟩
  | .hbm, ⟨43, _⟩ => ⟨S4x1024x256, .f32⟩
  | .hbm, ⟨44, _⟩ => ⟨S4x1024x256, .f32⟩
  | .hbm, ⟨45, _⟩ => ⟨S_, .f32⟩
  | .hbm, ⟨46, _⟩ => ⟨S4x1024, .f32⟩
  | .hbm, ⟨47, _⟩ => ⟨S4x512x256, .f32⟩
  | .hbm, ⟨48, _⟩ => ⟨S4x256x512, .f32⟩
  | .hbm, ⟨49, _⟩ => ⟨S4x256x1024, .f32⟩
  | .hbm, ⟨50, _⟩ => ⟨S4x1x256, .f32⟩
  | .hbm, ⟨51, _⟩ => ⟨S4x1x512, .f32⟩
  | .hbm, ⟨52, _⟩ => ⟨S4x1x1024, .f32⟩
  | .hbm, ⟨53, _⟩ => ⟨S8192x512, .f32⟩
  | .hbm, ⟨54, _⟩ => ⟨S8192x4, .i32⟩
  | .hbm, ⟨55, _⟩ => ⟨S8192x4x1024, .f32⟩
  | .hbm, ⟨56, _⟩ => ⟨S1x1, .f32⟩
  | .hbm, ⟨57, _⟩ => ⟨S8x1024x512, .f32⟩
  | .hbm, ⟨58, _⟩ => ⟨S8x512x1024, .f32⟩
  | .hbm, ⟨59, _⟩ => ⟨S8x1024x4, .i32⟩
  | .hbm, ⟨60, _⟩ => ⟨S8x4x1024, .i32⟩
  | .hbm, ⟨61, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S4x512x256, .f32⟩
  | .local _ .vmem, ⟨3, _⟩ => ⟨S4x1x256, .f32⟩
  | .local _ .vmem, ⟨4, _⟩ => ⟨S4x256x512, .f32⟩
  | .local _ .vmem, ⟨5, _⟩ => ⟨S4x1x512, .f32⟩
  | .local _ .vmem, ⟨6, _⟩ => ⟨S4x256x1024, .f32⟩
  | .local _ .vmem, ⟨7, _⟩ => ⟨S4x1x1024, .f32⟩
  | .local _ .vmem, ⟨8, _⟩ => ⟨S4x1024x256, .f32⟩
  | .local _ .vmem, ⟨9, _⟩ => ⟨S512x512, .f32⟩
  | .local _ .vmem, ⟨10, _⟩ => ⟨S512x512, .f32⟩
  | .local _ .vmem, ⟨11, _⟩ => ⟨S512x4, .i32⟩
  | .local _ .vmem, ⟨12, _⟩ => ⟨S512x4, .i32⟩
  | .local _ .vmem, ⟨13, _⟩ => ⟨S512x4x1024, .f32⟩
  | .local _ .vmem, ⟨14, _⟩ => ⟨S512x4x1024, .f32⟩
  | .local _ .vmem, ⟨15, _⟩ => ⟨S1x1, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_cst : Ref sig .tc := ⟨.hbm, 35, rfl⟩
abbrev main_call0_v1 : Ref sig .tc := ⟨.hbm, 36, rfl⟩
abbrev main_call0_v2 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35_0 : Ref sig .tc := ⟨.hbm, 53, rfl⟩
abbrev main_v35_1 : Ref sig .tc := ⟨.hbm, 54, rfl⟩
abbrev main_v35_2 : Ref sig .tc := ⟨.hbm, 55, rfl⟩
abbrev main_v35_3 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8x512x1024 : Shape := ⟨3, ![8, 512, 1024]⟩
abbrev S4x256x512 : Shape := ⟨3, ![4, 256, 512]⟩
abbrev S4x256 : Shape := ⟨2, ![4, 256]⟩
abbrev S4x512x256 : Shape := ⟨3, ![4, 512, 256]⟩
abbrev S4x512 : Shape := ⟨2, ![4, 512]⟩
abbrev S4x1024x256 : Shape := ⟨3, ![4, 1024, 256]⟩
abbrev S_ : Shape := ⟨0, ![]⟩
abbrev S1x256x512 : Shape := ⟨3, ![1, 256, 512]⟩
abbrev S256x512 : Shape := ⟨2, ![256, 512]⟩
abbrev S1x256 : Shape := ⟨2, ![1, 256]⟩
abbrev S256 : Shape := ⟨1, ![256]⟩
abbrev S256x1 : Shape := ⟨2, ![256, 1]⟩
abbrev S8x1024x256 : Shape := ⟨3, ![8, 1024, 256]⟩
abbrev S8x256x1024 : Shape := ⟨3, ![8, 256, 1024]⟩
abbrev S1x256x1 : Shape := ⟨3, ![1, 256, 1]⟩
abbrev S8192x256 : Shape := ⟨2, ![8192, 256]⟩
abbrev S8192 : Shape := ⟨1, ![8192]⟩
abbrev S8192x1 : Shape := ⟨2, ![8192, 1]⟩
abbrev S1x1024x256 : Shape := ⟨3, ![1, 1024, 256]⟩
abbrev S1024x256 : Shape := ⟨2, ![1024, 256]⟩
abbrev S1024 : Shape := ⟨1, ![1024]⟩
abbrev S1024x1 : Shape := ⟨2, ![1024, 1]⟩
abbrev S256x1024 : Shape := ⟨2, ![256, 1024]⟩
abbrev S8192x1024 : Shape := ⟨2, ![8192, 1024]⟩
abbrev S1x1024 : Shape := ⟨2, ![1, 1024]⟩
abbrev S8x1024 : Shape := ⟨2, ![8, 1024]⟩
abbrev S8x1024x1 : Shape := ⟨3, ![8, 1024, 1]⟩
abbrev S1 : Shape := ⟨1, ![1]⟩
abbrev S1x1x1 : Shape := ⟨3, ![1, 1, 1]⟩
abbrev S8 : Shape := ⟨1, ![8]⟩
abbrev S1x512x256 : Shape := ⟨3, ![1, 512, 256]⟩
abbrev S512x256 : Shape := ⟨2, ![512, 256]⟩
abbrev S1x512 : Shape := ⟨2, ![1, 512]⟩
abbrev S512 : Shape := ⟨1, ![512]⟩
abbrev S512x1 : Shape := ⟨2, ![512, 1]⟩
abbrev S8x1024x512 : Shape := ⟨3, ![8, 1024, 512]⟩
abbrev S1x512x1 : Shape := ⟨3, ![1, 512, 1]⟩
abbrev S8x1x1024 : Shape := ⟨3, ![8, 1, 1024]⟩
abbrev S8x4x1024 : Shape := ⟨3, ![8, 4, 1024]⟩
abbrev S8192x1x1024 : Shape := ⟨3, ![8192, 1, 1024]⟩
abbrev S8192x4x1024 : Shape := ⟨3, ![8192, 4, 1024]⟩

abbrev nBuf : Space → Nat
  | .hbm => 630
  | .vmem => 0
  | .smem => 0
  | _ => 0

abbrev hbmTy0_0 (i : Nat) : BufTy := match i % 128 with
  | 0 => ⟨S8x512x1024, .f32⟩
  | 1 => ⟨S4x256x512, .f32⟩
  | 2 => ⟨S4x256, .f32⟩
  | 3 => ⟨S4x256, .f32⟩
  | 4 => ⟨S4x512x256, .f32⟩
  | 5 => ⟨S4x512, .f32⟩
  | 6 => ⟨S4x512, .f32⟩
  | 7 => ⟨S4x1024x256, .f32⟩
  | 8 => ⟨S_, .f32⟩
  | 9 => ⟨S8x512x1024, .f32⟩
  | 10 => ⟨S1x256x512, .f32⟩
  | 11 => ⟨S256x512, .f32⟩
  | 12 => ⟨S1x256, .f32⟩
  | 13 => ⟨S256, .f32⟩
  | 14 => ⟨S256x512, .f32⟩
  | 15 => ⟨S_, .f32⟩
  | 16 => ⟨S256, .f32⟩
  | 17 => ⟨S256x1, .f32⟩
  | 18 => ⟨S256x1, .f32⟩
  | 19 => ⟨S256x1, .f32⟩
  | 20 => ⟨S_, .f32⟩
  | 21 => ⟨S256x1, .f32⟩
  | 22 => ⟨S256x1, .f32⟩
  | 23 => ⟨S256x1, .f32⟩
  | 24 => ⟨S256x512, .f32⟩
  | 25 => ⟨S256x512, .f32⟩
  | 26 => ⟨S8x1024x256, .f32⟩
  | 27 => ⟨S8x256x1024, .f32⟩
  | 28 => ⟨S1x256, .f32⟩
  | 29 => ⟨S256, .f32⟩
  | 30 => ⟨S1x256x1, .f32⟩
  | 31 => ⟨S8x256x1024, .f32⟩
  | 32 => ⟨S8x256x1024, .f32⟩
  | 33 => ⟨S8x1024x256, .f32⟩
  | 34 => ⟨S8192x256, .f32⟩
  | 35 => ⟨S8192x256, .f32⟩
  | 36 => ⟨S_, .f32⟩
  | 37 => ⟨S8192, .f32⟩
  | 38 => ⟨S8192x1, .f32⟩
  | 39 => ⟨S8192x1, .f32⟩
  | 40 => ⟨S_, .f32⟩
  | 41 => ⟨S8192x1, .f32⟩
  | 42 => ⟨S8192x1, .f32⟩
  | 43 => ⟨S8192x256, .f32⟩
  | 44 => ⟨S8192x256, .f32⟩
  | 45 => ⟨S1x1024x256, .f32⟩
  | 46 => ⟨S1024x256, .f32⟩
  | 47 => ⟨S1024x256, .f32⟩
  | 48 => ⟨S_, .f32⟩
  | 49 => ⟨S1024, .f32⟩
  | 50 => ⟨S1024x1, .f32⟩
  | 51 => ⟨S1024x1, .f32⟩
  | 52 => ⟨S_, .f32⟩
  | 53 => ⟨S1024x1, .f32⟩
  | 54 => ⟨S1024x1, .f32⟩
  | 55 => ⟨S1024x256, .f32⟩
  | 56 => ⟨S1024x256, .f32⟩
  | 57 => ⟨S8192x256, .f32⟩
  | 58 => ⟨S_, .f32⟩
  | 59 => ⟨S8192, .f32⟩
  | 60 => ⟨S8192x1, .f32⟩
  | 61 => ⟨S256x1024, .f32⟩
  | 62 => ⟨S8192x1024, .f32⟩
  | 63 => ⟨S_, .f32⟩
  | 64 => ⟨S8192x1024, .f32⟩
  | 65 => ⟨S8192x1024, .f32⟩
  | 66 => ⟨S8192x1024, .f32⟩
  | 67 => ⟨S8192x1024, .f32⟩
  | 68 => ⟨S1024x256, .f32⟩
  | 69 => ⟨S_, .f32⟩
  | 70 => ⟨S1024, .f32⟩
  | 71 => ⟨S1x1024, .f32⟩
  | 72 => ⟨S8192x1024, .f32⟩
  | 73 => ⟨S8192x1024, .f32⟩
  | 74 => ⟨S8192x1024, .f32⟩
  | 75 => ⟨S_, .f32⟩
  | 76 => ⟨S8192x1024, .f32⟩
  | 77 => ⟨S8192x1024, .f32⟩
  | 78 => ⟨S8192x1024, .f32⟩
  | 79 => ⟨S8192x1024, .i32⟩
  | 80 => ⟨S_, .f32⟩
  | 81 => ⟨S_, .i32⟩
  | 82 => ⟨S8192, .f32⟩
  | 83 => ⟨S8192, .i32⟩
  | 84 => ⟨S8x1024, .i32⟩
  | 85 => ⟨S1x1024x256, .f32⟩
  | 86 => ⟨S1024x256, .f32⟩
  | 87 => ⟨S_, .i32⟩
  | 88 => ⟨S8x1024, .i32⟩
  | 89 => ⟨S8x1024, .i1⟩
  | 90 => ⟨S_, .i32⟩
  | 91 => ⟨S8x1024, .i32⟩
  | 92 => ⟨S8x1024, .i32⟩
  | 93 => ⟨S8x1024, .i32⟩
  | 94 => ⟨S8x1024x1, .i32⟩
  | 95 => ⟨S1, .i32⟩
  | 96 => ⟨S_, .i32⟩
  | 97 => ⟨S8x1024x1, .i32⟩
  | 98 => ⟨S8x1024x1, .i1⟩
  | 99 => ⟨S1x1x1, .i32⟩
  | 100 => ⟨S8x1024x1, .i32⟩
  | 101 => ⟨S8x1024x1, .i1⟩
  | 102 => ⟨S8x1024x1, .i1⟩
  | 103 => ⟨S_, .i1⟩
  | 104 => ⟨S8x1024, .i1⟩
  | 105 => ⟨S8x1024x256, .f32⟩
  | 106 => ⟨S8x1024x256, .i1⟩
  | 107 => ⟨S_, .f32⟩
  | 108 => ⟨S8x1024x256, .f32⟩
  | 109 => ⟨S8x1024x256, .f32⟩
  | 110 => ⟨S8x256x1024, .f32⟩
  | 111 => ⟨S8x256x1024, .f32⟩
  | 112 => ⟨S8x256x1024, .f32⟩
  | 113 => ⟨S_, .f32⟩
  | 114 => ⟨S8, .f32⟩
  | 115 => ⟨S_, .f32⟩
  | 116 => ⟨S8, .f32⟩
  | 117 => ⟨S8, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S8x256x1024, .f32⟩
  | 125 => ⟨S8x256x1024, .f32⟩
  | 126 => ⟨S_, .f32⟩
  | 127 => ⟨S8, .f32⟩
  | _ => ⟨S8x512x1024, .f32⟩

abbrev hbmTy0_1 (i : Nat) : BufTy := match i % 128 with
  | 0 => ⟨S_, .f32⟩
  | 1 => ⟨S8, .f32⟩
  | 2 => ⟨S8, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S8x256x1024, .f32⟩
  | 10 => ⟨S8x256x1024, .f32⟩
  | 11 => ⟨S1x512x256, .f32⟩
  | 12 => ⟨S512x256, .f32⟩
  | 13 => ⟨S1x512, .f32⟩
  | 14 => ⟨S512, .f32⟩
  | 15 => ⟨S512x256, .f32⟩
  | 16 => ⟨S_, .f32⟩
  | 17 => ⟨S512, .f32⟩
  | 18 => ⟨S512x1, .f32⟩
  | 19 => ⟨S512x1, .f32⟩
  | 20 => ⟨S512x1, .f32⟩
  | 21 => ⟨S_, .f32⟩
  | 22 => ⟨S512x1, .f32⟩
  | 23 => ⟨S512x1, .f32⟩
  | 24 => ⟨S512x1, .f32⟩
  | 25 => ⟨S512x256, .f32⟩
  | 26 => ⟨S512x256, .f32⟩
  | 27 => ⟨S8x1024x512, .f32⟩
  | 28 => ⟨S8x512x1024, .f32⟩
  | 29 => ⟨S1x512, .f32⟩
  | 30 => ⟨S512, .f32⟩
  | 31 => ⟨S1x512x1, .f32⟩
  | 32 => ⟨S8x512x1024, .f32⟩
  | 33 => ⟨S8x512x1024, .f32⟩
  | 34 => ⟨S8x512x1024, .f32⟩
  | 35 => ⟨S8x512x1024, .f32⟩
  | 36 => ⟨S1x256x512, .f32⟩
  | 37 => ⟨S256x512, .f32⟩
  | 38 => ⟨S1x256, .f32⟩
  | 39 => ⟨S256, .f32⟩
  | 40 => ⟨S256x512, .f32⟩
  | 41 => ⟨S_, .f32⟩
  | 42 => ⟨S256, .f32⟩
  | 43 => ⟨S256x1, .f32⟩
  | 44 => ⟨S256x1, .f32⟩
  | 45 => ⟨S256x1, .f32⟩
  | 46 => ⟨S_, .f32⟩
  | 47 => ⟨S256x1, .f32⟩
  | 48 => ⟨S256x1, .f32⟩
  | 49 => ⟨S256x1, .f32⟩
  | 50 => ⟨S256x512, .f32⟩
  | 51 => ⟨S256x512, .f32⟩
  | 52 => ⟨S8x1024x256, .f32⟩
  | 53 => ⟨S8x256x1024, .f32⟩
  | 54 => ⟨S1x256, .f32⟩
  | 55 => ⟨S256, .f32⟩
  | 56 => ⟨S1x256x1, .f32⟩
  | 57 => ⟨S8x256x1024, .f32⟩
  | 58 => ⟨S8x256x1024, .f32⟩
  | 59 => ⟨S8x1024x256, .f32⟩
  | 60 => ⟨S8192x256, .f32⟩
  | 61 => ⟨S8192x256, .f32⟩
  | 62 => ⟨S_, .f32⟩
  | 63 => ⟨S8192, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x256, .f32⟩
  | 70 => ⟨S8192x256, .f32⟩
  | 71 => ⟨S1x1024x256, .f32⟩
  | 72 => ⟨S1024x256, .f32⟩
  | 73 => ⟨S1024x256, .f32⟩
  | 74 => ⟨S_, .f32⟩
  | 75 => ⟨S1024, .f32⟩
  | 76 => ⟨S1024x1, .f32⟩
  | 77 => ⟨S1024x1, .f32⟩
  | 78 => ⟨S_, .f32⟩
  | 79 => ⟨S1024x1, .f32⟩
  | 80 => ⟨S1024x1, .f32⟩
  | 81 => ⟨S1024x256, .f32⟩
  | 82 => ⟨S1024x256, .f32⟩
  | 83 => ⟨S8192x256, .f32⟩
  | 84 => ⟨S_, .f32⟩
  | 85 => ⟨S8192, .f32⟩
  | 86 => ⟨S8192x1, .f32⟩
  | 87 => ⟨S256x1024, .f32⟩
  | 88 => ⟨S8192x1024, .f32⟩
  | 89 => ⟨S_, .f32⟩
  | 90 => ⟨S8192x1024, .f32⟩
  | 91 => ⟨S8192x1024, .f32⟩
  | 92 => ⟨S8192x1024, .f32⟩
  | 93 => ⟨S8192x1024, .f32⟩
  | 94 => ⟨S1024x256, .f32⟩
  | 95 => ⟨S_, .f32⟩
  | 96 => ⟨S1024, .f32⟩
  | 97 => ⟨S1x1024, .f32⟩
  | 98 => ⟨S8192x1024, .f32⟩
  | 99 => ⟨S8192x1024, .f32⟩
  | 100 => ⟨S8192x1024, .f32⟩
  | 101 => ⟨S_, .f32⟩
  | 102 => ⟨S8192x1024, .f32⟩
  | 103 => ⟨S8192x1024, .f32⟩
  | 104 => ⟨S8192x1024, .f32⟩
  | 105 => ⟨S8192x1024, .i32⟩
  | 106 => ⟨S_, .f32⟩
  | 107 => ⟨S_, .i32⟩
  | 108 => ⟨S8192, .f32⟩
  | 109 => ⟨S8192, .i32⟩
  | 110 => ⟨S8x1024, .i32⟩
  | 111 => ⟨S1x1024x256, .f32⟩
  | 112 => ⟨S1024x256, .f32⟩
  | 113 => ⟨S_, .i32⟩
  | 114 => ⟨S8x1024, .i32⟩
  | 115 => ⟨S8x1024, .i1⟩
  | 116 => ⟨S_, .i32⟩
  | 117 => ⟨S8x1024, .i32⟩
  | 118 => ⟨S8x1024, .i32⟩
  | 119 => ⟨S8x1024, .i32⟩
  | 120 => ⟨S8x1024x1, .i32⟩
  | 121 => ⟨S1, .i32⟩
  | 122 => ⟨S_, .i32⟩
  | 123 => ⟨S8x1024x1, .i32⟩
  | 124 => ⟨S8x1024x1, .i1⟩
  | 125 => ⟨S1x1x1, .i32⟩
  | 126 => ⟨S8x1024x1, .i32⟩
  | 127 => ⟨S8x1024x1, .i1⟩
  | _ => ⟨S8x512x1024, .f32⟩

abbrev hbmTy0_2 (i : Nat) : BufTy := match i % 128 with
  | 0 => ⟨S8x1024x1, .i1⟩
  | 1 => ⟨S_, .i1⟩
  | 2 => ⟨S8x1024, .i1⟩
  | 3 => ⟨S8x1024x256, .f32⟩
  | 4 => ⟨S8x1024x256, .i1⟩
  | 5 => ⟨S_, .f32⟩
  | 6 => ⟨S8x1024x256, .f32⟩
  | 7 => ⟨S8x1024x256, .f32⟩
  | 8 => ⟨S8x256x1024, .f32⟩
  | 9 => ⟨S8x256x1024, .f32⟩
  | 10 => ⟨S8x256x1024, .f32⟩
  | 11 => ⟨S_, .f32⟩
  | 12 => ⟨S8, .f32⟩
  | 13 => ⟨S_, .f32⟩
  | 14 => ⟨S8, .f32⟩
  | 15 => ⟨S8, .f32⟩
  | 16 => ⟨S_, .f32⟩
  | 17 => ⟨S_, .f32⟩
  | 18 => ⟨S_, .f32⟩
  | 19 => ⟨S_, .f32⟩
  | 20 => ⟨S_, .f32⟩
  | 21 => ⟨S8x256x1024, .f32⟩
  | 22 => ⟨S8x256x1024, .f32⟩
  | 23 => ⟨S_, .f32⟩
  | 24 => ⟨S8, .f32⟩
  | 25 => ⟨S_, .f32⟩
  | 26 => ⟨S8, .f32⟩
  | 27 => ⟨S8, .f32⟩
  | 28 => ⟨S_, .f32⟩
  | 29 => ⟨S_, .f32⟩
  | 30 => ⟨S_, .f32⟩
  | 31 => ⟨S_, .f32⟩
  | 32 => ⟨S_, .f32⟩
  | 33 => ⟨S8x256x1024, .f32⟩
  | 34 => ⟨S8x256x1024, .f32⟩
  | 35 => ⟨S1x512x256, .f32⟩
  | 36 => ⟨S512x256, .f32⟩
  | 37 => ⟨S1x512, .f32⟩
  | 38 => ⟨S512, .f32⟩
  | 39 => ⟨S512x256, .f32⟩
  | 40 => ⟨S_, .f32⟩
  | 41 => ⟨S512, .f32⟩
  | 42 => ⟨S512x1, .f32⟩
  | 43 => ⟨S512x1, .f32⟩
  | 44 => ⟨S512x1, .f32⟩
  | 45 => ⟨S_, .f32⟩
  | 46 => ⟨S512x1, .f32⟩
  | 47 => ⟨S512x1, .f32⟩
  | 48 => ⟨S512x1, .f32⟩
  | 49 => ⟨S512x256, .f32⟩
  | 50 => ⟨S512x256, .f32⟩
  | 51 => ⟨S8x1024x512, .f32⟩
  | 52 => ⟨S8x512x1024, .f32⟩
  | 53 => ⟨S1x512, .f32⟩
  | 54 => ⟨S512, .f32⟩
  | 55 => ⟨S1x512x1, .f32⟩
  | 56 => ⟨S8x512x1024, .f32⟩
  | 57 => ⟨S8x512x1024, .f32⟩
  | 58 => ⟨S8x512x1024, .f32⟩
  | 59 => ⟨S8x512x1024, .f32⟩
  | 60 => ⟨S1x256x512, .f32⟩
  | 61 => ⟨S256x512, .f32⟩
  | 62 => ⟨S1x256, .f32⟩
  | 63 => ⟨S256, .f32⟩
  | 64 => ⟨S256x512, .f32⟩
  | 65 => ⟨S_, .f32⟩
  | 66 => ⟨S256, .f32⟩
  | 67 => ⟨S256x1, .f32⟩
  | 68 => ⟨S256x1, .f32⟩
  | 69 => ⟨S256x1, .f32⟩
  | 70 => ⟨S_, .f32⟩
  | 71 => ⟨S256x1, .f32⟩
  | 72 => ⟨S256x1, .f32⟩
  | 73 => ⟨S256x1, .f32⟩
  | 74 => ⟨S256x512, .f32⟩
  | 75 => ⟨S256x512, .f32⟩
  | 76 => ⟨S8x1024x256, .f32⟩
  | 77 => ⟨S8x256x1024, .f32⟩
  | 78 => ⟨S1x256, .f32⟩
  | 79 => ⟨S256, .f32⟩
  | 80 => ⟨S1x256x1, .f32⟩
  | 81 => ⟨S8x256x1024, .f32⟩
  | 82 => ⟨S8x256x1024, .f32⟩
  | 83 => ⟨S8x1024x256, .f32⟩
  | 84 => ⟨S8192x256, .f32⟩
  | 85 => ⟨S8192x256, .f32⟩
  | 86 => ⟨S_, .f32⟩
  | 87 => ⟨S8192, .f32⟩
  | 88 => ⟨S8192x1, .f32⟩
  | 89 => ⟨S8192x1, .f32⟩
  | 90 => ⟨S_, .f32⟩
  | 91 => ⟨S8192x1, .f32⟩
  | 92 => ⟨S8192x1, .f32⟩
  | 93 => ⟨S8192x256, .f32⟩
  | 94 => ⟨S8192x256, .f32⟩
  | 95 => ⟨S1x1024x256, .f32⟩
  | 96 => ⟨S1024x256, .f32⟩
  | 97 => ⟨S1024x256, .f32⟩
  | 98 => ⟨S_, .f32⟩
  | 99 => ⟨S1024, .f32⟩
  | 100 => ⟨S1024x1, .f32⟩
  | 101 => ⟨S1024x1, .f32⟩
  | 102 => ⟨S_, .f32⟩
  | 103 => ⟨S1024x1, .f32⟩
  | 104 => ⟨S1024x1, .f32⟩
  | 105 => ⟨S1024x256, .f32⟩
  | 106 => ⟨S1024x256, .f32⟩
  | 107 => ⟨S8192x256, .f32⟩
  | 108 => ⟨S_, .f32⟩
  | 109 => ⟨S8192, .f32⟩
  | 110 => ⟨S8192x1, .f32⟩
  | 111 => ⟨S256x1024, .f32⟩
  | 112 => ⟨S8192x1024, .f32⟩
  | 113 => ⟨S_, .f32⟩
  | 114 => ⟨S8192x1024, .f32⟩
  | 115 => ⟨S8192x1024, .f32⟩
  | 116 => ⟨S8192x1024, .f32⟩
  | 117 => ⟨S8192x1024, .f32⟩
  | 118 => ⟨S1024x256, .f32⟩
  | 119 => ⟨S_, .f32⟩
  | 120 => ⟨S1024, .f32⟩
  | 121 => ⟨S1x1024, .f32⟩
  | 122 => ⟨S8192x1024, .f32⟩
  | 123 => ⟨S8192x1024, .f32⟩
  | 124 => ⟨S8192x1024, .f32⟩
  | 125 => ⟨S_, .f32⟩
  | 126 => ⟨S8192x1024, .f32⟩
  | 127 => ⟨S8192x1024, .f32⟩
  | _ => ⟨S8x512x1024, .f32⟩

abbrev hbmTy0_3 (i : Nat) : BufTy := match i % 128 with
  | 0 => ⟨S8192x1024, .f32⟩
  | 1 => ⟨S8192x1024, .i32⟩
  | 2 => ⟨S_, .f32⟩
  | 3 => ⟨S_, .i32⟩
  | 4 => ⟨S8192, .f32⟩
  | 5 => ⟨S8192, .i32⟩
  | 6 => ⟨S8x1024, .i32⟩
  | 7 => ⟨S1x1024x256, .f32⟩
  | 8 => ⟨S1024x256, .f32⟩
  | 9 => ⟨S_, .i32⟩
  | 10 => ⟨S8x1024, .i32⟩
  | 11 => ⟨S8x1024, .i1⟩
  | 12 => ⟨S_, .i32⟩
  | 13 => ⟨S8x1024, .i32⟩
  | 14 => ⟨S8x1024, .i32⟩
  | 15 => ⟨S8x1024, .i32⟩
  | 16 => ⟨S8x1024x1, .i32⟩
  | 17 => ⟨S1, .i32⟩
  | 18 => ⟨S_, .i32⟩
  | 19 => ⟨S8x1024x1, .i32⟩
  | 20 => ⟨S8x1024x1, .i1⟩
  | 21 => ⟨S1x1x1, .i32⟩
  | 22 => ⟨S8x1024x1, .i32⟩
  | 23 => ⟨S8x1024x1, .i1⟩
  | 24 => ⟨S8x1024x1, .i1⟩
  | 25 => ⟨S_, .i1⟩
  | 26 => ⟨S8x1024, .i1⟩
  | 27 => ⟨S8x1024x256, .f32⟩
  | 28 => ⟨S8x1024x256, .i1⟩
  | 29 => ⟨S_, .f32⟩
  | 30 => ⟨S8x1024x256, .f32⟩
  | 31 => ⟨S8x1024x256, .f32⟩
  | 32 => ⟨S8x256x1024, .f32⟩
  | 33 => ⟨S8x256x1024, .f32⟩
  | 34 => ⟨S8x256x1024, .f32⟩
  | 35 => ⟨S_, .f32⟩
  | 36 => ⟨S8, .f32⟩
  | 37 => ⟨S_, .f32⟩
  | 38 => ⟨S8, .f32⟩
  | 39 => ⟨S8, .f32⟩
  | 40 => ⟨S_, .f32⟩
  | 41 => ⟨S_, .f32⟩
  | 42 => ⟨S_, .f32⟩
  | 43 => ⟨S_, .f32⟩
  | 44 => ⟨S_, .f32⟩
  | 45 => ⟨S8x256x1024, .f32⟩
  | 46 => ⟨S8x256x1024, .f32⟩
  | 47 => ⟨S_, .f32⟩
  | 48 => ⟨S8, .f32⟩
  | 49 => ⟨S_, .f32⟩
  | 50 => ⟨S8, .f32⟩
  | 51 => ⟨S8, .f32⟩
  | 52 => ⟨S_, .f32⟩
  | 53 => ⟨S_, .f32⟩
  | 54 => ⟨S_, .f32⟩
  | 55 => ⟨S_, .f32⟩
  | 56 => ⟨S_, .f32⟩
  | 57 => ⟨S8x256x1024, .f32⟩
  | 58 => ⟨S8x256x1024, .f32⟩
  | 59 => ⟨S1x512x256, .f32⟩
  | 60 => ⟨S512x256, .f32⟩
  | 61 => ⟨S1x512, .f32⟩
  | 62 => ⟨S512, .f32⟩
  | 63 => ⟨S512x256, .f32⟩
  | 64 => ⟨S_, .f32⟩
  | 65 => ⟨S512, .f32⟩
  | 66 => ⟨S512x1, .f32⟩
  | 67 => ⟨S512x1, .f32⟩
  | 68 => ⟨S512x1, .f32⟩
  | 69 => ⟨S_, .f32⟩
  | 70 => ⟨S512x1, .f32⟩
  | 71 => ⟨S512x1, .f32⟩
  | 72 => ⟨S512x1, .f32⟩
  | 73 => ⟨S512x256, .f32⟩
  | 74 => ⟨S512x256, .f32⟩
  | 75 => ⟨S8x1024x512, .f32⟩
  | 76 => ⟨S8x512x1024, .f32⟩
  | 77 => ⟨S1x512, .f32⟩
  | 78 => ⟨S512, .f32⟩
  | 79 => ⟨S1x512x1, .f32⟩
  | 80 => ⟨S8x512x1024, .f32⟩
  | 81 => ⟨S8x512x1024, .f32⟩
  | 82 => ⟨S8x512x1024, .f32⟩
  | 83 => ⟨S8x512x1024, .f32⟩
  | 84 => ⟨S1x256x512, .f32⟩
  | 85 => ⟨S256x512, .f32⟩
  | 86 => ⟨S1x256, .f32⟩
  | 87 => ⟨S256, .f32⟩
  | 88 => ⟨S256x512, .f32⟩
  | 89 => ⟨S_, .f32⟩
  | 90 => ⟨S256, .f32⟩
  | 91 => ⟨S256x1, .f32⟩
  | 92 => ⟨S256x1, .f32⟩
  | 93 => ⟨S256x1, .f32⟩
  | 94 => ⟨S_, .f32⟩
  | 95 => ⟨S256x1, .f32⟩
  | 96 => ⟨S256x1, .f32⟩
  | 97 => ⟨S256x1, .f32⟩
  | 98 => ⟨S256x512, .f32⟩
  | 99 => ⟨S256x512, .f32⟩
  | 100 => ⟨S8x1024x256, .f32⟩
  | 101 => ⟨S8x256x1024, .f32⟩
  | 102 => ⟨S1x256, .f32⟩
  | 103 => ⟨S256, .f32⟩
  | 104 => ⟨S1x256x1, .f32⟩
  | 105 => ⟨S8x256x1024, .f32⟩
  | 106 => ⟨S8x256x1024, .f32⟩
  | 107 => ⟨S8x1024x256, .f32⟩
  | 108 => ⟨S8192x256, .f32⟩
  | 109 => ⟨S8192x256, .f32⟩
  | 110 => ⟨S_, .f32⟩
  | 111 => ⟨S8192, .f32⟩
  | 112 => ⟨S8192x1, .f32⟩
  | 113 => ⟨S8192x1, .f32⟩
  | 114 => ⟨S_, .f32⟩
  | 115 => ⟨S8192x1, .f32⟩
  | 116 => ⟨S8192x1, .f32⟩
  | 117 => ⟨S8192x256, .f32⟩
  | 118 => ⟨S8192x256, .f32⟩
  | 119 => ⟨S1x1024x256, .f32⟩
  | 120 => ⟨S1024x256, .f32⟩
  | 121 => ⟨S1024x256, .f32⟩
  | 122 => ⟨S_, .f32⟩
  | 123 => ⟨S1024, .f32⟩
  | 124 => ⟨S1024x1, .f32⟩
  | 125 => ⟨S1024x1, .f32⟩
  | 126 => ⟨S_, .f32⟩
  | 127 => ⟨S1024x1, .f32⟩
  | _ => ⟨S8x512x1024, .f32⟩

abbrev hbmTy0_4 (i : Nat) : BufTy := match i % 128 with
  | 0 => ⟨S1024x1, .f32⟩
  | 1 => ⟨S1024x256, .f32⟩
  | 2 => ⟨S1024x256, .f32⟩
  | 3 => ⟨S8192x256, .f32⟩
  | 4 => ⟨S_, .f32⟩
  | 5 => ⟨S8192, .f32⟩
  | 6 => ⟨S8192x1, .f32⟩
  | 7 => ⟨S256x1024, .f32⟩
  | 8 => ⟨S8192x1024, .f32⟩
  | 9 => ⟨S_, .f32⟩
  | 10 => ⟨S8192x1024, .f32⟩
  | 11 => ⟨S8192x1024, .f32⟩
  | 12 => ⟨S8192x1024, .f32⟩
  | 13 => ⟨S8192x1024, .f32⟩
  | 14 => ⟨S1024x256, .f32⟩
  | 15 => ⟨S_, .f32⟩
  | 16 => ⟨S1024, .f32⟩
  | 17 => ⟨S1x1024, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S8192x1024, .f32⟩
  | 25 => ⟨S8192x1024, .i32⟩
  | 26 => ⟨S_, .f32⟩
  | 27 => ⟨S_, .i32⟩
  | 28 => ⟨S8192, .f32⟩
  | 29 => ⟨S8192, .i32⟩
  | 30 => ⟨S8x1024, .i32⟩
  | 31 => ⟨S1x1024x256, .f32⟩
  | 32 => ⟨S1024x256, .f32⟩
  | 33 => ⟨S_, .i32⟩
  | 34 => ⟨S8x1024, .i32⟩
  | 35 => ⟨S8x1024, .i1⟩
  | 36 => ⟨S_, .i32⟩
  | 37 => ⟨S8x1024, .i32⟩
  | 38 => ⟨S8x1024, .i32⟩
  | 39 => ⟨S8x1024, .i32⟩
  | 40 => ⟨S8x1024x1, .i32⟩
  | 41 => ⟨S1, .i32⟩
  | 42 => ⟨S_, .i32⟩
  | 43 => ⟨S8x1024x1, .i32⟩
  | 44 => ⟨S8x1024x1, .i1⟩
  | 45 => ⟨S1x1x1, .i32⟩
  | 46 => ⟨S8x1024x1, .i32⟩
  | 47 => ⟨S8x1024x1, .i1⟩
  | 48 => ⟨S8x1024x1, .i1⟩
  | 49 => ⟨S_, .i1⟩
  | 50 => ⟨S8x1024, .i1⟩
  | 51 => ⟨S8x1024x256, .f32⟩
  | 52 => ⟨S8x1024x256, .i1⟩
  | 53 => ⟨S_, .f32⟩
  | 54 => ⟨S8x1024x256, .f32⟩
  | 55 => ⟨S8x1024x256, .f32⟩
  | 56 => ⟨S8x256x1024, .f32⟩
  | 57 => ⟨S8x256x1024, .f32⟩
  | 58 => ⟨S8x256x1024, .f32⟩
  | 59 => ⟨S_, .f32⟩
  | 60 => ⟨S8, .f32⟩
  | 61 => ⟨S_, .f32⟩
  | 62 => ⟨S8, .f32⟩
  | 63 => ⟨S8, .f32⟩
  | 64 => ⟨S_, .f32⟩
  | 65 => ⟨S_, .f32⟩
  | 66 => ⟨S_, .f32⟩
  | 67 => ⟨S_, .f32⟩
  | 68 => ⟨S_, .f32⟩
  | 69 => ⟨S8x256x1024, .f32⟩
  | 70 => ⟨S8x256x1024, .f32⟩
  | 71 => ⟨S_, .f32⟩
  | 72 => ⟨S8, .f32⟩
  | 73 => ⟨S_, .f32⟩
  | 74 => ⟨S8, .f32⟩
  | 75 => ⟨S8, .f32⟩
  | 76 => ⟨S_, .f32⟩
  | 77 => ⟨S_, .f32⟩
  | 78 => ⟨S_, .f32⟩
  | 79 => ⟨S_, .f32⟩
  | 80 => ⟨S_, .f32⟩
  | 81 => ⟨S8x256x1024, .f32⟩
  | 82 => ⟨S8x256x1024, .f32⟩
  | 83 => ⟨S1x512x256, .f32⟩
  | 84 => ⟨S512x256, .f32⟩
  | 85 => ⟨S1x512, .f32⟩
  | 86 => ⟨S512, .f32⟩
  | 87 => ⟨S512x256, .f32⟩
  | 88 => ⟨S_, .f32⟩
  | 89 => ⟨S512, .f32⟩
  | 90 => ⟨S512x1, .f32⟩
  | 91 => ⟨S512x1, .f32⟩
  | 92 => ⟨S512x1, .f32⟩
  | 93 => ⟨S_, .f32⟩
  | 94 => ⟨S512x1, .f32⟩
  | 95 => ⟨S512x1, .f32⟩
  | 96 => ⟨S512x1, .f32⟩
  | 97 => ⟨S512x256, .f32⟩
  | 98 => ⟨S512x256, .f32⟩
  | 99 => ⟨S8x1024x512, .f32⟩
  | 100 => ⟨S8x512x1024, .f32⟩
  | 101 => ⟨S1x512, .f32⟩
  | 102 => ⟨S512, .f32⟩
  | 103 => ⟨S1x512x1, .f32⟩
  | 104 => ⟨S8x512x1024, .f32⟩
  | 105 => ⟨S8x512x1024, .f32⟩
  | 106 => ⟨S8x512x1024, .f32⟩
  | 107 => ⟨S8x512x1024, .f32⟩
  | 108 => ⟨S8x1x1024, .i32⟩
  | 109 => ⟨S8x1x1024, .i32⟩
  | 110 => ⟨S8x1x1024, .i32⟩
  | 111 => ⟨S8x1x1024, .i32⟩
  | 112 => ⟨S8x4x1024, .i32⟩
  | 113 => ⟨S8192x1x1024, .f32⟩
  | 114 => ⟨S8192x1x1024, .f32⟩
  | 115 => ⟨S8192x1x1024, .f32⟩
  | 116 => ⟨S8192x1x1024, .f32⟩
  | 117 => ⟨S8192x4x1024, .f32⟩
  | _ => ⟨S8x512x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x512x1024, .f32⟩

abbrev bufTy : (tb : Table) → Fin (tcTables nBuf tb) → BufTy
  | .hbm, ⟨i, _⟩ => hbmTy i
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_call0_v2 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_v0 : Ref sig .tc := ⟨.hbm, 47, rfl⟩
abbrev main_call1_cst : Ref sig .tc := ⟨.hbm, 48, rfl⟩
abbrev main_call1_v1 : Ref sig .tc := ⟨.hbm, 49, rfl⟩
abbrev main_call1_v2 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call2_v0 : Ref sig .tc := ⟨.hbm, 79, rfl⟩
abbrev main_call2_cst : Ref sig .tc := ⟨.hbm, 80, rfl⟩
abbrev main_call2_c : Ref sig .tc := ⟨.hbm, 81, rfl⟩
abbrev main_call2_v1_0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_8 : Ref sig .tc := ⟨.hbm, 113, rfl⟩
abbrev main_v62 : Ref sig .tc := ⟨.hbm, 114, rfl⟩
abbrev main_cst_9 : Ref sig .tc := ⟨.hbm, 115, rfl⟩
abbrev main_v63 : Ref sig .tc := ⟨.hbm, 116, rfl⟩
abbrev main_v64 : Ref sig .tc := ⟨.hbm, 117, rfl⟩
abbrev main_cst_10 : Ref sig .tc := ⟨.hbm, 118, rfl⟩
abbrev main_v65 : Ref sig .tc := ⟨.hbm, 119, rfl⟩
abbrev main_cst_11 : Ref sig .tc := ⟨.hbm, 120, rfl⟩
abbrev main_v66 : Ref sig .tc := ⟨.hbm, 121, rfl⟩
abbrev main_cst_12 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_13 : Ref sig .tc := ⟨.hbm, 126, rfl⟩
abbrev main_v70 : Ref sig .tc := ⟨.hbm, 127, rfl⟩
abbrev main_cst_14 : Ref sig .tc := ⟨.hbm, 128, rfl⟩
abbrev main_v71 : Ref sig .tc := ⟨.hbm, 129, rfl⟩
abbrev main_v72 : Ref sig .tc := ⟨.hbm, 130, rfl⟩
abbrev main_cst_15 : Ref sig .tc := ⟨.hbm, 131, rfl⟩
abbrev main_v73 : Ref sig .tc := ⟨.hbm, 132, rfl⟩
abbrev main_cst_16 : Ref sig .tc := ⟨.hbm, 133, rfl⟩
abbrev main_v74 : Ref sig .tc := ⟨.hbm, 134, rfl⟩
abbrev main_cst_17 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_cst_18 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_cst_19 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_cst_20 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_cst_21 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_call4_v0 : Ref sig .tc := ⟨.hbm, 189, rfl⟩
abbrev main_call4_cst : Ref sig .tc := ⟨.hbm, 190, rfl⟩
abbrev main_call4_v1 : Ref sig .tc := ⟨.hbm, 191, rfl⟩
abbrev main_call4_v2 : Ref sig .tc := ⟨.hbm, 192, rfl⟩
abbrev main_v124 : Ref sig .tc := ⟨.hbm, 193, rfl⟩
abbrev main_cst_22 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_call5_v0 : Ref sig .tc := ⟨.hbm, 201, rfl⟩
abbrev main_call5_cst : Ref sig .tc := ⟨.hbm, 202, rfl⟩
abbrev main_call5_v1 : Ref sig .tc := ⟨.hbm, 203, rfl⟩
abbrev main_call5_v2 : Ref sig .tc := ⟨.hbm, 204, rfl⟩
abbrev main_v131 : Ref sig .tc := ⟨.hbm, 205, rfl⟩
abbrev main_cst_23 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_cst_24 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_cst_25 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_cst_26 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_cst_27 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_call6_v0 : Ref sig .tc := ⟨.hbm, 233, rfl⟩
abbrev main_call6_cst : Ref sig .tc := ⟨.hbm, 234, rfl⟩
abbrev main_call6_c : Ref sig .tc := ⟨.hbm, 235, rfl⟩
abbrev main_call6_v1_0 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_call7_c : Ref sig .tc := ⟨.hbm, 241, rfl⟩
abbrev main_call7_v0 : Ref sig .tc := ⟨.hbm, 242, rfl⟩
abbrev main_call7_v1 : Ref sig .tc := ⟨.hbm, 243, rfl⟩
abbrev main_call7_c_0 : Ref sig .tc := ⟨.hbm, 244, rfl⟩
abbrev main_call7_v2 : Ref sig .tc := ⟨.hbm, 245, rfl⟩
abbrev main_call7_v3 : Ref sig .tc := ⟨.hbm, 246, rfl⟩
abbrev main_call7_v4 : Ref sig .tc := ⟨.hbm, 247, rfl⟩
abbrev main_call7_v5 : Ref sig .tc := ⟨.hbm, 248, rfl⟩
abbrev main_call7_c_1 : Ref sig .tc := ⟨.hbm, 249, rfl⟩
abbrev main_call7_c_2 : Ref sig .tc := ⟨.hbm, 250, rfl⟩
abbrev main_call7_v6 : Ref sig .tc := ⟨.hbm, 251, rfl⟩
abbrev main_call7_v7 : Ref sig .tc := ⟨.hbm, 252, rfl⟩
abbrev main_call7_v8 : Ref sig .tc := ⟨.hbm, 253, rfl⟩
abbrev main_call7_v9 : Ref sig .tc := ⟨.hbm, 254, rfl⟩
abbrev main_call7_v10 : Ref sig .tc := ⟨.hbm, 255, rfl⟩
abbrev main_call7_v11 : Ref sig .tc := ⟨.hbm, 256, rfl⟩
abbrev main_call7_c_3 : Ref sig .tc := ⟨.hbm, 257, rfl⟩
abbrev main_call7_v12 : Ref sig .tc := ⟨.hbm, 258, rfl⟩
abbrev main_call7_v13 : Ref sig .tc := ⟨.hbm, 259, rfl⟩
abbrev main_call7_v14 : Ref sig .tc := ⟨.hbm, 260, rfl⟩
abbrev main_call7_cst : Ref sig .tc := ⟨.hbm, 261, rfl⟩
abbrev main_call7_v15 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_cst_28 : Ref sig .tc := ⟨.hbm, 267, rfl⟩
abbrev main_v162 : Ref sig .tc := ⟨.hbm, 268, rfl⟩
abbrev main_cst_29 : Ref sig .tc := ⟨.hbm, 269, rfl⟩
abbrev main_v163 : Ref sig .tc := ⟨.hbm, 270, rfl⟩
abbrev main_v164 : Ref sig .tc := ⟨.hbm, 271, rfl⟩
abbrev main_cst_30 : Ref sig .tc := ⟨.hbm, 272, rfl⟩
abbrev main_v165 : Ref sig .tc := ⟨.hbm, 273, rfl⟩
abbrev main_cst_31 : Ref sig .tc := ⟨.hbm, 274, rfl⟩
abbrev main_v166 : Ref sig .tc := ⟨.hbm, 275, rfl⟩
abbrev main_v167 : Ref sig .tc := ⟨.hbm, 276, rfl⟩
abbrev main_v168 : Ref sig .tc := ⟨.hbm, 277, rfl⟩
abbrev main_v169 : Ref sig .tc := ⟨.hbm, 278, rfl⟩
abbrev main_cst_32 : Ref sig .tc := ⟨.hbm, 279, rfl⟩
abbrev main_v170 : Ref sig .tc := ⟨.hbm, 280, rfl⟩
abbrev main_cst_33 : Ref sig .tc := ⟨.hbm, 281, rfl⟩
abbrev main_v171 : Ref sig .tc := ⟨.hbm, 282, rfl⟩
abbrev main_v172 : Ref sig .tc := ⟨.hbm, 283, rfl⟩
abbrev main_cst_34 : Ref sig .tc := ⟨.hbm, 284, rfl⟩
abbrev main_v173 : Ref sig .tc := ⟨.hbm, 285, rfl⟩
abbrev main_cst_35 : Ref sig .tc := ⟨.hbm, 286, rfl⟩
abbrev main_v174 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_cst_36 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_37 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_v193 : Ref sig .tc := ⟨.hbm, 308, rfl⟩
abbrev main_v194 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_v200 : Ref sig .tc := ⟨.hbm, 315, rfl⟩
abbrev main_v201 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_cst_38 : Ref sig .tc := ⟨.hbm, 321, rfl⟩
abbrev main_v206 : Ref sig .tc := ⟨.hbm, 322, rfl⟩
abbrev main_v207 : Ref sig .tc := ⟨.hbm, 323, rfl⟩
abbrev main_v208 : Ref sig .tc := ⟨.hbm, 324, rfl⟩
abbrev main_v209 : Ref sig .tc := ⟨.hbm, 325, rfl⟩
abbrev main_cst_39 : Ref sig .tc := ⟨.hbm, 326, rfl⟩
abbrev main_v210 : Ref sig .tc := ⟨.hbm, 327, rfl⟩
abbrev main_v211 : Ref sig .tc := ⟨.hbm, 328, rfl⟩
abbrev main_v212 : Ref sig .tc := ⟨.hbm, 329, rfl⟩
abbrev main_v213 : Ref sig .tc := ⟨.hbm, 330, rfl⟩
abbrev main_v214 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_call8_v0 : Ref sig .tc := ⟨.hbm, 341, rfl⟩
abbrev main_call8_cst : Ref sig .tc := ⟨.hbm, 342, rfl⟩
abbrev main_call8_v1 : Ref sig .tc := ⟨.hbm, 343, rfl⟩
abbrev main_call8_v2 : Ref sig .tc := ⟨.hbm, 344, rfl⟩
abbrev main_v224 : Ref sig .tc := ⟨.hbm, 345, rfl⟩
abbrev main_cst_40 : Ref sig .tc := ⟨.hbm, 346, rfl⟩
abbrev main_v225 : Ref sig .tc := ⟨.hbm, 347, rfl⟩
abbrev main_v226 : Ref sig .tc := ⟨.hbm, 348, rfl⟩
abbrev main_v227 : Ref sig .tc := ⟨.hbm, 349, rfl⟩
abbrev main_v228 : Ref sig .tc := ⟨.hbm, 350, rfl⟩
abbrev main_v229 : Ref sig .tc := ⟨.hbm, 351, rfl⟩
abbrev main_v230 : Ref sig .tc := ⟨.hbm, 352, rfl⟩
abbrev main_call9_v0 : Ref sig .tc := ⟨.hbm, 353, rfl⟩
abbrev main_call9_cst : Ref sig .tc := ⟨.hbm, 354, rfl⟩
abbrev main_call9_v1 : Ref sig .tc := ⟨.hbm, 355, rfl⟩
abbrev main_call9_v2 : Ref sig .tc := ⟨.hbm, 356, rfl⟩
abbrev main_v231 : Ref sig .tc := ⟨.hbm, 357, rfl⟩
abbrev main_cst_41 : Ref sig .tc := ⟨.hbm, 358, rfl⟩
abbrev main_v232 : Ref sig .tc := ⟨.hbm, 359, rfl⟩
abbrev main_v233 : Ref sig .tc := ⟨.hbm, 360, rfl⟩
abbrev main_v234 : Ref sig .tc := ⟨.hbm, 361, rfl⟩
abbrev main_v235 : Ref sig .tc := ⟨.hbm, 362, rfl⟩
abbrev main_v236 : Ref sig .tc := ⟨.hbm, 363, rfl⟩
abbrev main_cst_42 : Ref sig .tc := ⟨.hbm, 364, rfl⟩
abbrev main_v237 : Ref sig .tc := ⟨.hbm, 365, rfl⟩
abbrev main_v238 : Ref sig .tc := ⟨.hbm, 366, rfl⟩
abbrev main_v239 : Ref sig .tc := ⟨.hbm, 367, rfl⟩
abbrev main_v240 : Ref sig .tc := ⟨.hbm, 368, rfl⟩
abbrev main_cst_43 : Ref sig .tc := ⟨.hbm, 369, rfl⟩
abbrev main_v241 : Ref sig .tc := ⟨.hbm, 370, rfl⟩
abbrev main_v242 : Ref sig .tc := ⟨.hbm, 371, rfl⟩
abbrev main_v243 : Ref sig .tc := ⟨.hbm, 372, rfl⟩
abbrev main_v244 : Ref sig .tc := ⟨.hbm, 373, rfl⟩
abbrev main_v245 : Ref sig .tc := ⟨.hbm, 374, rfl⟩
abbrev main_cst_44 : Ref sig .tc := ⟨.hbm, 375, rfl⟩
abbrev main_v246 : Ref sig .tc := ⟨.hbm, 376, rfl⟩
abbrev main_v247 : Ref sig .tc := ⟨.hbm, 377, rfl⟩
abbrev main_v248 : Ref sig .tc := ⟨.hbm, 378, rfl⟩
abbrev main_v249 : Ref sig .tc := ⟨.hbm, 379, rfl⟩
abbrev main_v250 : Ref sig .tc := ⟨.hbm, 380, rfl⟩
abbrev main_cst_45 : Ref sig .tc := ⟨.hbm, 381, rfl⟩
abbrev main_v251 : Ref sig .tc := ⟨.hbm, 382, rfl⟩
abbrev main_v252 : Ref sig .tc := ⟨.hbm, 383, rfl⟩
abbrev main_v253 : Ref sig .tc := ⟨.hbm, 384, rfl⟩
abbrev main_call10_v0 : Ref sig .tc := ⟨.hbm, 385, rfl⟩
abbrev main_call10_cst : Ref sig .tc := ⟨.hbm, 386, rfl⟩
abbrev main_call10_c : Ref sig .tc := ⟨.hbm, 387, rfl⟩
abbrev main_call10_v1_0 : Ref sig .tc := ⟨.hbm, 388, rfl⟩
abbrev main_v254 : Ref sig .tc := ⟨.hbm, 389, rfl⟩
abbrev main_v255 : Ref sig .tc := ⟨.hbm, 390, rfl⟩
abbrev main_v256 : Ref sig .tc := ⟨.hbm, 391, rfl⟩
abbrev main_v257 : Ref sig .tc := ⟨.hbm, 392, rfl⟩
abbrev main_call11_c : Ref sig .tc := ⟨.hbm, 393, rfl⟩
abbrev main_call11_v0 : Ref sig .tc := ⟨.hbm, 394, rfl⟩
abbrev main_call11_v1 : Ref sig .tc := ⟨.hbm, 395, rfl⟩
abbrev main_call11_c_0 : Ref sig .tc := ⟨.hbm, 396, rfl⟩
abbrev main_call11_v2 : Ref sig .tc := ⟨.hbm, 397, rfl⟩
abbrev main_call11_v3 : Ref sig .tc := ⟨.hbm, 398, rfl⟩
abbrev main_call11_v4 : Ref sig .tc := ⟨.hbm, 399, rfl⟩
abbrev main_call11_v5 : Ref sig .tc := ⟨.hbm, 400, rfl⟩
abbrev main_call11_c_1 : Ref sig .tc := ⟨.hbm, 401, rfl⟩
abbrev main_call11_c_2 : Ref sig .tc := ⟨.hbm, 402, rfl⟩
abbrev main_call11_v6 : Ref sig .tc := ⟨.hbm, 403, rfl⟩
abbrev main_call11_v7 : Ref sig .tc := ⟨.hbm, 404, rfl⟩
abbrev main_call11_v8 : Ref sig .tc := ⟨.hbm, 405, rfl⟩
abbrev main_call11_v9 : Ref sig .tc := ⟨.hbm, 406, rfl⟩
abbrev main_call11_v10 : Ref sig .tc := ⟨.hbm, 407, rfl⟩
abbrev main_call11_v11 : Ref sig .tc := ⟨.hbm, 408, rfl⟩
abbrev main_call11_c_3 : Ref sig .tc := ⟨.hbm, 409, rfl⟩
abbrev main_call11_v12 : Ref sig .tc := ⟨.hbm, 410, rfl⟩
abbrev main_call11_v13 : Ref sig .tc := ⟨.hbm, 411, rfl⟩
abbrev main_call11_v14 : Ref sig .tc := ⟨.hbm, 412, rfl⟩
abbrev main_call11_cst : Ref sig .tc := ⟨.hbm, 413, rfl⟩
abbrev main_call11_v15 : Ref sig .tc := ⟨.hbm, 414, rfl⟩
abbrev main_v258 : Ref sig .tc := ⟨.hbm, 415, rfl⟩
abbrev main_v259 : Ref sig .tc := ⟨.hbm, 416, rfl⟩
abbrev main_v260 : Ref sig .tc := ⟨.hbm, 417, rfl⟩
abbrev main_v261 : Ref sig .tc := ⟨.hbm, 418, rfl⟩
abbrev main_cst_46 : Ref sig .tc := ⟨.hbm, 419, rfl⟩
abbrev main_v262 : Ref sig .tc := ⟨.hbm, 420, rfl⟩
abbrev main_cst_47 : Ref sig .tc := ⟨.hbm, 421, rfl⟩
abbrev main_v263 : Ref sig .tc := ⟨.hbm, 422, rfl⟩
abbrev main_v264 : Ref sig .tc := ⟨.hbm, 423, rfl⟩
abbrev main_cst_48 : Ref sig .tc := ⟨.hbm, 424, rfl⟩
abbrev main_v265 : Ref sig .tc := ⟨.hbm, 425, rfl⟩
abbrev main_cst_49 : Ref sig .tc := ⟨.hbm, 426, rfl⟩
abbrev main_v266 : Ref sig .tc := ⟨.hbm, 427, rfl⟩
abbrev main_v267 : Ref sig .tc := ⟨.hbm, 428, rfl⟩
abbrev main_v268 : Ref sig .tc := ⟨.hbm, 429, rfl⟩
abbrev main_v269 : Ref sig .tc := ⟨.hbm, 430, rfl⟩
abbrev main_cst_50 : Ref sig .tc := ⟨.hbm, 431, rfl⟩
abbrev main_v270 : Ref sig .tc := ⟨.hbm, 432, rfl⟩
abbrev main_cst_51 : Ref sig .tc := ⟨.hbm, 433, rfl⟩
abbrev main_v271 : Ref sig .tc := ⟨.hbm, 434, rfl⟩
abbrev main_v272 : Ref sig .tc := ⟨.hbm, 435, rfl⟩
abbrev main_cst_52 : Ref sig .tc := ⟨.hbm, 436, rfl⟩
abbrev main_v273 : Ref sig .tc := ⟨.hbm, 437, rfl⟩
abbrev main_cst_53 : Ref sig .tc := ⟨.hbm, 438, rfl⟩
abbrev main_v274 : Ref sig .tc := ⟨.hbm, 439, rfl⟩
abbrev main_v275 : Ref sig .tc := ⟨.hbm, 440, rfl⟩
abbrev main_v276 : Ref sig .tc := ⟨.hbm, 441, rfl⟩
abbrev main_v277 : Ref sig .tc := ⟨.hbm, 442, rfl⟩
abbrev main_v278 : Ref sig .tc := ⟨.hbm, 443, rfl⟩
abbrev main_v279 : Ref sig .tc := ⟨.hbm, 444, rfl⟩
abbrev main_v280 : Ref sig .tc := ⟨.hbm, 445, rfl⟩
abbrev main_v281 : Ref sig .tc := ⟨.hbm, 446, rfl⟩
abbrev main_v282 : Ref sig .tc := ⟨.hbm, 447, rfl⟩
abbrev main_cst_54 : Ref sig .tc := ⟨.hbm, 448, rfl⟩
abbrev main_v283 : Ref sig .tc := ⟨.hbm, 449, rfl⟩
abbrev main_v284 : Ref sig .tc := ⟨.hbm, 450, rfl⟩
abbrev main_v285 : Ref sig .tc := ⟨.hbm, 451, rfl⟩
abbrev main_v286 : Ref sig .tc := ⟨.hbm, 452, rfl⟩
abbrev main_cst_55 : Ref sig .tc := ⟨.hbm, 453, rfl⟩
abbrev main_v287 : Ref sig .tc := ⟨.hbm, 454, rfl⟩
abbrev main_v288 : Ref sig .tc := ⟨.hbm, 455, rfl⟩
abbrev main_v289 : Ref sig .tc := ⟨.hbm, 456, rfl⟩
abbrev main_v290 : Ref sig .tc := ⟨.hbm, 457, rfl⟩
abbrev main_v291 : Ref sig .tc := ⟨.hbm, 458, rfl⟩
abbrev main_v292 : Ref sig .tc := ⟨.hbm, 459, rfl⟩
abbrev main_v293 : Ref sig .tc := ⟨.hbm, 460, rfl⟩
abbrev main_v294 : Ref sig .tc := ⟨.hbm, 461, rfl⟩
abbrev main_v295 : Ref sig .tc := ⟨.hbm, 462, rfl⟩
abbrev main_v296 : Ref sig .tc := ⟨.hbm, 463, rfl⟩
abbrev main_v297 : Ref sig .tc := ⟨.hbm, 464, rfl⟩
abbrev main_v298 : Ref sig .tc := ⟨.hbm, 465, rfl⟩
abbrev main_v299 : Ref sig .tc := ⟨.hbm, 466, rfl⟩
abbrev main_v300 : Ref sig .tc := ⟨.hbm, 467, rfl⟩
abbrev main_v301 : Ref sig .tc := ⟨.hbm, 468, rfl⟩
abbrev main_v302 : Ref sig .tc := ⟨.hbm, 469, rfl⟩
abbrev main_v303 : Ref sig .tc := ⟨.hbm, 470, rfl⟩
abbrev main_v304 : Ref sig .tc := ⟨.hbm, 471, rfl⟩
abbrev main_v305 : Ref sig .tc := ⟨.hbm, 472, rfl⟩
abbrev main_cst_56 : Ref sig .tc := ⟨.hbm, 473, rfl⟩
abbrev main_v306 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_57 : Ref sig .tc := ⟨.hbm, 478, rfl⟩
abbrev main_v310 : Ref sig .tc := ⟨.hbm, 479, rfl⟩
abbrev main_v311 : Ref sig .tc := ⟨.hbm, 480, rfl⟩
abbrev main_v312 : Ref sig .tc := ⟨.hbm, 481, rfl⟩
abbrev main_v313 : Ref sig .tc := ⟨.hbm, 482, rfl⟩
abbrev main_v314 : Ref sig .tc := ⟨.hbm, 483, rfl⟩
abbrev main_v315 : Ref sig .tc := ⟨.hbm, 484, rfl⟩
abbrev main_v316 : Ref sig .tc := ⟨.hbm, 485, rfl⟩
abbrev main_v317 : Ref sig .tc := ⟨.hbm, 486, rfl⟩
abbrev main_v318 : Ref sig .tc := ⟨.hbm, 487, rfl⟩
abbrev main_v319 : Ref sig .tc := ⟨.hbm, 488, rfl⟩
abbrev main_v320 : Ref sig .tc := ⟨.hbm, 489, rfl⟩
abbrev main_v321 : Ref sig .tc := ⟨.hbm, 490, rfl⟩
abbrev main_v322 : Ref sig .tc := ⟨.hbm, 491, rfl⟩
abbrev main_v323 : Ref sig .tc := ⟨.hbm, 492, rfl⟩
abbrev main_call12_v0 : Ref sig .tc := ⟨.hbm, 493, rfl⟩
abbrev main_call12_cst : Ref sig .tc := ⟨.hbm, 494, rfl⟩
abbrev main_call12_v1 : Ref sig .tc := ⟨.hbm, 495, rfl⟩
abbrev main_call12_v2 : Ref sig .tc := ⟨.hbm, 496, rfl⟩
abbrev main_v324 : Ref sig .tc := ⟨.hbm, 497, rfl⟩
abbrev main_cst_58 : Ref sig .tc := ⟨.hbm, 498, rfl⟩
abbrev main_v325 : Ref sig .tc := ⟨.hbm, 499, rfl⟩
abbrev main_v326 : Ref sig .tc := ⟨.hbm, 500, rfl⟩
abbrev main_v327 : Ref sig .tc := ⟨.hbm, 501, rfl⟩
abbrev main_v328 : Ref sig .tc := ⟨.hbm, 502, rfl⟩
abbrev main_v329 : Ref sig .tc := ⟨.hbm, 503, rfl⟩
abbrev main_v330 : Ref sig .tc := ⟨.hbm, 504, rfl⟩
abbrev main_call13_v0 : Ref sig .tc := ⟨.hbm, 505, rfl⟩
abbrev main_call13_cst : Ref sig .tc := ⟨.hbm, 506, rfl⟩
abbrev main_call13_v1 : Ref sig .tc := ⟨.hbm, 507, rfl⟩
abbrev main_call13_v2 : Ref sig .tc := ⟨.hbm, 508, rfl⟩
abbrev main_v331 : Ref sig .tc := ⟨.hbm, 509, rfl⟩
abbrev main_cst_59 : Ref sig .tc := ⟨.hbm, 510, rfl⟩
abbrev main_v332 : Ref sig .tc := ⟨.hbm, 511, rfl⟩
abbrev main_v333 : Ref sig .tc := ⟨.hbm, 512, rfl⟩
abbrev main_v334 : Ref sig .tc := ⟨.hbm, 513, rfl⟩
abbrev main_v335 : Ref sig .tc := ⟨.hbm, 514, rfl⟩
abbrev main_v336 : Ref sig .tc := ⟨.hbm, 515, rfl⟩
abbrev main_cst_60 : Ref sig .tc := ⟨.hbm, 516, rfl⟩
abbrev main_v337 : Ref sig .tc := ⟨.hbm, 517, rfl⟩
abbrev main_v338 : Ref sig .tc := ⟨.hbm, 518, rfl⟩
abbrev main_v339 : Ref sig .tc := ⟨.hbm, 519, rfl⟩
abbrev main_v340 : Ref sig .tc := ⟨.hbm, 520, rfl⟩
abbrev main_cst_61 : Ref sig .tc := ⟨.hbm, 521, rfl⟩
abbrev main_v341 : Ref sig .tc := ⟨.hbm, 522, rfl⟩
abbrev main_v342 : Ref sig .tc := ⟨.hbm, 523, rfl⟩
abbrev main_v343 : Ref sig .tc := ⟨.hbm, 524, rfl⟩
abbrev main_v344 : Ref sig .tc := ⟨.hbm, 525, rfl⟩
abbrev main_v345 : Ref sig .tc := ⟨.hbm, 526, rfl⟩
abbrev main_cst_62 : Ref sig .tc := ⟨.hbm, 527, rfl⟩
abbrev main_v346 : Ref sig .tc := ⟨.hbm, 528, rfl⟩
abbrev main_v347 : Ref sig .tc := ⟨.hbm, 529, rfl⟩
abbrev main_v348 : Ref sig .tc := ⟨.hbm, 530, rfl⟩
abbrev main_v349 : Ref sig .tc := ⟨.hbm, 531, rfl⟩
abbrev main_v350 : Ref sig .tc := ⟨.hbm, 532, rfl⟩
abbrev main_cst_63 : Ref sig .tc := ⟨.hbm, 533, rfl⟩
abbrev main_v351 : Ref sig .tc := ⟨.hbm, 534, rfl⟩
abbrev main_v352 : Ref sig .tc := ⟨.hbm, 535, rfl⟩
abbrev main_v353 : Ref sig .tc := ⟨.hbm, 536, rfl⟩
abbrev main_call14_v0 : Ref sig .tc := ⟨.hbm, 537, rfl⟩
abbrev main_call14_cst : Ref sig .tc := ⟨.hbm, 538, rfl⟩
abbrev main_call14_c : Ref sig .tc := ⟨.hbm, 539, rfl⟩
abbrev main_call14_v1_0 : Ref sig .tc := ⟨.hbm, 540, rfl⟩
abbrev main_v354 : Ref sig .tc := ⟨.hbm, 541, rfl⟩
abbrev main_v355 : Ref sig .tc := ⟨.hbm, 542, rfl⟩
abbrev main_v356 : Ref sig .tc := ⟨.hbm, 543, rfl⟩
abbrev main_v357 : Ref sig .tc := ⟨.hbm, 544, rfl⟩
abbrev main_call15_c : Ref sig .tc := ⟨.hbm, 545, rfl⟩
abbrev main_call15_v0 : Ref sig .tc := ⟨.hbm, 546, rfl⟩
abbrev main_call15_v1 : Ref sig .tc := ⟨.hbm, 547, rfl⟩
abbrev main_call15_c_0 : Ref sig .tc := ⟨.hbm, 548, rfl⟩
abbrev main_call15_v2 : Ref sig .tc := ⟨.hbm, 549, rfl⟩
abbrev main_call15_v3 : Ref sig .tc := ⟨.hbm, 550, rfl⟩
abbrev main_call15_v4 : Ref sig .tc := ⟨.hbm, 551, rfl⟩
abbrev main_call15_v5 : Ref sig .tc := ⟨.hbm, 552, rfl⟩
abbrev main_call15_c_1 : Ref sig .tc := ⟨.hbm, 553, rfl⟩
abbrev main_call15_c_2 : Ref sig .tc := ⟨.hbm, 554, rfl⟩
abbrev main_call15_v6 : Ref sig .tc := ⟨.hbm, 555, rfl⟩
abbrev main_call15_v7 : Ref sig .tc := ⟨.hbm, 556, rfl⟩
abbrev main_call15_v8 : Ref sig .tc := ⟨.hbm, 557, rfl⟩
abbrev main_call15_v9 : Ref sig .tc := ⟨.hbm, 558, rfl⟩
abbrev main_call15_v10 : Ref sig .tc := ⟨.hbm, 559, rfl⟩
abbrev main_call15_v11 : Ref sig .tc := ⟨.hbm, 560, rfl⟩
abbrev main_call15_c_3 : Ref sig .tc := ⟨.hbm, 561, rfl⟩
abbrev main_call15_v12 : Ref sig .tc := ⟨.hbm, 562, rfl⟩
abbrev main_call15_v13 : Ref sig .tc := ⟨.hbm, 563, rfl⟩
abbrev main_call15_v14 : Ref sig .tc := ⟨.hbm, 564, rfl⟩
abbrev main_call15_cst : Ref sig .tc := ⟨.hbm, 565, rfl⟩
abbrev main_call15_v15 : Ref sig .tc := ⟨.hbm, 566, rfl⟩
abbrev main_v358 : Ref sig .tc := ⟨.hbm, 567, rfl⟩
abbrev main_v359 : Ref sig .tc := ⟨.hbm, 568, rfl⟩
abbrev main_v360 : Ref sig .tc := ⟨.hbm, 569, rfl⟩
abbrev main_v361 : Ref sig .tc := ⟨.hbm, 570, rfl⟩
abbrev main_cst_64 : Ref sig .tc := ⟨.hbm, 571, rfl⟩
abbrev main_v362 : Ref sig .tc := ⟨.hbm, 572, rfl⟩
abbrev main_cst_65 : Ref sig .tc := ⟨.hbm, 573, rfl⟩
abbrev main_v363 : Ref sig .tc := ⟨.hbm, 574, rfl⟩
abbrev main_v364 : Ref sig .tc := ⟨.hbm, 575, rfl⟩
abbrev main_cst_66 : Ref sig .tc := ⟨.hbm, 576, rfl⟩
abbrev main_v365 : Ref sig .tc := ⟨.hbm, 577, rfl⟩
abbrev main_cst_67 : Ref sig .tc := ⟨.hbm, 578, rfl⟩
abbrev main_v366 : Ref sig .tc := ⟨.hbm, 579, rfl⟩
abbrev main_v367 : Ref sig .tc := ⟨.hbm, 580, rfl⟩
abbrev main_v368 : Ref sig .tc := ⟨.hbm, 581, rfl⟩
abbrev main_v369 : Ref sig .tc := ⟨.hbm, 582, rfl⟩
abbrev main_cst_68 : Ref sig .tc := ⟨.hbm, 583, rfl⟩
abbrev main_v370 : Ref sig .tc := ⟨.hbm, 584, rfl⟩
abbrev main_cst_69 : Ref sig .tc := ⟨.hbm, 585, rfl⟩
abbrev main_v371 : Ref sig .tc := ⟨.hbm, 586, rfl⟩
abbrev main_v372 : Ref sig .tc := ⟨.hbm, 587, rfl⟩
abbrev main_cst_70 : Ref sig .tc := ⟨.hbm, 588, rfl⟩
abbrev main_v373 : Ref sig .tc := ⟨.hbm, 589, rfl⟩
abbrev main_cst_71 : Ref sig .tc := ⟨.hbm, 590, rfl⟩
abbrev main_v374 : Ref sig .tc := ⟨.hbm, 591, rfl⟩
abbrev main_v375 : Ref sig .tc := ⟨.hbm, 592, rfl⟩
abbrev main_v376 : Ref sig .tc := ⟨.hbm, 593, rfl⟩
abbrev main_v377 : Ref sig .tc := ⟨.hbm, 594, rfl⟩
abbrev main_v378 : Ref sig .tc := ⟨.hbm, 595, rfl⟩
abbrev main_v379 : Ref sig .tc := ⟨.hbm, 596, rfl⟩
abbrev main_v380 : Ref sig .tc := ⟨.hbm, 597, rfl⟩
abbrev main_v381 : Ref sig .tc := ⟨.hbm, 598, rfl⟩
abbrev main_v382 : Ref sig .tc := ⟨.hbm, 599, rfl⟩
abbrev main_cst_72 : Ref sig .tc := ⟨.hbm, 600, rfl⟩
abbrev main_v383 : Ref sig .tc := ⟨.hbm, 601, rfl⟩
abbrev main_v384 : Ref sig .tc := ⟨.hbm, 602, rfl⟩
abbrev main_v385 : Ref sig .tc := ⟨.hbm, 603, rfl⟩
abbrev main_v386 : Ref sig .tc := ⟨.hbm, 604, rfl⟩
abbrev main_cst_73 : Ref sig .tc := ⟨.hbm, 605, rfl⟩
abbrev main_v387 : Ref sig .tc := ⟨.hbm, 606, rfl⟩
abbrev main_v388 : Ref sig .tc := ⟨.hbm, 607, rfl⟩
abbrev main_v389 : Ref sig .tc := ⟨.hbm, 608, rfl⟩
abbrev main_v390 : Ref sig .tc := ⟨.hbm, 609, rfl⟩
abbrev main_v391 : Ref sig .tc := ⟨.hbm, 610, rfl⟩
abbrev main_v392 : Ref sig .tc := ⟨.hbm, 611, rfl⟩
abbrev main_v393 : Ref sig .tc := ⟨.hbm, 612, rfl⟩
abbrev main_v394 : Ref sig .tc := ⟨.hbm, 613, rfl⟩
abbrev main_v395 : Ref sig .tc := ⟨.hbm, 614, rfl⟩
abbrev main_v396 : Ref sig .tc := ⟨.hbm, 615, rfl⟩
abbrev main_v397 : Ref sig .tc := ⟨.hbm, 616, rfl⟩
abbrev main_v398 : Ref sig .tc := ⟨.hbm, 617, rfl⟩
abbrev main_v399 : Ref sig .tc := ⟨.hbm, 618, rfl⟩
abbrev main_v400 : Ref sig .tc := ⟨.hbm, 619, rfl⟩
abbrev main_v401 : Ref sig .tc := ⟨.hbm, 620, rfl⟩
abbrev main_v402 : Ref sig .tc := ⟨.hbm, 621, rfl⟩
abbrev main_v403 : Ref sig .tc := ⟨.hbm, 622, rfl⟩
abbrev main_v404 : Ref sig .tc := ⟨.hbm, 623, rfl⟩
abbrev main_v405 : Ref sig .tc := ⟨.hbm, 624, rfl⟩
abbrev main_v406 : Ref sig .tc := ⟨.hbm, 625, rfl⟩
abbrev main_v407 : Ref sig .tc := ⟨.hbm, 626, rfl⟩
abbrev main_v408 : Ref sig .tc := ⟨.hbm, 627, rfl⟩
abbrev main_v409 : Ref sig .tc := ⟨.hbm, 628, rfl⟩
abbrev main_v410 : Ref sig .tc := ⟨.hbm, 629, rfl⟩

abbrev nD : Nat := 1
abbrev τ : Topo := Topo.v7x

variable {F : FTy → Type} [FloatOps F]
-- ==== Proof.RefOps.lean ====
/-
  The reference's @main as lists of its host operations, in the order it runs them, cut into the stages of the
  residual quantizer: for each of the four layers `l` the input projection (`opsProj`), the normalised distances
  (`opsDist`), the choice of the code (`opsPick`), the two losses (`opsLoss`) and the output projection with the
  residual update (`opsOut`). The operations are those of proof/ReferenceIdeal.lean, with the called functions'
  operations listed once each over the buffers of a call.
-/
module

public import proofs.«01_k».proof.Proof.Gen.ReferenceIdeal
public import Idealize.ShloMosaic.Lib.StableHlo.Run
public import Idealize.ShloMosaic.Lib.Pipeline.Frame

@[expose] public section

set_option maxRecDepth 8192

noncomputable section

namespace Cert.Ref

open Cert.ReferenceIdeal Cert.ReferenceIdeal.Gen Idealize.ShloMosaic Idealize.ShloMosaic.TcCoe Idealize.SL.Sem
  Idealize.ShloMosaic.StableHlo

variable {F : FTy → Type} [FloatOps F]

/-- The contents of a buffer of shape `s` and element type `t`. -/
abbrev Arr (F : FTy → Type) (s : Shape) (t : EltTy) : Type := (⟨s, t⟩ : BufTy).Contents (Elt F)

/-- The operations of the Euclidean norm of each token row. -/
def normTokOps (arg0 : TRef sig ⟨S8192x256, .f32⟩) (φ : fn_norm.Bufs) : List (HloOp τ sig (Elt F)) :=
    [ TRef.binary arg0 arg0 φ.v0 mulf,
      TRef.nullary φ.cst (constant S_ .f32 0x00000000#32),
      TRef.binary φ.v0 φ.cst φ.v1 (fun x v => Host.reduceAdd x v reducesTo_S8192x256_S8192_d1 h_S_),
      TRef.unary φ.v1 φ.v2 (broadcastInDim S8192x1 ![0] bcast_S8192_S8192x1_0),
      TRef.unary φ.v2 φ.v3 Host.sqrt ]

/-- The operations of the Euclidean norm of each codebook row. -/
def normCodeOps (arg0 : TRef sig ⟨S1024x256, .f32⟩) (φ : fn_norm_0.Bufs) : List (HloOp τ sig (Elt F)) :=
    [ TRef.binary arg0 arg0 φ.v0 mulf,
      TRef.nullary φ.cst (constant S_ .f32 0x00000000#32),
      TRef.binary φ.v0 φ.cst φ.v1 (fun x v => Host.reduceAdd x v reducesTo_S1024x256_S1024_d1 h_S_),
      TRef.unary φ.v1 φ.v2 (broadcastInDim S1024x1 ![0] bcast_S1024_S1024x1_0),
      TRef.unary φ.v2 φ.v3 Host.sqrt ]

/-- The greatest value of each row. -/
def argVal (x : Arr F S8192x1024 .f32) (y : Arr F S8192x1024 .i32) (u : Arr F S_ .f32) (v : Arr F S_ .i32) : Arr F S8192 .f32 :=
  fun j => (Host.argReduce reducer_argmax_f32_i32 x y u v reducesTo_S8192x1024_S8192_d1 h_S_ j).1

/-- The second component of a fold over pairs. -/
def argSnd {s t u : Shape} {axes : List (Fin s.rank)} (f : F .f32 × BitVec 32 → F .f32 × BitVec 32 → F .f32 × BitVec 32)
    (x : FVec F s .f32) (y : IVec s 32) (ix : FVec F u .f32) (iy : IVec u 32) (h : s.ReducesTo axes t) (hu : 0 < u.numel) : IVec t 32 :=
  fun j => (Host.argReduce f x y ix iy h hu j).2

/-- The place of the greatest value of each row. -/
def argIdx (x : Arr F S8192x1024 .f32) (y : Arr F S8192x1024 .i32) (u : Arr F S_ .f32) (v : Arr F S_ .i32) : Arr F S8192 .i32 :=
  argSnd reducer_argmax_f32_i32 x y u v reducesTo_S8192x1024_S8192_d1 h_S_

/-- The operations of the argmax along the codebook axis. -/
def argmaxOps (arg0 : TRef sig ⟨S8192x1024, .f32⟩) (φ : fn_argmax.Bufs) : List (HloOp τ sig (Elt F)) :=
    [ TRef.nullary φ.v0 (iotaInDim S8192x1024 32 1),
      TRef.nullary φ.cst (constant S_ .f32 0xFF800000#32),
      TRef.nullary φ.c (constantI S_ 32 0#32),
      TRef.quaternary arg0 φ.v0 φ.cst φ.c φ.v1_0 argVal,
      TRef.quaternary arg0 φ.v0 φ.cst φ.c φ.v1_1 argIdx ]

/-- The select that wraps a negative index. -/
def wrapSelOps (arg0 : TRef sig ⟨S8x1024, .i1⟩) (arg1 : TRef sig ⟨S8x1024, .i32⟩) (arg2 : TRef sig ⟨S8x1024, .i32⟩) (φ : fn_where.Bufs) : List (HloOp τ sig (Elt F)) :=
    [ TRef.ternary arg0 arg1 arg2 φ.v0 select ]

/-- The operations that wrap a negative index, before a row lookup. -/
def takeWrapOps (arg1 : TRef sig ⟨S8x1024, .i32⟩) (φ : fn_take.Bufs) : List (HloOp τ sig (Elt F)) :=
    [ TRef.nullary φ.c (constantI S_ 32 0#32),
      TRef.unary φ.c φ.v0 (broadcastInDim S8x1024 ![] bcast_S_S8x1024),
      TRef.binary arg1 φ.v0 φ.v1 (cmpi .slt),
      TRef.nullary φ.c_0 (constantI S_ 32 1024#32),
      TRef.unary φ.c_0 φ.v2 (broadcastInDim S8x1024 ![] bcast_S_S8x1024),
      TRef.binary arg1 φ.v2 φ.v3 addi ]
    ++ wrapSelOps φ.v1 φ.v3 arg1 φ.call0
    ++ [ TRef.unary φ.call0.v0 φ.v5 (broadcastInDim S8x1024x1 ![0, 1] bcast_S8x1024_S8x1024x1_0_1) ]

/-- The operations that read the rows, an index out of range reading not-a-numbers. -/
def takeReadOps (arg0 : TRef sig ⟨S1024x256, .f32⟩) (φ : fn_take.Bufs) : List (HloOp τ sig (Elt F)) :=
    [ TRef.nullary φ.c_1 (constantI S1 32 1023#32),
      TRef.nullary φ.c_2 (constantI S_ 32 0#32),
      TRef.unary φ.c_2 φ.v6 (broadcastInDim S8x1024x1 ![] bcast_S_S8x1024x1),
      TRef.binary φ.v5 φ.v6 φ.v7 (cmpi .sge),
      TRef.unary φ.c_1 φ.v8 (broadcastInDim S1x1x1 ![2] bcast_S1_S1x1x1_2),
      TRef.unary φ.v8 φ.v9 (broadcastInDim S8x1024x1 ![0, 1, 2] bcast_S1x1x1_S8x1024x1_0_1_2),
      TRef.binary φ.v5 φ.v9 φ.v10 (cmpi .sle),
      TRef.binary φ.v7 φ.v10 φ.v11 andi,
      TRef.nullary φ.c_3 (constantI S_ 1 1#1),
      TRef.binary φ.v11 φ.c_3 φ.v12 (fun x v => Host.reduce IntOp.andi x v reducesTo_S8x1024x1_S8x1024_d2 h_S_),
      TRef.binary arg0 φ.v5 φ.v13 (fun x i => Host.gather gather_S1024x256_S8x1024x1_S8x1024x256_2_0_n_n_0_2_1256 x i),
      TRef.unary φ.v12 φ.v14 (broadcastInDim S8x1024x256 ![0, 1] bcast_S8x1024_S8x1024x256_0_1),
      TRef.nullary φ.cst (constant S_ .f32 0x7FC00000#32),
      TRef.unary φ.cst φ.v15 (broadcastInDim S8x1024x256 ![] bcast_S_S8x1024x256),
      TRef.ternary φ.v14 φ.v13 φ.v15 φ.v16 select ]

/-- The operations before the first layer. -/
def opsInit : List (HloOp τ sig (Elt F)) :=
    [ nullary main_cst (constant S_ .f32 0x00000000#32),
      unary main_cst main_v0 (broadcastInDim S8x512x1024 ![] bcast_S_S8x512x1024 : Arr F S_ .f32 → Arr F S8x512x1024 .f32) ]

/-- The stretch of layer 0 that projects. -/
def opsProj0 : List (HloOp τ sig (Elt F)) :=
    [ unary main_arg1 main_v1 ((extractStridedSlice S1x256x512 ![0, 0, 0] · slices_S4x256x512_S1x256x512_0_0_0) : Arr F S4x256x512 .f32 → Arr F S1x256x512 .f32),
      reshape main_v1 main_v2 (rfl : (.f32 : EltTy) = .f32) shapeCasts_S1x256x512_S256x512,
      unary main_arg2 main_v3 ((extractStridedSlice S1x256 ![0, 0] · slices_S4x256_S1x256_0_0) : Arr F S4x256 .f32 → Arr F S1x256 .f32),
      reshape main_v3 main_v4 (rfl : (.f32 : EltTy) = .f32) shapeCasts_S1x256_S256,
      binary main_v2 main_v2 main_v5 (mulf : Arr F S256x512 .f32 → Arr F S256x512 .f32 → Arr F S256x512 .f32),
      nullary main_cst_0 (constant S_ .f32 0x00000000#32),
      binary main_v5 main_cst_0 main_v6 ((fun x v => Host.reduceAdd x v reducesTo_S256x512_S256_d1 h_S_) : Arr F S256x512 .f32 → Arr F S_ .f32 → Arr F S256 .f32),
      unary main_v6 main_v7 (broadcastInDim S256x1 ![0] bcast_S256_S256x1_0 : Arr F S256 .f32 → Arr F S256x1 .f32),
      unary main_v7 main_v8 (Host.sqrt : Arr F S256x1 .f32 → Arr F S256x1 .f32),
      unary main_v4 main_v9 (broadcastInDim S256x1 ![0] bcast_S256_S256x1_0 : Arr F S256 .f32 → Arr F S256x1 .f32),
      nullary main_cst_1 (constant S_ .f32 0x2B8CBCCC#32),
      unary main_cst_1 main_v10 (broadcastInDim S256x1 ![] bcast_S_S256x1 : Arr F S_ .f32 → Arr F S256x1 .f32),
      binary main_v8 main_v10 main_v11 (maximumf : Arr F S256x1 .f32 → Arr F S256x1 .f32 → Arr F S256x1 .f32),
      binary main_v9 main_v11 main_v12 (Host.divf : Arr F S256x1 .f32 → Arr F S256x1 .f32 → Arr F S256x1 .f32),
      unary main_v12 main_v13 (broadcastInDim S256x512 ![0, 1] bcast_S256x1_S256x512_0_1 : Arr F S256x1 .f32 → Arr F S256x512 .f32),
      binary main_v2 main_v13 main_v14 (mulf : Arr F S256x512 .f32 → Arr F S256x512 .f32 → Arr F S256x512 .f32),
      binary main_arg0 main_v14 main_v15 ((fun l r => Host.dotGeneral dot_S8x512x1024_S256x512_S8x1024x256_1_1_02_0_n_n none l r) : Arr F S8x512x1024 .f32 → Arr F S256x512 .f32 → Arr F S8x1024x256 .f32),
      unary main_v15 main_v16 ((transpose S8x256x1024 [0, 2, 1] · transposes_S8x1024x256_S8x256x1024_0_2_1) : Arr F S8x1024x256 .f32 → Arr F S8x256x1024 .f32),
      unary main_arg3 main_v17 ((extractStridedSlice S1x256 ![0, 0] · slices_S4x256_S1x256_0_0) : Arr F S4x256 .f32 → Arr F S1x256 .f32),
      reshape main_v17 main_v18 (rfl : (.f32 : EltTy) = .f32) shapeCasts_S1x256_S256,
      unary main_v18 main_v19 (broadcastInDim S1x256x1 ![1] bcast_S256_S1x256x1_1 : Arr F S256 .f32 → Arr F S1x256x1 .f32),
      unary main_v19 main_v20 (broadcastInDim S8x256x1024 ![0, 1, 2] bcast_S1x256x1_S8x256x1024_0_1_2 : Arr F S1x256x1 .f32 → Arr F S8x256x1024 .f32),
      binary main_v16 main_v20 main_v21 (addf : Arr F S8x256x1024 .f32 → Arr F S8x256x1024 .f32 → Arr F S8x256x1024 .f32),
      unary main_v21 main_v22 ((transpose S8x1024x256 [0, 2, 1] · transposes_S8x256x1024_S8x1024x256_0_2_1) : Arr F S8x256x1024 .f32 → Arr F S8x1024x256 .f32),
      reshape main_v22 main_v23 (rfl : (.f32 : EltTy) = .f32) shapeCasts_S8x1024x256_S8192x256 ]

/-- The stretch of layer 0 that computes the logits (its first part). -/
def opsDist0a : List (HloOp τ sig (Elt F)) :=
    normTokOps (.of main_v23) main_call0
    ++ [ nullary main_cst_2 (constant S_ .f32 0x2B8CBCCC#32),
      unary main_cst_2 main_v25 (broadcastInDim S8192x1 ![] bcast_S_S8192x1 : Arr F S_ .f32 → Arr F S8192x1 .f32),
      binary main_v24 main_v25 main_v26 (maximumf : Arr F S8192x1 .f32 → Arr F S8192x1 .f32 → Arr F S8192x1 .f32),
      unary main_v26 main_v27 (broadcastInDim S8192x256 ![0, 1] bcast_S8192x1_S8192x256_0_1 : Arr F S8192x1 .f32 → Arr F S8192x256 .f32),
      binary main_v23 main_v27 main_v28 (Host.divf : Arr F S8192x256 .f32 → Arr F S8192x256 .f32 → Arr F S8192x256 .f32),
      unary main_arg7 main_v29 ((extractStridedSlice S1x1024x256 ![0, 0, 0] · slices_S4x1024x256_S1x1024x256_0_0_0) : Arr F S4x1024x256 .f32 → Arr F S1x1024x256 .f32),
      reshape main_v29 main_v30 (rfl : (.f32 : EltTy) = .f32) shapeCasts_S1x1024x256_S1024x256 ]
    ++ normCodeOps (.of main_v30) main_call1
    ++ [ nullary main_cst_3 (constant S_ .f32 0x2B8CBCCC#32),
      unary main_cst_3 main_v32 (broadcastInDim S1024x1 ![] bcast_S_S1024x1 : Arr F S_ .f32 → Arr F S1024x1 .f32),
      binary main_v31 main_v32 main_v33 (maximumf : Arr F S1024x1 .f32 → Arr F S1024x1 .f32 → Arr F S1024x1 .f32),
      unary main_v33 main_v34 (broadcastInDim S1024x256 ![0, 1] bcast_S1024x1_S1024x256_0_1 : Arr F S1024x1 .f32 → Arr F S1024x256 .f32),
      binary main_v30 main_v34 main_v35 (Host.divf : Arr F S1024x256 .f32 → Arr F S1024x256 .f32 → Arr F S1024x256 .f32),
      binary main_v28 main_v28 main_v36 (mulf : Arr F S8192x256 .f32 → Arr F S8192x256 .f32 → Arr F S8192x256 .f32),
      nullary main_cst_4 (constant S_ .f32 0x00000000#32),
      binary main_v36 main_cst_4 main_v37 ((fun x v => Host.reduceAdd x v reducesTo_S8192x256_S8192_d1 h_S_) : Arr F S8192x256 .f32 → Arr F S_ .f32 → Arr F S8192 .f32),
      unary main_v37 main_v38 (broadcastInDim S8192x1 ![0] bcast_S8192_S8192x1_0 : Arr F S8192 .f32 → Arr F S8192x1 .f32),
      unary main_v35 main_v39 ((transpose S256x1024 [1, 0] · transposes_S1024x256_S256x1024_1_0) : Arr F S1024x256 .f32 → Arr F S256x1024 .f32),
      binary main_v28 main_v39 main_v40 ((fun l r => Host.dotGeneral dot_S8192x256_S256x1024_S8192x1024_1_0_0_1_n_n none l r) : Arr F S8192x256 .f32 → Arr F S256x1024 .f32 → Arr F S8192x1024 .f32),
      nullary main_cst_5 (constant S_ .f32 0x40000000#32),
      unary main_cst_5 main_v41 (broadcastInDim S8192x1024 ![] bcast_S_S8192x1024 : Arr F S_ .f32 → Arr F S8192x1024 .f32),
      binary main_v41 main_v40 main_v42 (mulf : Arr F S8192x1024 .f32 → Arr F S8192x1024 .f32 → Arr F S8192x1024 .f32),
      unary main_v38 main_v43 (broadcastInDim S8192x1024 ![0, 1] bcast_S8192x1_S8192x1024_0_1 : Arr F S8192x1 .f32 → Arr F S8192x1024 .f32),
      binary main_v43 main_v42 main_v44 (subf : Arr F S8192x1024 .f32 → Arr F S8192x1024 .f32 → Arr F S8192x1024 .f32),
      binary main_v35 main_v35 main_v45 (mulf : Arr F S1024x256 .f32 → Arr F S1024x256 .f32 → Arr F S1024x256 .f32),
      nullary main_cst_6 (constant S_ .f32 0x00000000#32),
      binary main_v45 main_cst_6 main_v46 ((fun x v => Host.reduceAdd x v reducesTo_S1024x256_S1024_d1 h_S_) : Arr F S1024x256 .f32 → Arr F S_ .f32 → Arr F S1024 .f32),
      unary main_v46 main_v47 (broadcastInDim S1x1024 ![1] bcast_S1024_S1x1024_1 : Arr F S1024 .f32 → Arr F S1x1024 .f32),
      unary main_v47 main_v48 (broadcastInDim S8192x1024 ![0, 1] bcast_S1x1024_S8192x1024_0_1 : Arr F S1x1024 .f32 → Arr F S8192x1024 .f32),
      binary main_v44 main_v48 main_v49 (addf : Arr F S8192x1024 .f32 → Arr F S8192x1024 .f32 → Arr F S8192x1024 .f32),
      unary main_v49 main_v50 (Host.negf : Arr F S8192x1024 .f32 → Arr F S8192x1024 .f32),
      nullary main_cst_7 (constant S_ .f32 0x3F800000#32) ]

/-- The stretch of layer 0 that computes the logits (its second part). -/
def opsDist0b : List (HloOp τ sig (Elt F)) :=
    [ unary main_cst_7 main_v51 (broadcastInDim S8192x1024 ![] bcast_S_S8192x1024 : Arr F S_ .f32 → Arr F S8192x1024 .f32),
      binary main_v50 main_v51 main_v52 (Host.divf : Arr F S8192x1024 .f32 → Arr F S8192x1024 .f32 → Arr F S8192x1024 .f32),
      unary main_v49 main_v53 (Host.negf : Arr F S8192x1024 .f32 → Arr F S8192x1024 .f32) ]

/-- The stretch of layer 0 that computes the logits. -/
def opsDist0 : List (HloOp τ sig (Elt F)) := opsDist0a ++ opsDist0b

/-- The stretch of layer 0 that picks. -/
def opsIdx0 : List (HloOp τ sig (Elt F)) :=
    argmaxOps (.of main_v53) main_call2
    ++ [ reshape main_v54 main_v55 (rfl : (.i32 : EltTy) = .i32) shapeCasts_S8192_S8x1024,
      unary main_arg7 main_v56 ((extractStridedSlice S1x1024x256 ![0, 0, 0] · slices_S4x1024x256_S1x1024x256_0_0_0) : Arr F S4x1024x256 .f32 → Arr F S1x1024x256 .f32),
      reshape main_v56 main_v57 (rfl : (.f32 : EltTy) = .f32) shapeCasts_S1x1024x256_S1024x256 ]

/-- The stretch of layer 0 that reads the picked rows. -/
def opsTake0 : List (HloOp τ sig (Elt F)) :=
    takeReadOps (.of main_v57) main_call3
    ++ [ unary main_v58 main_v59 ((transpose S8x256x1024 [0, 2, 1] · transposes_S8x1024x256_S8x256x1024_0_2_1) : Arr F S8x1024x256 .f32 → Arr F S8x256x1024 .f32) ]

/-- The stretch of layer 0 that picks and reads the picked rows. -/
def opsPick0 : List (HloOp τ sig (Elt F)) :=
    opsIdx0 ++ (takeWrapOps (.of main_v55) main_call3 ++ opsTake0)

/-- The stretch of layer 0 that adds to the losses. -/
def opsLoss0 : List (HloOp τ sig (Elt F)) :=
    [ binary main_v21 main_v59 main_v60 (subf : Arr F S8x256x1024 .f32 → Arr F S8x256x1024 .f32 → Arr F S8x256x1024 .f32),
      binary main_v60 main_v60 main_v61 (mulf : Arr F S8x256x1024 .f32 → Arr F S8x256x1024 .f32 → Arr F S8x256x1024 .f32),
      nullary main_cst_8 (constant S_ .f32 0x00000000#32),
      binary main_v61 main_cst_8 main_v62 ((fun x v => Host.reduceAdd x v reducesTo_S8x256x1024_S8_d1_2 h_S_) : Arr F S8x256x1024 .f32 → Arr F S_ .f32 → Arr F S8 .f32),
      nullary main_cst_9 (constant S_ .f32 0x48800000#32),
      unary main_cst_9 main_v63 (broadcastInDim S8 ![] bcast_S_S8 : Arr F S_ .f32 → Arr F S8 .f32),
      binary main_v62 main_v63 main_v64 (Host.divf : Arr F S8 .f32 → Arr F S8 .f32 → Arr F S8 .f32),
      nullary main_cst_10 (constant S_ .f32 0x00000000#32),
      binary main_v64 main_cst_10 main_v65 ((fun x v => Host.reduceAdd x v reducesTo_S8_S_d0 h_S_) : Arr F S8 .f32 → Arr F S_ .f32 → Arr F S_ .f32),
      nullary main_cst_11 (constant S_ .f32 0x41000000#32),
      binary main_v65 main_cst_11 main_v66 (Host.divf : Arr F S_ .f32 → Arr F S_ .f32 → Arr F S_ .f32),
      nullary main_cst_12 (constant S_ .f32 0x00000000#32),
      binary main_cst_12 main_v66 main_v67 (addf : Arr F S_ .f32 → Arr F S_ .f32 → Arr F S_ .f32),
      binary main_v59 main_v21 main_v68 (subf : Arr F S8x256x1024 .f32 → Arr F S8x256x1024 .f32 → Arr F S8x256x1024 .f32),
      binary main_v68 main_v68 main_v69 (mulf : Arr F S8x256x1024 .f32 → Arr F S8x256x1024 .f32 → Arr F S8x256x1024 .f32),
      nullary main_cst_13 (constant S_ .f32 0x00000000#32),
      binary main_v69 main_cst_13 main_v70 ((fun x v => Host.reduceAdd x v reducesTo_S8x256x1024_S8_d1_2 h_S_) : Arr F S8x256x1024 .f32 → Arr F S_ .f32 → Arr F S8 .f32),
      nullary main_cst_14 (constant S_ .f32 0x48800000#32),
      unary main_cst_14 main_v71 (broadcastInDim S8 ![] bcast_S_S8 : Arr F S_ .f32 → Arr F S8 .f32),
      binary main_v70 main_v71 main_v72 (Host.divf : Arr F S8 .f32 → Arr F S8 .f32 → Arr F S8 .f32),
      nullary main_cst_15 (constant S_ .f32 0x00000000#32),
      binary main_v72 main_cst_15 main_v73 ((fun x v => Host.reduceAdd x v reducesTo_S8_S_d0 h_S_) : Arr F S8 .f32 → Arr F S_ .f32 → Arr F S_ .f32),
      nullary main_cst_16 (constant S_ .f32 0x41000000#32),
      binary main_v73 main_cst_16 main_v74 (Host.divf : Arr F S_ .f32 → Arr F S_ .f32 → Arr F S_ .f32),
      nullary main_cst_17 (constant S_ .f32 0x00000000#32),
      binary main_cst_17 main_v74 main_v75 (addf : Arr F S_ .f32 → Arr F S_ .f32 → Arr F S_ .f32) ]

/-- The stretch of layer 0 that computes the output and the next residual (its first part). -/
def opsOut0a : List (HloOp τ sig (Elt F)) :=
    [ binary main_v59 main_v21 main_v76 (subf : Arr F S8x256x1024 .f32 → Arr F S8x256x1024 .f32 → Arr F S8x256x1024 .f32),
      binary main_v21 main_v76 main_v77 (addf : Arr F S8x256x1024 .f32 → Arr F S8x256x1024 .f32 → Arr F S8x256x1024 .f32),
      unary main_arg4 main_v78 ((extractStridedSlice S1x512x256 ![0, 0, 0] · slices_S4x512x256_S1x512x256_0_0_0) : Arr F S4x512x256 .f32 → Arr F S1x512x256 .f32),
      reshape main_v78 main_v79 (rfl : (.f32 : EltTy) = .f32) shapeCasts_S1x512x256_S512x256,
      unary main_arg5 main_v80 ((extractStridedSlice S1x512 ![0, 0] · slices_S4x512_S1x512_0_0) : Arr F S4x512 .f32 → Arr F S1x512 .f32),
      reshape main_v80 main_v81 (rfl : (.f32 : EltTy) = .f32) shapeCasts_S1x512_S512,
      binary main_v79 main_v79 main_v82 (mulf : Arr F S512x256 .f32 → Arr F S512x256 .f32 → Arr F S512x256 .f32),
      nullary main_cst_18 (constant S_ .f32 0x00000000#32),
      binary main_v82 main_cst_18 main_v83 ((fun x v => Host.reduceAdd x v reducesTo_S512x256_S512_d1 h_S_) : Arr F S512x256 .f32 → Arr F S_ .f32 → Arr F S512 .f32),
      unary main_v83 main_v84 (broadcastInDim S512x1 ![0] bcast_S512_S512x1_0 : Arr F S512 .f32 → Arr F S512x1 .f32),
      unary main_v84 main_v85 (Host.sqrt : Arr F S512x1 .f32 → Arr F S512x1 .f32),
      unary main_v81 main_v86 (broadcastInDim S512x1 ![0] bcast_S512_S512x1_0 : Arr F S512 .f32 → Arr F S512x1 .f32),
      nullary main_cst_19 (constant S_ .f32 0x2B8CBCCC#32),
      unary main_cst_19 main_v87 (broadcastInDim S512x1 ![] bcast_S_S512x1 : Arr F S_ .f32 → Arr F S512x1 .f32),
      binary main_v85 main_v87 main_v88 (maximumf : Arr F S512x1 .f32 → Arr F S512x1 .f32 → Arr F S512x1 .f32),
      binary main_v86 main_v88 main_v89 (Host.divf : Arr F S512x1 .f32 → Arr F S512x1 .f32 → Arr F S512x1 .f32),
      unary main_v89 main_v90 (broadcastInDim S512x256 ![0, 1] bcast_S512x1_S512x256_0_1 : Arr F S512x1 .f32 → Arr F S512x256 .f32),
      binary main_v79 main_v90 main_v91 (mulf : Arr F S512x256 .f32 → Arr F S512x256 .f32 → Arr F S512x256 .f32),
      binary main_v77 main_v91 main_v92 ((fun l r => Host.dotGeneral dot_S8x256x1024_S512x256_S8x1024x512_1_1_02_0_n_n none l r) : Arr F S8x256x1024 .f32 → Arr F S512x256 .f32 → Arr F S8x1024x512 .f32),
      unary main_v92 main_v93 ((transpose S8x512x1024 [0, 2, 1] · transposes_S8x1024x512_S8x512x1024_0_2_1) : Arr F S8x1024x512 .f32 → Arr F S8x512x1024 .f32),
      unary main_arg6 main_v94 ((extractStridedSlice S1x512 ![0, 0] · slices_S4x512_S1x512_0_0) : Arr F S4x512 .f32 → Arr F S1x512 .f32),
      reshape main_v94 main_v95 (rfl : (.f32 : EltTy) = .f32) shapeCasts_S1x512_S512,
      unary main_v95 main_v96 (broadcastInDim S1x512x1 ![1] bcast_S512_S1x512x1_1 : Arr F S512 .f32 → Arr F S1x512x1 .f32),
      unary main_v96 main_v97 (broadcastInDim S8x512x1024 ![0, 1, 2] bcast_S1x512x1_S8x512x1024_0_1_2 : Arr F S1x512x1 .f32 → Arr F S8x512x1024 .f32),
      binary main_v93 main_v97 main_v98 (addf : Arr F S8x512x1024 .f32 → Arr F S8x512x1024 .f32 → Arr F S8x512x1024 .f32) ]

/-- The stretch of layer 0 that computes the output and the next residual (its second part). -/
def opsOut0b : List (HloOp τ sig (Elt F)) :=
    [ binary main_v0 main_v98 main_v99 (addf : Arr F S8x512x1024 .f32 → Arr F S8x512x1024 .f32 → Arr F S8x512x1024 .f32),
      binary main_arg0 main_v98 main_v100 (subf : Arr F S8x512x1024 .f32 → Arr F S8x512x1024 .f32 → Arr F S8x512x1024 .f32) ]

/-- The stretch of layer 0 that computes the output and the next residual. -/
def opsOut0 : List (HloOp τ sig (Elt F)) := opsOut0a ++ opsOut0b

/-- The stretch of layer 1 that projects. -/
def opsProj1 : List (HloOp τ sig (Elt F)) :=
    [ unary main_arg1 main_v101 ((extractStridedSlice S1x256x512 ![1, 0, 0] · slices_S4x256x512_S1x256x512_1_0_0) : Arr F S4x256x512 .f32 → Arr F S1x256x512 .f32),
      reshape main_v101 main_v102 (rfl : (.f32 : EltTy) = .f32) shapeCasts_S1x256x512_S256x512,
      unary main_arg2 main_v103 ((extractStridedSlice S1x256 ![1, 0] · slices_S4x256_S1x256_1_0) : Arr F S4x256 .f32 → Arr F S1x256 .f32),
      reshape main_v103 main_v104 (rfl : (.f32 : EltTy) = .f32) shapeCasts_S1x256_S256,
      binary main_v102 main_v102 main_v105 (mulf : Arr F S256x512 .f32 → Arr F S256x512 .f32 → Arr F S256x512 .f32),
      nullary main_cst_20 (constant S_ .f32 0x00000000#32),
      binary main_v105 main_cst_20 main_v106 ((fun x v => Host.reduceAdd x v reducesTo_S256x512_S256_d1 h_S_) : Arr F S256x512 .f32 → Arr F S_ .f32 → Arr F S256 .f32),
      unary main_v106 main_v107 (broadcastInDim S256x1 ![0] bcast_S256_S256x1_0 : Arr F S256 .f32 → Arr F S256x1 .f32),
      unary main_v107 main_v108 (Host.sqrt : Arr F S256x1 .f32 → Arr F S256x1 .f32),
      unary main_v104 main_v109 (broadcastInDim S256x1 ![0] bcast_S256_S256x1_0 : Arr F S256 .f32 → Arr F S256x1 .f32),
      nullary main_cst_21 (constant S_ .f32 0x2B8CBCCC#32),
      unary main_cst_21 main_v110 (broadcastInDim S256x1 ![] bcast_S_S256x1 : Arr F S_ .f32 → Arr F S256x1 .f32),
      binary main_v108 main_v110 main_v111 (maximumf : Arr F S256x1 .f32 → Arr F S256x1 .f32 → Arr F S256x1 .f32),
      binary main_v109 main_v111 main_v112 (Host.divf : Arr F S256x1 .f32 → Arr F S256x1 .f32 → Arr F S256x1 .f32),
      unary main_v112 main_v113 (broadcastInDim S256x512 ![0, 1] bcast_S256x1_S256x512_0_1 : Arr F S256x1 .f32 → Arr F S256x512 .f32),
      binary main_v102 main_v113 main_v114 (mulf : Arr F S256x512 .f32 → Arr F S256x512 .f32 → Arr F S256x512 .f32),
      binary main_v100 main_v114 main_v115 ((fun l r => Host.dotGeneral dot_S8x512x1024_S256x512_S8x1024x256_1_1_02_0_n_n none l r) : Arr F S8x512x1024 .f32 → Arr F S256x512 .f32 → Arr F S8x1024x256 .f32),
      unary main_v115 main_v116 ((transpose S8x256x1024 [0, 2, 1] · transposes_S8x1024x256_S8x256x1024_0_2_1) : Arr F S8x1024x256 .f32 → Arr F S8x256x1024 .f32),
      unary main_arg3 main_v117 ((extractStridedSlice S1x256 ![1, 0] · slices_S4x256_S1x256_1_0) : Arr F S4x256 .f32 → Arr F S1x256 .f32),
      reshape main_v117 main_v118 (rfl : (.f32 : EltTy) = .f32) shapeCasts_S1x256_S256,
      unary main_v118 main_v119 (broadcastInDim S1x256x1 ![1] bcast_S256_S1x256x1_1 : Arr F S256 .f32 → Arr F S1x256x1 .f32),
      unary main_v119 main_v120 (broadcastInDim S8x256x1024 ![0, 1, 2] bcast_S1x256x1_S8x256x1024_0_1_2 : Arr F S1x256x1 .f32 → Arr F S8x256x1024 .f32),
      binary main_v116 main_v120 main_v121 (addf : Arr F S8x256x1024 .f32 → Arr F S8x256x1024 .f32 → Arr F S8x256x1024 .f32),
      unary main_v121 main_v122 ((transpose S8x1024x256 [0, 2, 1] · transposes_S8x256x1024_S8x1024x256_0_2_1) : Arr F S8x256x1024 .f32 → Arr F S8x1024x256 .f32),
      reshape main_v122 main_v123 (rfl : (.f32 : EltTy) = .f32) shapeCasts_S8x1024x256_S8192x256 ]

/-- The stretch of layer 1 that computes the logits (its first part). -/
def opsDist1a : List (HloOp τ sig (Elt F)) :=
    normTokOps (.of main_v123) main_call4
    ++ [ nullary main_cst_22 (constant S_ .f32 0x2B8CBCCC#32),
      unary main_cst_22 main_v125 (broadcastInDim S8192x1 ![] bcast_S_S8192x1 : Arr F S_ .f32 → Arr F S8192x1 .f32),
      binary main_v124 main_v125 main_v126 (maximumf : Arr F S8192x1 .f32 → Arr F S8192x1 .f32 → Arr F S8192x1 .f32),
      unary main_v126 main_v127 (broadcastInDim S8192x256 ![0, 1] bcast_S8192x1_S8192x256_0_1 : Arr F S8192x1 .f32 → Arr F S8192x256 .f32),
      binary main_v123 main_v127 main_v128 (Host.divf : Arr F S8192x256 .f32 → Arr F S8192x256 .f32 → Arr F S8192x256 .f32),
      unary main_arg7 main_v129 ((extractStridedSlice S1x1024x256 ![1, 0, 0] · slices_S4x1024x256_S1x1024x256_1_0_0) : Arr F S4x1024x256 .f32 → Arr F S1x1024x256 .f32),
      reshape main_v129 main_v130 (rfl : (.f32 : EltTy) = .f32) shapeCasts_S1x1024x256_S1024x256 ]
    ++ normCodeOps (.of main_v130) main_call5
    ++ [ nullary main_cst_23 (constant S_ .f32 0x2B8CBCCC#32),
      unary main_cst_23 main_v132 (broadcastInDim S1024x1 ![] bcast_S_S1024x1 : Arr F S_ .f32 → Arr F S1024x1 .f32),
      binary main_v131 main_v132 main_v133 (maximumf : Arr F S1024x1 .f32 → Arr F S1024x1 .f32 → Arr F S1024x1 .f32),
      unary main_v133 main_v134 (broadcastInDim S1024x256 ![0, 1] bcast_S1024x1_S1024x256_0_1 : Arr F S1024x1 .f32 → Arr F S1024x256 .f32),
      binary main_v130 main_v134 main_v135 (Host.divf : Arr F S1024x256 .f32 → Arr F S1024x256 .f32 → Arr F S1024x256 .f32),
      binary main_v128 main_v128 main_v136 (mulf : Arr F S8192x256 .f32 → Arr F S8192x256 .f32 → Arr F S8192x256 .f32),
      nullary main_cst_24 (constant S_ .f32 0x00000000#32),
      binary main_v136 main_cst_24 main_v137 ((fun x v => Host.reduceAdd x v reducesTo_S8192x256_S8192_d1 h_S_) : Arr F S8192x256 .f32 → Arr F S_ .f32 → Arr F S8192 .f32),
      unary main_v137 main_v138 (broadcastInDim S8192x1 ![0] bcast_S8192_S8192x1_0 : Arr F S8192 .f32 → Arr F S8192x1 .f32),
      unary main_v135 main_v139 ((transpose S256x1024 [1, 0] · transposes_S1024x256_S256x1024_1_0) : Arr F S1024x256 .f32 → Arr F S256x1024 .f32),
      binary main_v128 main_v139 main_v140 ((fun l r => Host.dotGeneral dot_S8192x256_S256x1024_S8192x1024_1_0_0_1_n_n none l r) : Arr F S8192x256 .f32 → Arr F S256x1024 .f32 → Arr F S8192x1024 .f32),
      nullary main_cst_25 (constant S_ .f32 0x40000000#32),
      unary main_cst_25 main_v141 (broadcastInDim S8192x1024 ![] bcast_S_S8192x1024 : Arr F S_ .f32 → Arr F S8192x1024 .f32),
      binary main_v141 main_v140 main_v142 (mulf : Arr F S8192x1024 .f32 → Arr F S8192x1024 .f32 → Arr F S8192x1024 .f32),
      unary main_v138 main_v143 (broadcastInDim S8192x1024 ![0, 1] bcast_S8192x1_S8192x1024_0_1 : Arr F S8192x1 .f32 → Arr F S8192x1024 .f32),
      binary main_v143 main_v142 main_v144 (subf : Arr F S8192x1024 .f32 → Arr F S8192x1024 .f32 → Arr F S8192x1024 .f32),
      binary main_v135 main_v135 main_v145 (mulf : Arr F S1024x256 .f32 → Arr F S1024x256 .f32 → Arr F S1024x256 .f32),
      nullary main_cst_26 (constant S_ .f32 0x00000000#32),
      binary main_v145 main_cst_26 main_v146 ((fun x v => Host.reduceAdd x v reducesTo_S1024x256_S1024_d1 h_S_) : Arr F S1024x256 .f32 → Arr F S_ .f32 → Arr F S1024 .f32),
      unary main_v146 main_v147 (broadcastInDim S1x1024 ![1] bcast_S1024_S1x1024_1 : Arr F S1024 .f32 → Arr F S1x1024 .f32),
      unary main_v147 main_v148 (broadcastInDim S8192x1024 ![0, 1] bcast_S1x1024_S8192x1024_0_1 : Arr F S1x1024 .f32 → Arr F S8192x1024 .f32),
      binary main_v144 main_v148 main_v149 (addf : Arr F S8192x1024 .f32 → Arr F S8192x1024 .f32 → Arr F S8192x1024 .f32),
      unary main_v149 main_v150 (Host.negf : Arr F S8192x1024 .f32 → Arr F S8192x1024 .f32),
      nullary main_cst_27 (constant S_ .f32 0x3F800000#32) ]

/-- The stretch of layer 1 that computes the logits (its second part). -/
def opsDist1b : List (HloOp τ sig (Elt F)) :=
    [ unary main_cst_27 main_v151 (broadcastInDim S8192x1024 ![] bcast_S_S8192x1024 : Arr F S_ .f32 → Arr F S8192x1024 .f32),
      binary main_v150 main_v151 main_v152 (Host.divf : Arr F S8192x1024 .f32 → Arr F S8192x1024 .f32 → Arr F S8192x1024 .f32),
      unary main_v149 main_v153 (Host.negf : Arr F S8192x1024 .f32 → Arr F S8192x1024 .f32) ]

/-- The stretch of layer 1 that computes the logits. -/
def opsDist1 : List (HloOp τ sig (Elt F)) := opsDist1a ++ opsDist1b

/-- The stretch of layer 1 that picks. -/
def opsIdx1 : List (HloOp τ sig (Elt F)) :=
    argmaxOps (.of main_v153) main_call6
    ++ [ reshape main_v154 main_v155 (rfl : (.i32 : EltTy) = .i32) shapeCasts_S8192_S8x1024,
      unary main_arg7 main_v156 ((extractStridedSlice S1x1024x256 ![1, 0, 0] · slices_S4x1024x256_S1x1024x256_1_0_0) : Arr F S4x1024x256 .f32 → Arr F S1x1024x256 .f32),
      reshape main_v156 main_v157 (rfl : (.f32 : EltTy) = .f32) shapeCasts_S1x1024x256_S1024x256 ]

/-- The stretch of layer 1 that reads the picked rows. -/
def opsTake1 : List (HloOp τ sig (Elt F)) :=
    takeReadOps (.of main_v157) main_call7
    ++ [ unary main_v158 main_v159 ((transpose S8x256x1024 [0, 2, 1] · transposes_S8x1024x256_S8x256x1024_0_2_1) : Arr F S8x1024x256 .f32 → Arr F S8x256x1024 .f32) ]

/-- The stretch of layer 1 that picks and reads the picked rows. -/
def opsPick1 : List (HloOp τ sig (Elt F)) :=
    opsIdx1 ++ (takeWrapOps (.of main_v155) main_call7 ++ opsTake1)

/-- The stretch of layer 1 that adds to the losses. -/
def opsLoss1 : List (HloOp τ sig (Elt F)) :=
    [ binary main_v121 main_v159 main_v160 (subf : Arr F S8x256x1024 .f32 → Arr F S8x256x1024 .f32 → Arr F S8x256x1024 .f32),
      binary main_v160 main_v160 main_v161 (mulf : Arr F S8x256x1024 .f32 → Arr F S8x256x1024 .f32 → Arr F S8x256x1024 .f32),
      nullary main_cst_28 (constant S_ .f32 0x00000000#32),
      binary main_v161 main_cst_28 main_v162 ((fun x v => Host.reduceAdd x v reducesTo_S8x256x1024_S8_d1_2 h_S_) : Arr F S8x256x1024 .f32 → Arr F S_ .f32 → Arr F S8 .f32),
      nullary main_cst_29 (constant S_ .f32 0x48800000#32),
      unary main_cst_29 main_v163 (broadcastInDim S8 ![] bcast_S_S8 : Arr F S_ .f32 → Arr F S8 .f32),
      binary main_v162 main_v163 main_v164 (Host.divf : Arr F S8 .f32 → Arr F S8 .f32 → Arr F S8 .f32),
      nullary main_cst_30 (constant S_ .f32 0x00000000#32),
      binary main_v164 main_cst_30 main_v165 ((fun x v => Host.reduceAdd x v reducesTo_S8_S_d0 h_S_) : Arr F S8 .f32 → Arr F S_ .f32 → Arr F S_ .f32),
      nullary main_cst_31 (constant S_ .f32 0x41000000#32),
      binary main_v165 main_cst_31 main_v166 (Host.divf : Arr F S_ .f32 → Arr F S_ .f32 → Arr F S_ .f32),
      binary main_v67 main_v166 main_v167 (addf : Arr F S_ .f32 → Arr F S_ .f32 → Arr F S_ .f32),
      binary main_v159 main_v121 main_v168 (subf : Arr F S8x256x1024 .f32 → Arr F S8x256x1024 .f32 → Arr F S8x256x1024 .f32),
      binary main_v168 main_v168 main_v169 (mulf : Arr F S8x256x1024 .f32 → Arr F S8x256x1024 .f32 → Arr F S8x256x1024 .f32),
      nullary main_cst_32 (constant S_ .f32 0x00000000#32),
      binary main_v169 main_cst_32 main_v170 ((fun x v => Host.reduceAdd x v reducesTo_S8x256x1024_S8_d1_2 h_S_) : Arr F S8x256x1024 .f32 → Arr F S_ .f32 → Arr F S8 .f32),
      nullary main_cst_33 (constant S_ .f32 0x48800000#32),
      unary main_cst_33 main_v171 (broadcastInDim S8 ![] bcast_S_S8 : Arr F S_ .f32 → Arr F S8 .f32),
      binary main_v170 main_v171 main_v172 (Host.divf : Arr F S8 .f32 → Arr F S8 .f32 → Arr F S8 .f32),
      nullary main_cst_34 (constant S_ .f32 0x00000000#32),
      binary main_v172 main_cst_34 main_v173 ((fun x v => Host.reduceAdd x v reducesTo_S8_S_d0 h_S_) : Arr F S8 .f32 → Arr F S_ .f32 → Arr F S_ .f32),
      nullary main_cst_35 (constant S_ .f32 0x41000000#32),
      binary main_v173 main_cst_35 main_v174 (Host.divf : Arr F S_ .f32 → Arr F S_ .f32 → Arr F S_ .f32),
      binary main_v75 main_v174 main_v175 (addf : Arr F S_ .f32 → Arr F S_ .f32 → Arr F S_ .f32) ]

/-- The stretch of layer 1 that computes the output and the next residual. -/
def opsOut1 : List (HloOp τ sig (Elt F)) :=
    [ binary main_v159 main_v121 main_v176 (subf : Arr F S8x256x1024 .f32 → Arr F S8x256x1024 .f32 → Arr F S8x256x1024 .f32),
      binary main_v121 main_v176 main_v177 (addf : Arr F S8x256x1024 .f32 → Arr F S8x256x1024 .f32 → Arr F S8x256x1024 .f32),
      unary main_arg4 main_v178 ((extractStridedSlice S1x512x256 ![1, 0, 0] · slices_S4x512x256_S1x512x256_1_0_0) : Arr F S4x512x256 .f32 → Arr F S1x512x256 .f32),
      reshape main_v178 main_v179 (rfl : (.f32 : EltTy) = .f32) shapeCasts_S1x512x256_S512x256,
      unary main_arg5 main_v180 ((extractStridedSlice S1x512 ![1, 0] · slices_S4x512_S1x512_1_0) : Arr F S4x512 .f32 → Arr F S1x512 .f32),
      reshape main_v180 main_v181 (rfl : (.f32 : EltTy) = .f32) shapeCasts_S1x512_S512,
      binary main_v179 main_v179 main_v182 (mulf : Arr F S512x256 .f32 → Arr F S512x256 .f32 → Arr F S512x256 .f32),
      nullary main_cst_36 (constant S_ .f32 0x00000000#32),
      binary main_v182 main_cst_36 main_v183 ((fun x v => Host.reduceAdd x v reducesTo_S512x256_S512_d1 h_S_) : Arr F S512x256 .f32 → Arr F S_ .f32 → Arr F S512 .f32),
      unary main_v183 main_v184 (broadcastInDim S512x1 ![0] bcast_S512_S512x1_0 : Arr F S512 .f32 → Arr F S512x1 .f32),
      unary main_v184 main_v185 (Host.sqrt : Arr F S512x1 .f32 → Arr F S512x1 .f32),
      unary main_v181 main_v186 (broadcastInDim S512x1 ![0] bcast_S512_S512x1_0 : Arr F S512 .f32 → Arr F S512x1 .f32),
      nullary main_cst_37 (constant S_ .f32 0x2B8CBCCC#32),
      unary main_cst_37 main_v187 (broadcastInDim S512x1 ![] bcast_S_S512x1 : Arr F S_ .f32 → Arr F S512x1 .f32),
      binary main_v185 main_v187 main_v188 (maximumf : Arr F S512x1 .f32 → Arr F S512x1 .f32 → Arr F S512x1 .f32),
      binary main_v186 main_v188 main_v189 (Host.divf : Arr F S512x1 .f32 → Arr F S512x1 .f32 → Arr F S512x1 .f32),
      unary main_v189 main_v190 (broadcastInDim S512x256 ![0, 1] bcast_S512x1_S512x256_0_1 : Arr F S512x1 .f32 → Arr F S512x256 .f32),
      binary main_v179 main_v190 main_v191 (mulf : Arr F S512x256 .f32 → Arr F S512x256 .f32 → Arr F S512x256 .f32),
      binary main_v177 main_v191 main_v192 ((fun l r => Host.dotGeneral dot_S8x256x1024_S512x256_S8x1024x512_1_1_02_0_n_n none l r) : Arr F S8x256x1024 .f32 → Arr F S512x256 .f32 → Arr F S8x1024x512 .f32),
      unary main_v192 main_v193 ((transpose S8x512x1024 [0, 2, 1] · transposes_S8x1024x512_S8x512x1024_0_2_1) : Arr F S8x1024x512 .f32 → Arr F S8x512x1024 .f32),
      unary main_arg6 main_v194 ((extractStridedSlice S1x512 ![1, 0] · slices_S4x512_S1x512_1_0) : Arr F S4x512 .f32 → Arr F S1x512 .f32),
      reshape main_v194 main_v195 (rfl : (.f32 : EltTy) = .f32) shapeCasts_S1x512_S512,
      unary main_v195 main_v196 (broadcastInDim S1x512x1 ![1] bcast_S512_S1x512x1_1 : Arr F S512 .f32 → Arr F S1x512x1 .f32),
      unary main_v196 main_v197 (broadcastInDim S8x512x1024 ![0, 1, 2] bcast_S1x512x1_S8x512x1024_0_1_2 : Arr F S1x512x1 .f32 → Arr F S8x512x1024 .f32),
      binary main_v193 main_v197 main_v198 (addf : Arr F S8x512x1024 .f32 → Arr F S8x512x1024 .f32 → Arr F S8x512x1024 .f32),
      binary main_v99 main_v198 main_v199 (addf : Arr F S8x512x1024 .f32 → Arr F S8x512x1024 .f32 → Arr F S8x512x1024 .f32),
      binary main_v100 main_v198 main_v200 (subf : Arr F S8x512x1024 .f32 → Arr F S8x512x1024 .f32 → Arr F S8x512x1024 .f32) ]

/-- The stretch of layer 2 that projects. -/
def opsProj2 : List (HloOp τ sig (Elt F)) :=
    [ unary main_arg1 main_v201 ((extractStridedSlice S1x256x512 ![2, 0, 0] · slices_S4x256x512_S1x256x512_2_0_0) : Arr F S4x256x512 .f32 → Arr F S1x256x512 .f32),
      reshape main_v201 main_v202 (rfl : (.f32 : EltTy) = .f32) shapeCasts_S1x256x512_S256x512,
      unary main_arg2 main_v203 ((extractStridedSlice S1x256 ![2, 0] · slices_S4x256_S1x256_2_0) : Arr F S4x256 .f32 → Arr F S1x256 .f32),
      reshape main_v203 main_v204 (rfl : (.f32 : EltTy) = .f32) shapeCasts_S1x256_S256,
      binary main_v202 main_v202 main_v205 (mulf : Arr F S256x512 .f32 → Arr F S256x512 .f32 → Arr F S256x512 .f32),
      nullary main_cst_38 (constant S_ .f32 0x00000000#32),
      binary main_v205 main_cst_38 main_v206 ((fun x v => Host.reduceAdd x v reducesTo_S256x512_S256_d1 h_S_) : Arr F S256x512 .f32 → Arr F S_ .f32 → Arr F S256 .f32),
      unary main_v206 main_v207 (broadcastInDim S256x1 ![0] bcast_S256_S256x1_0 : Arr F S256 .f32 → Arr F S256x1 .f32),
      unary main_v207 main_v208 (Host.sqrt : Arr F S256x1 .f32 → Arr F S256x1 .f32),
      unary main_v204 main_v209 (broadcastInDim S256x1 ![0] bcast_S256_S256x1_0 : Arr F S256 .f32 → Arr F S256x1 .f32),
      nullary main_cst_39 (constant S_ .f32 0x2B8CBCCC#32),
      unary main_cst_39 main_v210 (broadcastInDim S256x1 ![] bcast_S_S256x1 : Arr F S_ .f32 → Arr F S256x1 .f32),
      binary main_v208 main_v210 main_v211 (maximumf : Arr F S256x1 .f32 → Arr F S256x1 .f32 → Arr F S256x1 .f32),
      binary main_v209 main_v211 main_v212 (Host.divf : Arr F S256x1 .f32 → Arr F S256x1 .f32 → Arr F S256x1 .f32),
      unary main_v212 main_v213 (broadcastInDim S256x512 ![0, 1] bcast_S256x1_S256x512_0_1 : Arr F S256x1 .f32 → Arr F S256x512 .f32),
      binary main_v202 main_v213 main_v214 (mulf : Arr F S256x512 .f32 → Arr F S256x512 .f32 → Arr F S256x512 .f32),
      binary main_v200 main_v214 main_v215 ((fun l r => Host.dotGeneral dot_S8x512x1024_S256x512_S8x1024x256_1_1_02_0_n_n none l r) : Arr F S8x512x1024 .f32 → Arr F S256x512 .f32 → Arr F S8x1024x256 .f32),
      unary main_v215 main_v216 ((transpose S8x256x1024 [0, 2, 1] · transposes_S8x1024x256_S8x256x1024_0_2_1) : Arr F S8x1024x256 .f32 → Arr F S8x256x1024 .f32),
      unary main_arg3 main_v217 ((extractStridedSlice S1x256 ![2, 0] · slices_S4x256_S1x256_2_0) : Arr F S4x256 .f32 → Arr F S1x256 .f32),
      reshape main_v217 main_v218 (rfl : (.f32 : EltTy) = .f32) shapeCasts_S1x256_S256,
      unary main_v218 main_v219 (broadcastInDim S1x256x1 ![1] bcast_S256_S1x256x1_1 : Arr F S256 .f32 → Arr F S1x256x1 .f32),
      unary main_v219 main_v220 (broadcastInDim S8x256x1024 ![0, 1, 2] bcast_S1x256x1_S8x256x1024_0_1_2 : Arr F S1x256x1 .f32 → Arr F S8x256x1024 .f32),
      binary main_v216 main_v220 main_v221 (addf : Arr F S8x256x1024 .f32 → Arr F S8x256x1024 .f32 → Arr F S8x256x1024 .f32),
      unary main_v221 main_v222 ((transpose S8x1024x256 [0, 2, 1] · transposes_S8x256x1024_S8x1024x256_0_2_1) : Arr F S8x256x1024 .f32 → Arr F S8x1024x256 .f32),
      reshape main_v222 main_v223 (rfl : (.f32 : EltTy) = .f32) shapeCasts_S8x1024x256_S8192x256 ]

/-- The stretch of layer 2 that computes the logits (its first part). -/
def opsDist2a : List (HloOp τ sig (Elt F)) :=
    normTokOps (.of main_v223) main_call8
    ++ [ nullary main_cst_40 (constant S_ .f32 0x2B8CBCCC#32),
      unary main_cst_40 main_v225 (broadcastInDim S8192x1 ![] bcast_S_S8192x1 : Arr F S_ .f32 → Arr F S8192x1 .f32),
      binary main_v224 main_v225 main_v226 (maximumf : Arr F S8192x1 .f32 → Arr F S8192x1 .f32 → Arr F S8192x1 .f32),
      unary main_v226 main_v227 (broadcastInDim S8192x256 ![0, 1] bcast_S8192x1_S8192x256_0_1 : Arr F S8192x1 .f32 → Arr F S8192x256 .f32),
      binary main_v223 main_v227 main_v228 (Host.divf : Arr F S8192x256 .f32 → Arr F S8192x256 .f32 → Arr F S8192x256 .f32),
      unary main_arg7 main_v229 ((extractStridedSlice S1x1024x256 ![2, 0, 0] · slices_S4x1024x256_S1x1024x256_2_0_0) : Arr F S4x1024x256 .f32 → Arr F S1x1024x256 .f32),
      reshape main_v229 main_v230 (rfl : (.f32 : EltTy) = .f32) shapeCasts_S1x1024x256_S1024x256 ]
    ++ normCodeOps (.of main_v230) main_call9
    ++ [ nullary main_cst_41 (constant S_ .f32 0x2B8CBCCC#32),
      unary main_cst_41 main_v232 (broadcastInDim S1024x1 ![] bcast_S_S1024x1 : Arr F S_ .f32 → Arr F S1024x1 .f32),
      binary main_v231 main_v232 main_v233 (maximumf : Arr F S1024x1 .f32 → Arr F S1024x1 .f32 → Arr F S1024x1 .f32),
      unary main_v233 main_v234 (broadcastInDim S1024x256 ![0, 1] bcast_S1024x1_S1024x256_0_1 : Arr F S1024x1 .f32 → Arr F S1024x256 .f32),
      binary main_v230 main_v234 main_v235 (Host.divf : Arr F S1024x256 .f32 → Arr F S1024x256 .f32 → Arr F S1024x256 .f32),
      binary main_v228 main_v228 main_v236 (mulf : Arr F S8192x256 .f32 → Arr F S8192x256 .f32 → Arr F S8192x256 .f32),
      nullary main_cst_42 (constant S_ .f32 0x00000000#32),
      binary main_v236 main_cst_42 main_v237 ((fun x v => Host.reduceAdd x v reducesTo_S8192x256_S8192_d1 h_S_) : Arr F S8192x256 .f32 → Arr F S_ .f32 → Arr F S8192 .f32),
      unary main_v237 main_v238 (broadcastInDim S8192x1 ![0] bcast_S8192_S8192x1_0 : Arr F S8192 .f32 → Arr F S8192x1 .f32),
      unary main_v235 main_v239 ((transpose S256x1024 [1, 0] · transposes_S1024x256_S256x1024_1_0) : Arr F S1024x256 .f32 → Arr F S256x1024 .f32),
      binary main_v228 main_v239 main_v240 ((fun l r => Host.dotGeneral dot_S8192x256_S256x1024_S8192x1024_1_0_0_1_n_n none l r) : Arr F S8192x256 .f32 → Arr F S256x1024 .f32 → Arr F S8192x1024 .f32),
      nullary main_cst_43 (constant S_ .f32 0x40000000#32),
      unary main_cst_43 main_v241 (broadcastInDim S8192x1024 ![] bcast_S_S8192x1024 : Arr F S_ .f32 → Arr F S8192x1024 .f32),
      binary main_v241 main_v240 main_v242 (mulf : Arr F S8192x1024 .f32 → Arr F S8192x1024 .f32 → Arr F S8192x1024 .f32),
      unary main_v238 main_v243 (broadcastInDim S8192x1024 ![0, 1] bcast_S8192x1_S8192x1024_0_1 : Arr F S8192x1 .f32 → Arr F S8192x1024 .f32),
      binary main_v243 main_v242 main_v244 (subf : Arr F S8192x1024 .f32 → Arr F S8192x1024 .f32 → Arr F S8192x1024 .f32),
      binary main_v235 main_v235 main_v245 (mulf : Arr F S1024x256 .f32 → Arr F S1024x256 .f32 → Arr F S1024x256 .f32),
      nullary main_cst_44 (constant S_ .f32 0x00000000#32),
      binary main_v245 main_cst_44 main_v246 ((fun x v => Host.reduceAdd x v reducesTo_S1024x256_S1024_d1 h_S_) : Arr F S1024x256 .f32 → Arr F S_ .f32 → Arr F S1024 .f32),
      unary main_v246 main_v247 (broadcastInDim S1x1024 ![1] bcast_S1024_S1x1024_1 : Arr F S1024 .f32 → Arr F S1x1024 .f32),
      unary main_v247 main_v248 (broadcastInDim S8192x1024 ![0, 1] bcast_S1x1024_S8192x1024_0_1 : Arr F S1x1024 .f32 → Arr F S8192x1024 .f32),
      binary main_v244 main_v248 main_v249 (addf : Arr F S8192x1024 .f32 → Arr F S8192x1024 .f32 → Arr F S8192x1024 .f32),
      unary main_v249 main_v250 (Host.negf : Arr F S8192x1024 .f32 → Arr F S8192x1024 .f32),
      nullary main_cst_45 (constant S_ .f32 0x3F800000#32),
      unary main_cst_45 main_v251 (broadcastInDim S8192x1024 ![] bcast_S_S8192x1024 : Arr F S_ .f32 → Arr F S8192x1024 .f32),
      binary main_v250 main_v251 main_v252 (Host.divf : Arr F S8192x1024 .f32 → Arr F S8192x1024 .f32 → Arr F S8192x1024 .f32) ]

/-- The stretch of layer 2 that computes the logits (its second part). -/
def opsDist2b : List (HloOp τ sig (Elt F)) :=
    [ unary main_v249 main_v253 (Host.negf : Arr F S8192x1024 .f32 → Arr F S8192x1024 .f32) ]

/-- The stretch of layer 2 that computes the logits. -/
def opsDist2 : List (HloOp τ sig (Elt F)) := opsDist2a ++ opsDist2b

/-- The stretch of layer 2 that picks. -/
def opsIdx2 : List (HloOp τ sig (Elt F)) :=
    argmaxOps (.of main_v253) main_call10
    ++ [ reshape main_v254 main_v255 (rfl : (.i32 : EltTy) = .i32) shapeCasts_S8192_S8x1024,
      unary main_arg7 main_v256 ((extractStridedSlice S1x1024x256 ![2, 0, 0] · slices_S4x1024x256_S1x1024x256_2_0_0) : Arr F S4x1024x256 .f32 → Arr F S1x1024x256 .f32),
      reshape main_v256 main_v257 (rfl : (.f32 : EltTy) = .f32) shapeCasts_S1x1024x256_S1024x256 ]

/-- The stretch of layer 2 that reads the picked rows. -/
def opsTake2 : List (HloOp τ sig (Elt F)) :=
    takeReadOps (.of main_v257) main_call11
    ++ [ unary main_v258 main_v259 ((transpose S8x256x1024 [0, 2, 1] · transposes_S8x1024x256_S8x256x1024_0_2_1) : Arr F S8x1024x256 .f32 → Arr F S8x256x1024 .f32) ]

/-- The stretch of layer 2 that picks and reads the picked rows. -/
def opsPick2 : List (HloOp τ sig (Elt F)) :=
    opsIdx2 ++ (takeWrapOps (.of main_v255) main_call11 ++ opsTake2)

/-- The stretch of layer 2 that adds to the losses. -/
def opsLoss2 : List (HloOp τ sig (Elt F)) :=
    [ binary main_v221 main_v259 main_v260 (subf : Arr F S8x256x1024 .f32 → Arr F S8x256x1024 .f32 → Arr F S8x256x1024 .f32),
      binary main_v260 main_v260 main_v261 (mulf : Arr F S8x256x1024 .f32 → Arr F S8x256x1024 .f32 → Arr F S8x256x1024 .f32),
      nullary main_cst_46 (constant S_ .f32 0x00000000#32),
      binary main_v261 main_cst_46 main_v262 ((fun x v => Host.reduceAdd x v reducesTo_S8x256x1024_S8_d1_2 h_S_) : Arr F S8x256x1024 .f32 → Arr F S_ .f32 → Arr F S8 .f32),
      nullary main_cst_47 (constant S_ .f32 0x48800000#32),
      unary main_cst_47 main_v263 (broadcastInDim S8 ![] bcast_S_S8 : Arr F S_ .f32 → Arr F S8 .f32),
      binary main_v262 main_v263 main_v264 (Host.divf : Arr F S8 .f32 → Arr F S8 .f32 → Arr F S8 .f32),
      nullary main_cst_48 (constant S_ .f32 0x00000000#32),
      binary main_v264 main_cst_48 main_v265 ((fun x v => Host.reduceAdd x v reducesTo_S8_S_d0 h_S_) : Arr F S8 .f32 → Arr F S_ .f32 → Arr F S_ .f32),
      nullary main_cst_49 (constant S_ .f32 0x41000000#32),
      binary main_v265 main_cst_49 main_v266 (Host.divf : Arr F S_ .f32 → Arr F S_ .f32 → Arr F S_ .f32),
      binary main_v167 main_v266 main_v267 (addf : Arr F S_ .f32 → Arr F S_ .f32 → Arr F S_ .f32),
      binary main_v259 main_v221 main_v268 (subf : Arr F S8x256x1024 .f32 → Arr F S8x256x1024 .f32 → Arr F S8x256x1024 .f32),
      binary main_v268 main_v268 main_v269 (mulf : Arr F S8x256x1024 .f32 → Arr F S8x256x1024 .f32 → Arr F S8x256x1024 .f32),
      nullary main_cst_50 (constant S_ .f32 0x00000000#32),
      binary main_v269 main_cst_50 main_v270 ((fun x v => Host.reduceAdd x v reducesTo_S8x256x1024_S8_d1_2 h_S_) : Arr F S8x256x1024 .f32 → Arr F S_ .f32 → Arr F S8 .f32),
      nullary main_cst_51 (constant S_ .f32 0x48800000#32),
      unary main_cst_51 main_v271 (broadcastInDim S8 ![] bcast_S_S8 : Arr F S_ .f32 → Arr F S8 .f32),
      binary main_v270 main_v271 main_v272 (Host.divf : Arr F S8 .f32 → Arr F S8 .f32 → Arr F S8 .f32),
      nullary main_cst_52 (constant S_ .f32 0x00000000#32),
      binary main_v272 main_cst_52 main_v273 ((fun x v => Host.reduceAdd x v reducesTo_S8_S_d0 h_S_) : Arr F S8 .f32 → Arr F S_ .f32 → Arr F S_ .f32),
      nullary main_cst_53 (constant S_ .f32 0x41000000#32),
      binary main_v273 main_cst_53 main_v274 (Host.divf : Arr F S_ .f32 → Arr F S_ .f32 → Arr F S_ .f32),
      binary main_v175 main_v274 main_v275 (addf : Arr F S_ .f32 → Arr F S_ .f32 → Arr F S_ .f32) ]

/-- The stretch of layer 2 that computes the output and the next residual. -/
def opsOut2 : List (HloOp τ sig (Elt F)) :=
    [ binary main_v259 main_v221 main_v276 (subf : Arr F S8x256x1024 .f32 → Arr F S8x256x1024 .f32 → Arr F S8x256x1024 .f32),
      binary main_v221 main_v276 main_v277 (addf : Arr F S8x256x1024 .f32 → Arr F S8x256x1024 .f32 → Arr F S8x256x1024 .f32),
      unary main_arg4 main_v278 ((extractStridedSlice S1x512x256 ![2, 0, 0] · slices_S4x512x256_S1x512x256_2_0_0) : Arr F S4x512x256 .f32 → Arr F S1x512x256 .f32),
      reshape main_v278 main_v279 (rfl : (.f32 : EltTy) = .f32) shapeCasts_S1x512x256_S512x256,
      unary main_arg5 main_v280 ((extractStridedSlice S1x512 ![2, 0] · slices_S4x512_S1x512_2_0) : Arr F S4x512 .f32 → Arr F S1x512 .f32),
      reshape main_v280 main_v281 (rfl : (.f32 : EltTy) = .f32) shapeCasts_S1x512_S512,
      binary main_v279 main_v279 main_v282 (mulf : Arr F S512x256 .f32 → Arr F S512x256 .f32 → Arr F S512x256 .f32),
      nullary main_cst_54 (constant S_ .f32 0x00000000#32),
      binary main_v282 main_cst_54 main_v283 ((fun x v => Host.reduceAdd x v reducesTo_S512x256_S512_d1 h_S_) : Arr F S512x256 .f32 → Arr F S_ .f32 → Arr F S512 .f32),
      unary main_v283 main_v284 (broadcastInDim S512x1 ![0] bcast_S512_S512x1_0 : Arr F S512 .f32 → Arr F S512x1 .f32),
      unary main_v284 main_v285 (Host.sqrt : Arr F S512x1 .f32 → Arr F S512x1 .f32),
      unary main_v281 main_v286 (broadcastInDim S512x1 ![0] bcast_S512_S512x1_0 : Arr F S512 .f32 → Arr F S512x1 .f32),
      nullary main_cst_55 (constant S_ .f32 0x2B8CBCCC#32),
      unary main_cst_55 main_v287 (broadcastInDim S512x1 ![] bcast_S_S512x1 : Arr F S_ .f32 → Arr F S512x1 .f32),
      binary main_v285 main_v287 main_v288 (maximumf : Arr F S512x1 .f32 → Arr F S512x1 .f32 → Arr F S512x1 .f32),
      binary main_v286 main_v288 main_v289 (Host.divf : Arr F S512x1 .f32 → Arr F S512x1 .f32 → Arr F S512x1 .f32),
      unary main_v289 main_v290 (broadcastInDim S512x256 ![0, 1] bcast_S512x1_S512x256_0_1 : Arr F S512x1 .f32 → Arr F S512x256 .f32),
      binary main_v279 main_v290 main_v291 (mulf : Arr F S512x256 .f32 → Arr F S512x256 .f32 → Arr F S512x256 .f32),
      binary main_v277 main_v291 main_v292 ((fun l r => Host.dotGeneral dot_S8x256x1024_S512x256_S8x1024x512_1_1_02_0_n_n none l r) : Arr F S8x256x1024 .f32 → Arr F S512x256 .f32 → Arr F S8x1024x512 .f32),
      unary main_v292 main_v293 ((transpose S8x512x1024 [0, 2, 1] · transposes_S8x1024x512_S8x512x1024_0_2_1) : Arr F S8x1024x512 .f32 → Arr F S8x512x1024 .f32),
      unary main_arg6 main_v294 ((extractStridedSlice S1x512 ![2, 0] · slices_S4x512_S1x512_2_0) : Arr F S4x512 .f32 → Arr F S1x512 .f32),
      reshape main_v294 main_v295 (rfl : (.f32 : EltTy) = .f32) shapeCasts_S1x512_S512,
      unary main_v295 main_v296 (broadcastInDim S1x512x1 ![1] bcast_S512_S1x512x1_1 : Arr F S512 .f32 → Arr F S1x512x1 .f32),
      unary main_v296 main_v297 (broadcastInDim S8x512x1024 ![0, 1, 2] bcast_S1x512x1_S8x512x1024_0_1_2 : Arr F S1x512x1 .f32 → Arr F S8x512x1024 .f32),
      binary main_v293 main_v297 main_v298 (addf : Arr F S8x512x1024 .f32 → Arr F S8x512x1024 .f32 → Arr F S8x512x1024 .f32),
      binary main_v199 main_v298 main_v299 (addf : Arr F S8x512x1024 .f32 → Arr F S8x512x1024 .f32 → Arr F S8x512x1024 .f32),
      binary main_v200 main_v298 main_v300 (subf : Arr F S8x512x1024 .f32 → Arr F S8x512x1024 .f32 → Arr F S8x512x1024 .f32) ]

/-- The stretch of layer 3 that projects (its first part). -/
def opsProj3a : List (HloOp τ sig (Elt F)) :=
    [ unary main_arg1 main_v301 ((extractStridedSlice S1x256x512 ![3, 0, 0] · slices_S4x256x512_S1x256x512_3_0_0) : Arr F S4x256x512 .f32 → Arr F S1x256x512 .f32),
      reshape main_v301 main_v302 (rfl : (.f32 : EltTy) = .f32) shapeCasts_S1x256x512_S256x512 ]

/-- The stretch of layer 3 that projects (its second part). -/
def opsProj3b : List (HloOp τ sig (Elt F)) :=
    [ unary main_arg2 main_v303 ((extractStridedSlice S1x256 ![3, 0] · slices_S4x256_S1x256_3_0) : Arr F S4x256 .f32 → Arr F S1x256 .f32),
      reshape main_v303 main_v304 (rfl : (.f32 : EltTy) = .f32) shapeCasts_S1x256_S256,
      binary main_v302 main_v302 main_v305 (mulf : Arr F S256x512 .f32 → Arr F S256x512 .f32 → Arr F S256x512 .f32),
      nullary main_cst_56 (constant S_ .f32 0x00000000#32),
      binary main_v305 main_cst_56 main_v306 ((fun x v => Host.reduceAdd x v reducesTo_S256x512_S256_d1 h_S_) : Arr F S256x512 .f32 → Arr F S_ .f32 → Arr F S256 .f32),
      unary main_v306 main_v307 (broadcastInDim S256x1 ![0] bcast_S256_S256x1_0 : Arr F S256 .f32 → Arr F S256x1 .f32),
      unary main_v307 main_v308 (Host.sqrt : Arr F S256x1 .f32 → Arr F S256x1 .f32),
      unary main_v304 main_v309 (broadcastInDim S256x1 ![0] bcast_S256_S256x1_0 : Arr F S256 .f32 → Arr F S256x1 .f32),
      nullary main_cst_57 (constant S_ .f32 0x2B8CBCCC#32),
      unary main_cst_57 main_v310 (broadcastInDim S256x1 ![] bcast_S_S256x1 : Arr F S_ .f32 → Arr F S256x1 .f32),
      binary main_v308 main_v310 main_v311 (maximumf : Arr F S256x1 .f32 → Arr F S256x1 .f32 → Arr F S256x1 .f32),
      binary main_v309 main_v311 main_v312 (Host.divf : Arr F S256x1 .f32 → Arr F S256x1 .f32 → Arr F S256x1 .f32),
      unary main_v312 main_v313 (broadcastInDim S256x512 ![0, 1] bcast_S256x1_S256x512_0_1 : Arr F S256x1 .f32 → Arr F S256x512 .f32),
      binary main_v302 main_v313 main_v314 (mulf : Arr F S256x512 .f32 → Arr F S256x512 .f32 → Arr F S256x512 .f32),
      binary main_v300 main_v314 main_v315 ((fun l r => Host.dotGeneral dot_S8x512x1024_S256x512_S8x1024x256_1_1_02_0_n_n none l r) : Arr F S8x512x1024 .f32 → Arr F S256x512 .f32 → Arr F S8x1024x256 .f32),
      unary main_v315 main_v316 ((transpose S8x256x1024 [0, 2, 1] · transposes_S8x1024x256_S8x256x1024_0_2_1) : Arr F S8x1024x256 .f32 → Arr F S8x256x1024 .f32),
      unary main_arg3 main_v317 ((extractStridedSlice S1x256 ![3, 0] · slices_S4x256_S1x256_3_0) : Arr F S4x256 .f32 → Arr F S1x256 .f32),
      reshape main_v317 main_v318 (rfl : (.f32 : EltTy) = .f32) shapeCasts_S1x256_S256,
      unary main_v318 main_v319 (broadcastInDim S1x256x1 ![1] bcast_S256_S1x256x1_1 : Arr F S256 .f32 → Arr F S1x256x1 .f32),
      unary main_v319 main_v320 (broadcastInDim S8x256x1024 ![0, 1, 2] bcast_S1x256x1_S8x256x1024_0_1_2 : Arr F S1x256x1 .f32 → Arr F S8x256x1024 .f32),
      binary main_v316 main_v320 main_v321 (addf : Arr F S8x256x1024 .f32 → Arr F S8x256x1024 .f32 → Arr F S8x256x1024 .f32),
      unary main_v321 main_v322 ((transpose S8x1024x256 [0, 2, 1] · transposes_S8x256x1024_S8x1024x256_0_2_1) : Arr F S8x256x1024 .f32 → Arr F S8x1024x256 .f32),
      reshape main_v322 main_v323 (rfl : (.f32 : EltTy) = .f32) shapeCasts_S8x1024x256_S8192x256 ]

/-- The stretch of layer 3 that projects. -/
def opsProj3 : List (HloOp τ sig (Elt F)) := opsProj3a ++ opsProj3b

/-- The stretch of layer 3 that computes the logits. -/
def opsDist3 : List (HloOp τ sig (Elt F)) :=
    normTokOps (.of main_v323) main_call12
    ++ [ nullary main_cst_58 (constant S_ .f32 0x2B8CBCCC#32),
      unary main_cst_58 main_v325 (broadcastInDim S8192x1 ![] bcast_S_S8192x1 : Arr F S_ .f32 → Arr F S8192x1 .f32),
      binary main_v324 main_v325 main_v326 (maximumf : Arr F S8192x1 .f32 → Arr F S8192x1 .f32 → Arr F S8192x1 .f32),
      unary main_v326 main_v327 (broadcastInDim S8192x256 ![0, 1] bcast_S8192x1_S8192x256_0_1 : Arr F S8192x1 .f32 → Arr F S8192x256 .f32),
      binary main_v323 main_v327 main_v328 (Host.divf : Arr F S8192x256 .f32 → Arr F S8192x256 .f32 → Arr F S8192x256 .f32),
      unary main_arg7 main_v329 ((extractStridedSlice S1x1024x256 ![3, 0, 0] · slices_S4x1024x256_S1x1024x256_3_0_0) : Arr F S4x1024x256 .f32 → Arr F S1x1024x256 .f32),
      reshape main_v329 main_v330 (rfl : (.f32 : EltTy) = .f32) shapeCasts_S1x1024x256_S1024x256 ]
    ++ normCodeOps (.of main_v330) main_call13
    ++ [ nullary main_cst_59 (constant S_ .f32 0x2B8CBCCC#32),
      unary main_cst_59 main_v332 (broadcastInDim S1024x1 ![] bcast_S_S1024x1 : Arr F S_ .f32 → Arr F S1024x1 .f32),
      binary main_v331 main_v332 main_v333 (maximumf : Arr F S1024x1 .f32 → Arr F S1024x1 .f32 → Arr F S1024x1 .f32),
      unary main_v333 main_v334 (broadcastInDim S1024x256 ![0, 1] bcast_S1024x1_S1024x256_0_1 : Arr F S1024x1 .f32 → Arr F S1024x256 .f32),
      binary main_v330 main_v334 main_v335 (Host.divf : Arr F S1024x256 .f32 → Arr F S1024x256 .f32 → Arr F S1024x256 .f32),
      binary main_v328 main_v328 main_v336 (mulf : Arr F S8192x256 .f32 → Arr F S8192x256 .f32 → Arr F S8192x256 .f32),
      nullary main_cst_60 (constant S_ .f32 0x00000000#32),
      binary main_v336 main_cst_60 main_v337 ((fun x v => Host.reduceAdd x v reducesTo_S8192x256_S8192_d1 h_S_) : Arr F S8192x256 .f32 → Arr F S_ .f32 → Arr F S8192 .f32),
      unary main_v337 main_v338 (broadcastInDim S8192x1 ![0] bcast_S8192_S8192x1_0 : Arr F S8192 .f32 → Arr F S8192x1 .f32),
      unary main_v335 main_v339 ((transpose S256x1024 [1, 0] · transposes_S1024x256_S256x1024_1_0) : Arr F S1024x256 .f32 → Arr F S256x1024 .f32),
      binary main_v328 main_v339 main_v340 ((fun l r => Host.dotGeneral dot_S8192x256_S256x1024_S8192x1024_1_0_0_1_n_n none l r) : Arr F S8192x256 .f32 → Arr F S256x1024 .f32 → Arr F S8192x1024 .f32),
      nullary main_cst_61 (constant S_ .f32 0x40000000#32),
      unary main_cst_61 main_v341 (broadcastInDim S8192x1024 ![] bcast_S_S8192x1024 : Arr F S_ .f32 → Arr F S8192x1024 .f32),
      binary main_v341 main_v340 main_v342 (mulf : Arr F S8192x1024 .f32 → Arr F S8192x1024 .f32 → Arr F S8192x1024 .f32),
      unary main_v338 main_v343 (broadcastInDim S8192x1024 ![0, 1] bcast_S8192x1_S8192x1024_0_1 : Arr F S8192x1 .f32 → Arr F S8192x1024 .f32),
      binary main_v343 main_v342 main_v344 (subf : Arr F S8192x1024 .f32 → Arr F S8192x1024 .f32 → Arr F S8192x1024 .f32),
      binary main_v335 main_v335 main_v345 (mulf : Arr F S1024x256 .f32 → Arr F S1024x256 .f32 → Arr F S1024x256 .f32),
      nullary main_cst_62 (constant S_ .f32 0x00000000#32),
      binary main_v345 main_cst_62 main_v346 ((fun x v => Host.reduceAdd x v reducesTo_S1024x256_S1024_d1 h_S_) : Arr F S1024x256 .f32 → Arr F S_ .f32 → Arr F S1024 .f32),
      unary main_v346 main_v347 (broadcastInDim S1x1024 ![1] bcast_S1024_S1x1024_1 : Arr F S1024 .f32 → Arr F S1x1024 .f32),
      unary main_v347 main_v348 (broadcastInDim S8192x1024 ![0, 1] bcast_S1x1024_S8192x1024_0_1 : Arr F S1x1024 .f32 → Arr F S8192x1024 .f32),
      binary main_v344 main_v348 main_v349 (addf : Arr F S8192x1024 .f32 → Arr F S8192x1024 .f32 → Arr F S8192x1024 .f32),
      unary main_v349 main_v350 (Host.negf : Arr F S8192x1024 .f32 → Arr F S8192x1024 .f32),
      nullary main_cst_63 (constant S_ .f32 0x3F800000#32),
      unary main_cst_63 main_v351 (broadcastInDim S8192x1024 ![] bcast_S_S8192x1024 : Arr F S_ .f32 → Arr F S8192x1024 .f32),
      binary main_v350 main_v351 main_v352 (Host.divf : Arr F S8192x1024 .f32 → Arr F S8192x1024 .f32 → Arr F S8192x1024 .f32),
      unary main_v349 main_v353 (Host.negf : Arr F S8192x1024 .f32 → Arr F S8192x1024 .f32) ]

/-- The stretch of layer 3 that picks and reads the picked rows (its first part). -/
def opsPick3a : List (HloOp τ sig (Elt F)) :=
    argmaxOps (.of main_v353) main_call14

/-- The stretch of layer 3 that picks (its second part). -/
def opsIdx3b : List (HloOp τ sig (Elt F)) :=
    [ reshape main_v354 main_v355 (rfl : (.i32 : EltTy) = .i32) shapeCasts_S8192_S8x1024,
      unary main_arg7 main_v356 ((extractStridedSlice S1x1024x256 ![3, 0, 0] · slices_S4x1024x256_S1x1024x256_3_0_0) : Arr F S4x1024x256 .f32 → Arr F S1x1024x256 .f32),
      reshape main_v356 main_v357 (rfl : (.f32 : EltTy) = .f32) shapeCasts_S1x1024x256_S1024x256 ]

/-- The stretch of layer 3 that reads the picked rows. -/
def opsTake3 : List (HloOp τ sig (Elt F)) :=
    takeReadOps (.of main_v357) main_call15
    ++ [ unary main_v358 main_v359 ((transpose S8x256x1024 [0, 2, 1] · transposes_S8x1024x256_S8x256x1024_0_2_1) : Arr F S8x1024x256 .f32 → Arr F S8x256x1024 .f32) ]

/-- The stretch of layer 3 that picks and reads the picked rows (its second part). -/
def opsPick3b : List (HloOp τ sig (Elt F)) :=
    opsIdx3b ++ (takeWrapOps (.of main_v355) main_call15 ++ opsTake3)

/-- The stretch of layer 3 that picks and reads the picked rows. -/
def opsPick3 : List (HloOp τ sig (Elt F)) := opsPick3a ++ opsPick3b

/-- The index and the codebook of layer 3. -/
def opsIdx3 : List (HloOp τ sig (Elt F)) := opsPick3a ++ opsIdx3b

/-- The stretch of layer 3 that adds to the losses. -/
def opsLoss3 : List (HloOp τ sig (Elt F)) :=
    [ binary main_v321 main_v359 main_v360 (subf : Arr F S8x256x1024 .f32 → Arr F S8x256x1024 .f32 → Arr F S8x256x1024 .f32),
      binary main_v360 main_v360 main_v361 (mulf : Arr F S8x256x1024 .f32 → Arr F S8x256x1024 .f32 → Arr F S8x256x1024 .f32),
      nullary main_cst_64 (constant S_ .f32 0x00000000#32),
      binary main_v361 main_cst_64 main_v362 ((fun x v => Host.reduceAdd x v reducesTo_S8x256x1024_S8_d1_2 h_S_) : Arr F S8x256x1024 .f32 → Arr F S_ .f32 → Arr F S8 .f32),
      nullary main_cst_65 (constant S_ .f32 0x48800000#32),
      unary main_cst_65 main_v363 (broadcastInDim S8 ![] bcast_S_S8 : Arr F S_ .f32 → Arr F S8 .f32),
      binary main_v362 main_v363 main_v364 (Host.divf : Arr F S8 .f32 → Arr F S8 .f32 → Arr F S8 .f32),
      nullary main_cst_66 (constant S_ .f32 0x00000000#32),
      binary main_v364 main_cst_66 main_v365 ((fun x v => Host.reduceAdd x v reducesTo_S8_S_d0 h_S_) : Arr F S8 .f32 → Arr F S_ .f32 → Arr F S_ .f32),
      nullary main_cst_67 (constant S_ .f32 0x41000000#32),
      binary main_v365 main_cst_67 main_v366 (Host.divf : Arr F S_ .f32 → Arr F S_ .f32 → Arr F S_ .f32),
      binary main_v267 main_v366 main_v367 (addf : Arr F S_ .f32 → Arr F S_ .f32 → Arr F S_ .f32),
      binary main_v359 main_v321 main_v368 (subf : Arr F S8x256x1024 .f32 → Arr F S8x256x1024 .f32 → Arr F S8x256x1024 .f32),
      binary main_v368 main_v368 main_v369 (mulf : Arr F S8x256x1024 .f32 → Arr F S8x256x1024 .f32 → Arr F S8x256x1024 .f32),
      nullary main_cst_68 (constant S_ .f32 0x00000000#32),
      binary main_v369 main_cst_68 main_v370 ((fun x v => Host.reduceAdd x v reducesTo_S8x256x1024_S8_d1_2 h_S_) : Arr F S8x256x1024 .f32 → Arr F S_ .f32 → Arr F S8 .f32),
      nullary main_cst_69 (constant S_ .f32 0x48800000#32),
      unary main_cst_69 main_v371 (broadcastInDim S8 ![] bcast_S_S8 : Arr F S_ .f32 → Arr F S8 .f32),
      binary main_v370 main_v371 main_v372 (Host.divf : Arr F S8 .f32 → Arr F S8 .f32 → Arr F S8 .f32),
      nullary main_cst_70 (constant S_ .f32 0x00000000#32),
      binary main_v372 main_cst_70 main_v373 ((fun x v => Host.reduceAdd x v reducesTo_S8_S_d0 h_S_) : Arr F S8 .f32 → Arr F S_ .f32 → Arr F S_ .f32),
      nullary main_cst_71 (constant S_ .f32 0x41000000#32),
      binary main_v373 main_cst_71 main_v374 (Host.divf : Arr F S_ .f32 → Arr F S_ .f32 → Arr F S_ .f32),
      binary main_v275 main_v374 main_v375 (addf : Arr F S_ .f32 → Arr F S_ .f32 → Arr F S_ .f32) ]

/-- The stretch of layer 3 that computes the output and the next residual. -/
def opsOut3 : List (HloOp τ sig (Elt F)) :=
    [ binary main_v359 main_v321 main_v376 (subf : Arr F S8x256x1024 .f32 → Arr F S8x256x1024 .f32 → Arr F S8x256x1024 .f32),
      binary main_v321 main_v376 main_v377 (addf : Arr F S8x256x1024 .f32 → Arr F S8x256x1024 .f32 → Arr F S8x256x1024 .f32),
      unary main_arg4 main_v378 ((extractStridedSlice S1x512x256 ![3, 0, 0] · slices_S4x512x256_S1x512x256_3_0_0) : Arr F S4x512x256 .f32 → Arr F S1x512x256 .f32),
      reshape main_v378 main_v379 (rfl : (.f32 : EltTy) = .f32) shapeCasts_S1x512x256_S512x256,
      unary main_arg5 main_v380 ((extractStridedSlice S1x512 ![3, 0] · slices_S4x512_S1x512_3_0) : Arr F S4x512 .f32 → Arr F S1x512 .f32),
      reshape main_v380 main_v381 (rfl : (.f32 : EltTy) = .f32) shapeCasts_S1x512_S512,
      binary main_v379 main_v379 main_v382 (mulf : Arr F S512x256 .f32 → Arr F S512x256 .f32 → Arr F S512x256 .f32),
      nullary main_cst_72 (constant S_ .f32 0x00000000#32),
      binary main_v382 main_cst_72 main_v383 ((fun x v => Host.reduceAdd x v reducesTo_S512x256_S512_d1 h_S_) : Arr F S512x256 .f32 → Arr F S_ .f32 → Arr F S512 .f32),
      unary main_v383 main_v384 (broadcastInDim S512x1 ![0] bcast_S512_S512x1_0 : Arr F S512 .f32 → Arr F S512x1 .f32),
      unary main_v384 main_v385 (Host.sqrt : Arr F S512x1 .f32 → Arr F S512x1 .f32),
      unary main_v381 main_v386 (broadcastInDim S512x1 ![0] bcast_S512_S512x1_0 : Arr F S512 .f32 → Arr F S512x1 .f32),
      nullary main_cst_73 (constant S_ .f32 0x2B8CBCCC#32),
      unary main_cst_73 main_v387 (broadcastInDim S512x1 ![] bcast_S_S512x1 : Arr F S_ .f32 → Arr F S512x1 .f32),
      binary main_v385 main_v387 main_v388 (maximumf : Arr F S512x1 .f32 → Arr F S512x1 .f32 → Arr F S512x1 .f32),
      binary main_v386 main_v388 main_v389 (Host.divf : Arr F S512x1 .f32 → Arr F S512x1 .f32 → Arr F S512x1 .f32),
      unary main_v389 main_v390 (broadcastInDim S512x256 ![0, 1] bcast_S512x1_S512x256_0_1 : Arr F S512x1 .f32 → Arr F S512x256 .f32),
      binary main_v379 main_v390 main_v391 (mulf : Arr F S512x256 .f32 → Arr F S512x256 .f32 → Arr F S512x256 .f32),
      binary main_v377 main_v391 main_v392 ((fun l r => Host.dotGeneral dot_S8x256x1024_S512x256_S8x1024x512_1_1_02_0_n_n none l r) : Arr F S8x256x1024 .f32 → Arr F S512x256 .f32 → Arr F S8x1024x512 .f32),
      unary main_v392 main_v393 ((transpose S8x512x1024 [0, 2, 1] · transposes_S8x1024x512_S8x512x1024_0_2_1) : Arr F S8x1024x512 .f32 → Arr F S8x512x1024 .f32),
      unary main_arg6 main_v394 ((extractStridedSlice S1x512 ![3, 0] · slices_S4x512_S1x512_3_0) : Arr F S4x512 .f32 → Arr F S1x512 .f32),
      reshape main_v394 main_v395 (rfl : (.f32 : EltTy) = .f32) shapeCasts_S1x512_S512,
      unary main_v395 main_v396 (broadcastInDim S1x512x1 ![1] bcast_S512_S1x512x1_1 : Arr F S512 .f32 → Arr F S1x512x1 .f32),
      unary main_v396 main_v397 (broadcastInDim S8x512x1024 ![0, 1, 2] bcast_S1x512x1_S8x512x1024_0_1_2 : Arr F S1x512x1 .f32 → Arr F S8x512x1024 .f32),
      binary main_v393 main_v397 main_v398 (addf : Arr F S8x512x1024 .f32 → Arr F S8x512x1024 .f32 → Arr F S8x512x1024 .f32),
      binary main_v299 main_v398 main_v399 (addf : Arr F S8x512x1024 .f32 → Arr F S8x512x1024 .f32 → Arr F S8x512x1024 .f32),
      binary main_v300 main_v398 main_v400 (subf : Arr F S8x512x1024 .f32 → Arr F S8x512x1024 .f32 → Arr F S8x512x1024 .f32) ]

/-- The first of the operations after the last layer. -/
def opsStacka : List (HloOp τ sig (Elt F)) :=
    [ unary main_v55 main_v401 (broadcastInDim S8x1x1024 ![0, 2] bcast_S8x1024_S8x1x1024_0_2 : Arr F S8x1024 .i32 → Arr F S8x1x1024 .i32),
      unary main_v155 main_v402 (broadcastInDim S8x1x1024 ![0, 2] bcast_S8x1024_S8x1x1024_0_2 : Arr F S8x1024 .i32 → Arr F S8x1x1024 .i32),
      unary main_v255 main_v403 (broadcastInDim S8x1x1024 ![0, 2] bcast_S8x1024_S8x1x1024_0_2 : Arr F S8x1024 .i32 → Arr F S8x1x1024 .i32),
      unary main_v355 main_v404 (broadcastInDim S8x1x1024 ![0, 2] bcast_S8x1024_S8x1x1024_0_2 : Arr F S8x1024 .i32 → Arr F S8x1x1024 .i32) ]

/-- The rest of the operations after the last layer. -/
def opsStackb : List (HloOp τ sig (Elt F)) :=
    [ nary ![main_v401, main_v402, main_v403, main_v404] main_v405 (fun u => (concatenate S8x4x1024 1 [⟨S8x1x1024, (u 0 : Arr F S8x1x1024 .i32)⟩, ⟨S8x1x1024, (u 1 : Arr F S8x1x1024 .i32)⟩, ⟨S8x1x1024, (u 2 : Arr F S8x1x1024 .i32)⟩, ⟨S8x1x1024, (u 3 : Arr F S8x1x1024 .i32)⟩] concatenates_S8x1x1024_S8x1x1024_S8x1x1024_S8x1x1024_S8x4x1024_d1 : Arr F S8x4x1024 .i32)),
      unary main_v52 main_v406 (broadcastInDim S8192x1x1024 ![0, 2] bcast_S8192x1024_S8192x1x1024_0_2 : Arr F S8192x1024 .f32 → Arr F S8192x1x1024 .f32),
      unary main_v152 main_v407 (broadcastInDim S8192x1x1024 ![0, 2] bcast_S8192x1024_S8192x1x1024_0_2 : Arr F S8192x1024 .f32 → Arr F S8192x1x1024 .f32),
      unary main_v252 main_v408 (broadcastInDim S8192x1x1024 ![0, 2] bcast_S8192x1024_S8192x1x1024_0_2 : Arr F S8192x1024 .f32 → Arr F S8192x1x1024 .f32),
      unary main_v352 main_v409 (broadcastInDim S8192x1x1024 ![0, 2] bcast_S8192x1024_S8192x1x1024_0_2 : Arr F S8192x1024 .f32 → Arr F S8192x1x1024 .f32),
      nary ![main_v406, main_v407, main_v408, main_v409] main_v410 (fun u => (concatenate S8192x4x1024 1 [⟨S8192x1x1024, (u 0 : Arr F S8192x1x1024 .f32)⟩, ⟨S8192x1x1024, (u 1 : Arr F S8192x1x1024 .f32)⟩, ⟨S8192x1x1024, (u 2 : Arr F S8192x1x1024 .f32)⟩, ⟨S8192x1x1024, (u 3 : Arr F S8192x1x1024 .f32)⟩] concatenates_S8192x1x1024_S8192x1x1024_S8192x1x1024_S8192x1x1024_S8192x4x1024_d1 : Arr F S8192x4x1024 .f32)) ]

/-- The operations after the last layer: the stacks. -/
def opsStack : List (HloOp τ sig (Elt F)) := opsStacka ++ opsStackb

end Cert.Ref

end
-- ==== Proof.RefRun.lean ====
/-
  The reference's run: @main is its list of operations, so every weakly fair execution terminates with each buffer at
  what the list leaves there from the launch contents.
-/
module

public import proofs.«01_k».proof.Proof.RefOps
public import Idealize.ShloMosaic.Lib.StableHlo.RunRead

@[expose] public section

set_option maxRecDepth 8192

noncomputable section

namespace Cert.Ref

open Cert.ReferenceIdeal Cert.ReferenceIdeal.Gen Idealize.ShloMosaic Idealize.ShloMosaic.TcCoe Idealize.SL.Sem
  Idealize.ShloMosaic.StableHlo

variable {F : FTy → Type} [FloatOps F]

/-- The operations of layer `l`. -/
def opsLayer0 : List (HloOp τ sig (Elt F)) := opsProj0 ++ (opsDist0 ++ (opsPick0 ++ (opsLoss0 ++ opsOut0)))
/-- The operations of layer 1. -/
def opsLayer1 : List (HloOp τ sig (Elt F)) := opsProj1 ++ (opsDist1 ++ (opsPick1 ++ (opsLoss1 ++ opsOut1)))
/-- The operations of layer 2. -/
def opsLayer2 : List (HloOp τ sig (Elt F)) := opsProj2 ++ (opsDist2 ++ (opsPick2 ++ (opsLoss2 ++ opsOut2)))
/-- The operations of layer 3. -/
def opsLayer3 : List (HloOp τ sig (Elt F)) := opsProj3 ++ (opsDist3 ++ (opsPick3 ++ (opsLoss3 ++ opsOut3)))

/-- The whole of @main: the zero output, the four layers, the stacking of the indices and the logits. -/
def ops : List (HloOp τ sig (Elt F)) :=
  opsInit ++ (opsLayer0 ++ (opsLayer1 ++ (opsLayer2 ++ (opsLayer3 ++ opsStack))))

set_option maxHeartbeats 4000000 in
/-- Part 0 of @main is its stretches, in order. -/
theorem part0_eq (c : Dev nD) : main_part0 (F := F) c = seq (opsInit ++ (opsProj0 ++ opsDist0a)) := rfl
set_option maxHeartbeats 4000000 in
/-- Part 1 of @main is its stretches, in order. -/
theorem part1_eq (c : Dev nD) :
    main_part1 (F := F) c = seq (opsDist0b ++ (opsPick0 ++ (opsLoss0 ++ opsOut0a))) := rfl
set_option maxHeartbeats 4000000 in
/-- Part 2 of @main is its stretches, in order. -/
theorem part2_eq (c : Dev nD) : main_part2 (F := F) c = seq (opsOut0b ++ (opsProj1 ++ opsDist1a)) := rfl
set_option maxHeartbeats 4000000 in
/-- Part 3 of @main is its stretches, in order. -/
theorem part3_eq (c : Dev nD) :
    main_part3 (F := F) c = seq (opsDist1b ++ (opsPick1 ++ (opsLoss1 ++ opsOut1))) := rfl
set_option maxHeartbeats 4000000 in
/-- Part 4 of @main is its stretches, in order. -/
theorem part4_eq (c : Dev nD) : main_part4 (F := F) c = seq (opsProj2 ++ opsDist2a) := rfl
set_option maxHeartbeats 4000000 in
/-- Part 5 of @main is its stretches, in order. -/
theorem part5_eq (c : Dev nD) :
    main_part5 (F := F) c = seq (opsDist2b ++ (opsPick2 ++ (opsLoss2 ++ (opsOut2 ++ opsProj3a)))) := rfl
set_option maxHeartbeats 4000000 in
/-- Part 6 of @main is its stretches, in order. -/
theorem part6_eq (c : Dev nD) : main_part6 (F := F) c = seq (opsProj3b ++ (opsDist3 ++ opsPick3a)) := rfl
set_option maxHeartbeats 4000000 in
/-- Part 7 of @main is its stretches, in order. -/
theorem part7_eq (c : Dev nD) :
    main_part7 (F := F) c = seq (opsPick3b ++ (opsLoss3 ++ (opsOut3 ++ opsStacka))) := rfl
set_option maxHeartbeats 4000000 in
/-- Part 8 of @main is its stretches, in order. -/
theorem part8_eq (c : Dev nD) : main_part8 (F := F) c = seq opsStackb := rfl

/-- @main runs its list. -/
theorem main_eq (c : Dev nD) : main (F := F) c = seq ops := by
  have h : main (F := F) c = (main_part0 (F := F) c >>= fun _ => main_part1 c >>= fun _ => main_part2 c >>= fun _ =>
    main_part3 c >>= fun _ => main_part4 c >>= fun _ => main_part5 c >>= fun _ => main_part6 c >>= fun _ =>
    main_part7 c >>= fun _ => main_part8 c) := rfl
  rw [h, part0_eq, part1_eq, part2_eq, part3_eq, part4_eq, part5_eq, part6_eq, part7_eq, part8_eq]
  simp only [ops, opsLayer0, opsLayer1, opsLayer2, opsLayer3, opsDist0, opsOut0, opsDist1, opsDist2, opsProj3, opsPick3,
    opsStack, seq_append, List.append_assoc]
  rfl

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- An operation that touches only the device's own buffers and writes none of them fresh. -/
def Plain (op : HloOp τ sig (Elt F)) : Prop := op.bufs ⊆ tcRefs τ sig ∧ op.fresh = ∅

/-- Every operation of a list is plain. -/
def AllPlain (l : List (HloOp τ sig (Elt F))) : Prop := ∀ op ∈ l, Plain op

/-- The empty list is plain. -/
theorem AllPlain.nil : AllPlain ([] : List (HloOp τ sig (Elt F))) := fun _ h => nomatch h

/-- A plain operation before a plain list. -/
theorem AllPlain.cons {op : HloOp τ sig (Elt F)} {l} (hb : op.bufs ⊆ tcRefs τ sig) (hf : op.fresh = ∅) (hl : AllPlain l) :
    AllPlain (op :: l) := fun o h => by
  rcases List.mem_cons.1 h with rfl | h
  · exact ⟨hb, hf⟩
  · exact hl o h

/-- Two plain lists, one after the other. -/
theorem AllPlain.append {l₁ l₂ : List (HloOp τ sig (Elt F))} (h₁ : AllPlain l₁) (h₂ : AllPlain l₂) :
    AllPlain (l₁ ++ l₂) := fun o h => (List.mem_append.1 h).elim (h₁ o) (h₂ o)

section Kinds

variable {l : List (HloOp τ sig (Elt F))}

/-- Each kind of operation in the list is plain. -/
theorem AllPlain.nullary {y : Ref sig .tc} {v hy} (h : AllPlain l) : AllPlain (StableHlo.nullary y v hy :: l) :=
  .cons (nullary_bufs_sub ..) rfl h
/-- An operation of one operand before a plain list. -/
theorem AllPlain.unary {x y : Ref sig .tc} {f hx hy} (h : AllPlain l) : AllPlain (StableHlo.unary x y f hx hy :: l) :=
  .cons (unary_bufs_sub ..) rfl h
/-- An operation of two operands before a plain list. -/
theorem AllPlain.binary {a b y : Ref sig .tc} {f ha hb hy} (h : AllPlain l) :
    AllPlain (StableHlo.binary a b y f ha hb hy :: l) :=
  .cons (binary_bufs_sub ..) rfl h
/-- A reshape before a plain list. -/
theorem AllPlain.reshape {x y : Ref sig .tc} {he hn hx hy} (h : AllPlain l) :
    AllPlain (StableHlo.reshape x y he hn hx hy :: l) :=
  .cons (reshape_bufs_sub ..) rfl h
/-- An operation of a list of operands before a plain list. -/
theorem AllPlain.nary {n : ℕ} {xs : Fin n → Ref sig .tc} {y : Ref sig .tc} {f hx hy} (h : AllPlain l) :
    AllPlain (StableHlo.nary xs y f hx hy :: l) :=
  .cons (nary_bufs_sub ..) rfl h
/-- A typed constant before a plain list. -/
theorem AllPlain.tnullary {T : BufTy} {y : TRef sig T} {v} (h : AllPlain l) : AllPlain (TRef.nullary y v :: l) :=
  .cons (nullary_bufs_sub ..) rfl h
/-- A typed operation of one operand before a plain list. -/
theorem AllPlain.tunary {T U : BufTy} {x : TRef sig T} {y : TRef sig U} {f} (h : AllPlain l) :
    AllPlain (TRef.unary x y f :: l) :=
  .cons (unary_bufs_sub ..) rfl h
/-- A typed operation of two operands before a plain list. -/
theorem AllPlain.tbinary {A B U : BufTy} {a : TRef sig A} {b : TRef sig B} {y : TRef sig U} {f} (h : AllPlain l) :
    AllPlain (TRef.binary a b y f :: l) :=
  .cons (binary_bufs_sub ..) rfl h
/-- A typed operation of three operands before a plain list. -/
theorem AllPlain.tternary {A B C U : BufTy} {a : TRef sig A} {b : TRef sig B} {c : TRef sig C} {y : TRef sig U} {f}
    (h : AllPlain l) : AllPlain (TRef.ternary a b c y f :: l) :=
  .cons (ternary_bufs_sub ..) rfl h
/-- A typed operation of four operands before a plain list. -/
theorem AllPlain.tquaternary {A B C D U : BufTy} {a : TRef sig A} {b : TRef sig B} {c : TRef sig C} {d : TRef sig D}
    {y : TRef sig U} {f} (h : AllPlain l) : AllPlain (TRef.quaternary a b c d y f :: l) :=
  .cons (quaternary_bufs_sub ..) rfl h

end Kinds

set_option maxHeartbeats 4000000 in
/-- Every operation of @main is plain. -/
theorem ops_plain : AllPlain (ops : List (HloOp τ sig (Elt F))) := by
  unfold ops opsLayer0 opsLayer1 opsLayer2 opsLayer3 opsInit opsDist0 opsOut0 opsDist1 opsDist2 opsProj3 opsPick3 opsStack
  repeat' with_reducible apply AllPlain.append
  all_goals
    first
      | unfold opsProj0 | unfold opsDist0a | unfold opsDist0b | unfold opsPick0 opsIdx0 opsTake0 takeWrapOps takeReadOps | unfold opsLoss0 | unfold opsOut0a
      | unfold opsOut0b | unfold opsProj1 | unfold opsDist1a | unfold opsDist1b | unfold opsPick1 opsIdx1 opsTake1 takeWrapOps takeReadOps | unfold opsLoss1
      | unfold opsOut1 | unfold opsProj2 | unfold opsDist2a | unfold opsDist2b | unfold opsPick2 opsIdx2 opsTake2 takeWrapOps takeReadOps | unfold opsLoss2
      | unfold opsOut2 | unfold opsProj3a | unfold opsProj3b | unfold opsDist3 | unfold opsPick3a | unfold opsPick3b opsIdx3b opsTake3 takeWrapOps takeReadOps
      | unfold opsLoss3 | unfold opsOut3 | unfold opsStacka | unfold opsStackb | skip
    repeat' with_reducible apply AllPlain.append
    all_goals
      try unfold normTokOps
      try unfold normCodeOps
      try unfold argmaxOps
      try unfold wrapSelOps
    all_goals
      repeat with_reducible first
        | exact AllPlain.nil
        | apply AllPlain.unary
        | apply AllPlain.binary
        | apply AllPlain.nullary
        | apply AllPlain.reshape
        | apply AllPlain.tunary
        | apply AllPlain.tbinary
        | apply AllPlain.tnullary
        | apply AllPlain.tternary
        | apply AllPlain.tquaternary
        | apply AllPlain.nary

/-- On every device, from any memory with zero counters: every weakly fair execution of @main terminates with each
    buffer at what the list leaves there. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq
    (fun _ => List.forall_iff_forall_mem.2 fun op h => (ops_plain op h).1) m ρ
    fun _ op h => (ops_plain op h).2

end Cert.Ref

end
-- ==== Proof.RefStage.lean ====
/-
  The stages of one layer of the reference as functions of arrays, and each stage's operations read back as that
  function, layer by layer. Nothing is computed here: a stage is the composition of the operations it lists.
-/
module

public import proofs.«01_k».proof.Proof.RefRun
public import Idealize.ShloMosaic.PureOps.Ideal
public import Mathlib.Tactic.DefEqTransformations

@[expose] public section

set_option maxRecDepth 16384

noncomputable section

namespace Cert.Ref

open Cert.ReferenceIdeal Cert.ReferenceIdeal.Gen Idealize.ShloMosaic Idealize.ShloMosaic.TcCoe Idealize.SL.Sem
  Idealize.ShloMosaic.StableHlo

/-- An array of single-precision numbers, read at the ideal values. -/
abbrev A (s : Shape) : Type := FVec Ideal s .f32

/-! ### Layer `l` of the stacked parameters -/

/-- Layer `l` is a slice of the input weights. -/
theorem slicesWin (l : Fin 4) : S4x256x512.Slices ![l.val, 0, 0] S1x256x512 := by fin_cases l <;> decide
/-- Layer `l` is a slice of the code-sized vectors. -/
theorem slicesVec (l : Fin 4) : S4x256.Slices ![l.val, 0] S1x256 := by fin_cases l <;> decide
/-- Layer `l` is a slice of the output weights. -/
theorem slicesWout (l : Fin 4) : S4x512x256.Slices ![l.val, 0, 0] S1x512x256 := by fin_cases l <;> decide
/-- Layer `l` is a slice of the channel-sized vectors. -/
theorem slicesVecOut (l : Fin 4) : S4x512.Slices ![l.val, 0] S1x512 := by fin_cases l <;> decide
/-- Layer `l` is a slice of the codebooks. -/
theorem slicesCode (l : Fin 4) : S4x1024x256.Slices ![l.val, 0, 0] S1x1024x256 := by fin_cases l <;> decide

/-- Layer `l` of the input weights. -/
def slWin (l : Fin 4) (a : A S4x256x512) : A S256x512 :=
  shapeCast S256x512 (extractStridedSlice S1x256x512 ![l.val, 0, 0] a (slicesWin l)) shapeCasts_S1x256x512_S256x512
/-- Layer `l` of an input gain or bias. -/
def slVec (l : Fin 4) (a : A S4x256) : A S256 :=
  shapeCast S256 (extractStridedSlice S1x256 ![l.val, 0] a (slicesVec l)) shapeCasts_S1x256_S256
/-- Layer `l` of the output weights. -/
def slWout (l : Fin 4) (a : A S4x512x256) : A S512x256 :=
  shapeCast S512x256 (extractStridedSlice S1x512x256 ![l.val, 0, 0] a (slicesWout l)) shapeCasts_S1x512x256_S512x256
/-- Layer `l` of an output gain or bias. -/
def slVecOut (l : Fin 4) (a : A S4x512) : A S512 :=
  shapeCast S512 (extractStridedSlice S1x512 ![l.val, 0] a (slicesVecOut l)) shapeCasts_S1x512_S512
/-- Layer `l` of the codebooks. -/
def slCode (l : Fin 4) (a : A S4x1024x256) : A S1024x256 :=
  shapeCast S1024x256 (extractStridedSlice S1x1024x256 ![l.val, 0, 0] a (slicesCode l)) shapeCasts_S1x1024x256_S1024x256

/-! ### The stages -/

/-- The weight-normalised input weights. -/
def wIn (w : A S256x512) (g : A S256) : A S256x512 :=
  mulf w (broadcastInDim S256x512 ![0, 1] bcast_S256x1_S256x512_0_1
    (Host.divf (broadcastInDim S256x1 ![0] bcast_S256_S256x1_0 g)
      (maximumf (Host.sqrt (broadcastInDim S256x1 ![0] bcast_S256_S256x1_0
        (Host.reduceAdd (mulf w w) (constant S_ .f32 0x00000000#32) reducesTo_S256x512_S256_d1 h_S_)))
        (broadcastInDim S256x1 ![] bcast_S_S256x1 (constant S_ .f32 0x2B8CBCCC#32)))))

/-- The input projection. -/
def projR (x : A S8x512x1024) (w : A S256x512) (g b : A S256) : A S8x256x1024 :=
  addf (transpose S8x256x1024 [0, 2, 1]
      (Host.dotGeneral dot_S8x512x1024_S256x512_S8x1024x256_1_1_02_0_n_n none x (wIn w g)) transposes_S8x1024x256_S8x256x1024_0_2_1)
    (broadcastInDim S8x256x1024 ![0, 1, 2] bcast_S1x256x1_S8x256x1024_0_1_2 (broadcastInDim S1x256x1 ![1] bcast_S256_S1x256x1_1 b))

/-- The projection with a row per token. -/
def tokR (p : A S8x256x1024) : A S8192x256 :=
  shapeCast S8192x256 (transpose S8x1024x256 [0, 2, 1] p transposes_S8x256x1024_S8x1024x256_0_2_1) shapeCasts_S8x1024x256_S8192x256

/-- Each token row divided by its length. -/
def unitTok (y : A S8192x256) : A S8192x256 :=
  Host.divf y (broadcastInDim S8192x256 ![0, 1] bcast_S8192x1_S8192x256_0_1
    (maximumf (Host.sqrt (broadcastInDim S8192x1 ![0] bcast_S8192_S8192x1_0
      (Host.reduceAdd (mulf y y) (constant S_ .f32 0x00000000#32) reducesTo_S8192x256_S8192_d1 h_S_)))
      (broadcastInDim S8192x1 ![] bcast_S_S8192x1 (constant S_ .f32 0x2B8CBCCC#32))))

/-- Each codebook row divided by its length. -/
def unitCode (c : A S1024x256) : A S1024x256 :=
  Host.divf c (broadcastInDim S1024x256 ![0, 1] bcast_S1024x1_S1024x256_0_1
    (maximumf (Host.sqrt (broadcastInDim S1024x1 ![0] bcast_S1024_S1024x1_0
      (Host.reduceAdd (mulf c c) (constant S_ .f32 0x00000000#32) reducesTo_S1024x256_S1024_d1 h_S_)))
      (broadcastInDim S1024x1 ![] bcast_S_S1024x1 (constant S_ .f32 0x2B8CBCCC#32))))

/-- The squared distances between unit tokens and unit codes. -/
def distU (u : A S8192x256) (v : A S1024x256) : A S8192x1024 :=
  addf (subf (broadcastInDim S8192x1024 ![0, 1] bcast_S8192x1_S8192x1024_0_1 (broadcastInDim S8192x1 ![0] bcast_S8192_S8192x1_0
        (Host.reduceAdd (mulf u u) (constant S_ .f32 0x00000000#32) reducesTo_S8192x256_S8192_d1 h_S_)))
      (mulf (broadcastInDim S8192x1024 ![] bcast_S_S8192x1024 (constant S_ .f32 0x40000000#32))
        (Host.dotGeneral dot_S8192x256_S256x1024_S8192x1024_1_0_0_1_n_n none u
          (transpose S256x1024 [1, 0] v transposes_S1024x256_S256x1024_1_0))))
    (broadcastInDim S8192x1024 ![0, 1] bcast_S1x1024_S8192x1024_0_1 (broadcastInDim S1x1024 ![1] bcast_S1024_S1x1024_1
      (Host.reduceAdd (mulf v v) (constant S_ .f32 0x00000000#32) reducesTo_S1024x256_S1024_d1 h_S_)))

/-- The negated distances. -/
def negR (y : A S8192x256) (c : A S1024x256) : A S8192x1024 := Host.negf (distU (unitTok y) (unitCode c))

/-- The logits: the negated distances over a temperature of one. -/
def logitR (y : A S8192x256) (c : A S1024x256) : A S8192x1024 :=
  Host.divf (negR y c) (broadcastInDim S8192x1024 ![] bcast_S_S8192x1024 (constant S_ .f32 0x3F800000#32))

/-- The index of the greatest negated distance of each token. -/
def idxR (n : A S8192x1024) : IVec S8x1024 32 :=
  shapeCast S8x1024 (argIdx (F := Ideal) n (iotaInDim S8192x1024 32 1)
    (constant (F := Ideal) S_ .f32 0xFF800000#32) (constantI S_ 32 0#32)) shapeCasts_S8192_S8x1024

/-- The index with a negative one wrapped round. -/
def wrapR (i : IVec S8x1024 32) : IVec S8x1024x1 32 :=
  broadcastInDim S8x1024x1 ![0, 1] bcast_S8x1024_S8x1024x1_0_1
    (select (cmpi .slt i (broadcastInDim S8x1024 ![] bcast_S_S8x1024 (constantI S_ 32 0#32)))
      (addi i (broadcastInDim S8x1024 ![] bcast_S_S8x1024 (constantI S_ 32 1024#32))) i)

/-- The rows of the codebook the wrapped indices name, a not-a-number row where an index is out of range. -/
def takeR (c : A S1024x256) (w : IVec S8x1024x1 32) : A S8x1024x256 :=
  select (broadcastInDim S8x1024x256 ![0, 1] bcast_S8x1024_S8x1024x256_0_1
      (Host.reduce IntOp.andi
        (andi (cmpi .sge w (broadcastInDim S8x1024x1 ![] bcast_S_S8x1024x1 (constantI S_ 32 0#32)))
          (cmpi .sle w (broadcastInDim S8x1024x1 ![0, 1, 2] bcast_S1x1x1_S8x1024x1_0_1_2
            (broadcastInDim S1x1x1 ![2] bcast_S1_S1x1x1_2 (constantI S1 32 1023#32)))))
        (constantI S_ 1 1#1) reducesTo_S8x1024x1_S8x1024_d2 h_S_))
    (Host.gather gather_S1024x256_S8x1024x1_S8x1024x256_2_0_n_n_0_2_1256 c w)
    (broadcastInDim S8x1024x256 ![] bcast_S_S8x1024x256 (constant S_ .f32 0x7FC00000#32))

/-- The picked rows, laid out as the projection. -/
def quantR (c : A S1024x256) (w : IVec S8x1024x1 32) : A S8x256x1024 :=
  transpose S8x256x1024 [0, 2, 1] (takeR c w) transposes_S8x1024x256_S8x256x1024_0_2_1

/-- The mean over the batch of each batch entry's mean square of an array. -/
def meanSq (d : A S8x256x1024) : A S_ :=
  Host.divf (Host.reduceAdd
      (Host.divf (Host.reduceAdd (mulf d d) (constant S_ .f32 0x00000000#32) reducesTo_S8x256x1024_S8_d1_2 h_S_)
        (broadcastInDim S8 ![] bcast_S_S8 (constant S_ .f32 0x48800000#32)))
      (constant S_ .f32 0x00000000#32) reducesTo_S8_S_d0 h_S_)
    (constant S_ .f32 0x41000000#32)

/-- The weight-normalised output weights. -/
def wOut (w : A S512x256) (g : A S512) : A S512x256 :=
  mulf w (broadcastInDim S512x256 ![0, 1] bcast_S512x1_S512x256_0_1
    (Host.divf (broadcastInDim S512x1 ![0] bcast_S512_S512x1_0 g)
      (maximumf (Host.sqrt (broadcastInDim S512x1 ![0] bcast_S512_S512x1_0
        (Host.reduceAdd (mulf w w) (constant S_ .f32 0x00000000#32) reducesTo_S512x256_S512_d1 h_S_)))
        (broadcastInDim S512x1 ![] bcast_S_S512x1 (constant S_ .f32 0x2B8CBCCC#32)))))

/-- The output projection of the projection moved onto the picked rows. -/
def outR (p q : A S8x256x1024) (w : A S512x256) (g b : A S512) : A S8x512x1024 :=
  addf (transpose S8x512x1024 [0, 2, 1]
      (Host.dotGeneral dot_S8x256x1024_S512x256_S8x1024x512_1_1_02_0_n_n none (addf p (subf q p)) (wOut w g))
      transposes_S8x1024x512_S8x512x1024_0_2_1)
    (broadcastInDim S8x512x1024 ![0, 1, 2] bcast_S1x512x1_S8x512x1024_0_1_2 (broadcastInDim S1x512x1 ![1] bcast_S512_S1x512x1_1 b))

/-! ### Each stage's operations are that stage -/

/-- The contents of every buffer, at the ideal values. -/
abbrev Vals : Type := Valuation τ sig (Elt Ideal)

/-- Layer 0's stretch leaves the projection. -/
theorem proj0 (W : Vals) : after opsProj0 W (no_index (Proc.devRef .tc main_v21)) =
    projR (W (Proc.devRef .tc main_arg0)) (slWin 0 (W (Proc.devRef .tc main_arg1))) (slVec 0 (W (Proc.devRef .tc main_arg2))) (slVec 0 (W (Proc.devRef .tc main_arg3))) := by
  simp only [opsProj0]
  after_reads_simp
  eta_reduce
  rfl

/-- Layer 0's stretch leaves the projection, a row per token. -/
theorem tok0 (W : Vals) : after opsProj0 W (no_index (Proc.devRef .tc main_v23)) =
    tokR (projR (W (Proc.devRef .tc main_arg0)) (slWin 0 (W (Proc.devRef .tc main_arg1))) (slVec 0 (W (Proc.devRef .tc main_arg2))) (slVec 0 (W (Proc.devRef .tc main_arg3)))) := by
  simp only [opsProj0]
  after_reads_simp
  eta_reduce
  rfl

/-- Layer 0's stretch leaves the logits. -/
theorem logits0 (W : Vals) : after opsDist0 W (no_index (Proc.devRef .tc main_v52)) =
    logitR (W (Proc.devRef .tc main_v23)) (slCode 0 (W (Proc.devRef .tc main_arg7))) := by
  simp only [opsDist0, opsDist0a, opsDist0b, normTokOps, normCodeOps]
  after_reads_simp
  eta_reduce
  rfl

/-- Layer 0's stretch leaves the negated distances. -/
theorem negs0 (W : Vals) : after opsDist0 W (no_index (Proc.devRef .tc main_v53)) =
    negR (W (Proc.devRef .tc main_v23)) (slCode 0 (W (Proc.devRef .tc main_arg7))) := by
  simp only [opsDist0, opsDist0a, opsDist0b, normTokOps, normCodeOps]
  after_reads_simp
  eta_reduce
  rfl

/-- Layer 0's stretch leaves the picks. -/
theorem idx0 (W : Vals) : after opsIdx0 W (no_index (Proc.devRef .tc main_v55)) =
    idxR (W (Proc.devRef .tc main_v53)) := by
  simp only [opsIdx0, argmaxOps]
  after_reads_simp
  eta_reduce
  rfl

/-- Layer 0's stretch leaves the codebook of the layer. -/
theorem code0 (W : Vals) : after opsIdx0 W (no_index (Proc.devRef .tc main_v57)) =
    slCode 0 (W (Proc.devRef .tc main_arg7)) := by
  simp only [opsIdx0, argmaxOps]
  after_reads_simp
  eta_reduce
  rfl

/-- Layer 0's stretch leaves the picks with the negative ones wrapped. -/
theorem wrap0 (W : Vals) : after (takeWrapOps (.of main_v55) main_call3) W (no_index (Proc.devRef .tc main_call3_v5)) =
    wrapR (W (Proc.devRef .tc main_v55)) := by
  simp only [takeWrapOps, wrapSelOps]
  after_reads_simp
  eta_reduce
  rfl

/-- Layer 0's stretch leaves the picked rows. -/
theorem rows0 (W : Vals) : after opsTake0 W (no_index (Proc.devRef .tc main_v59)) =
    quantR (W (Proc.devRef .tc main_v57)) (W (Proc.devRef .tc main_call3_v5)) := by
  simp only [opsTake0, takeReadOps]
  after_reads_simp
  eta_reduce
  rfl

/-- Layer 0's stretch leaves the commitment loss so far. -/
theorem commit0 (W : Vals) : after opsLoss0 W (no_index (Proc.devRef .tc main_v67)) =
    addf (constant S_ .f32 0x00000000#32) (meanSq (subf (W (Proc.devRef .tc main_v21)) (W (Proc.devRef .tc main_v59)))) := by
  simp only [opsLoss0]
  after_reads_simp
  eta_reduce
  rfl

/-- Layer 0's stretch leaves the codebook loss so far. -/
theorem codebook0 (W : Vals) : after opsLoss0 W (no_index (Proc.devRef .tc main_v75)) =
    addf (constant S_ .f32 0x00000000#32) (meanSq (subf (W (Proc.devRef .tc main_v59)) (W (Proc.devRef .tc main_v21)))) := by
  simp only [opsLoss0]
  after_reads_simp
  eta_reduce
  rfl

/-- Layer 0's stretch leaves the outputs' sum so far. -/
theorem tot0 (W : Vals) : after opsOut0 W (no_index (Proc.devRef .tc main_v99)) =
    addf (W (Proc.devRef .tc main_v0)) (outR (W (Proc.devRef .tc main_v21)) (W (Proc.devRef .tc main_v59)) (slWout 0 (W (Proc.devRef .tc main_arg4))) (slVecOut 0 (W (Proc.devRef .tc main_arg5))) (slVecOut 0 (W (Proc.devRef .tc main_arg6)))) := by
  simp only [opsOut0, opsOut0a, opsOut0b]
  after_reads_simp
  eta_reduce
  rfl

/-- Layer 0's stretch leaves the residual for the next layer. -/
theorem res0 (W : Vals) : after opsOut0 W (no_index (Proc.devRef .tc main_v100)) =
    subf (W (Proc.devRef .tc main_arg0)) (outR (W (Proc.devRef .tc main_v21)) (W (Proc.devRef .tc main_v59)) (slWout 0 (W (Proc.devRef .tc main_arg4))) (slVecOut 0 (W (Proc.devRef .tc main_arg5))) (slVecOut 0 (W (Proc.devRef .tc main_arg6)))) := by
  simp only [opsOut0, opsOut0a, opsOut0b]
  after_reads_simp
  eta_reduce
  rfl

/-- Layer 1's stretch leaves the projection. -/
theorem proj1 (W : Vals) : after opsProj1 W (no_index (Proc.devRef .tc main_v121)) =
    projR (W (Proc.devRef .tc main_v100)) (slWin 1 (W (Proc.devRef .tc main_arg1))) (slVec 1 (W (Proc.devRef .tc main_arg2))) (slVec 1 (W (Proc.devRef .tc main_arg3))) := by
  simp only [opsProj1]
  after_reads_simp
  eta_reduce
  rfl

/-- Layer 1's stretch leaves the projection, a row per token. -/
theorem tok1 (W : Vals) : after opsProj1 W (no_index (Proc.devRef .tc main_v123)) =
    tokR (projR (W (Proc.devRef .tc main_v100)) (slWin 1 (W (Proc.devRef .tc main_arg1))) (slVec 1 (W (Proc.devRef .tc main_arg2))) (slVec 1 (W (Proc.devRef .tc main_arg3)))) := by
  simp only [opsProj1]
  after_reads_simp
  eta_reduce
  rfl

/-- Layer 1's stretch leaves the logits. -/
theorem logits1 (W : Vals) : after opsDist1 W (no_index (Proc.devRef .tc main_v152)) =
    logitR (W (Proc.devRef .tc main_v123)) (slCode 1 (W (Proc.devRef .tc main_arg7))) := by
  simp only [opsDist1, opsDist1a, opsDist1b, normTokOps, normCodeOps]
  after_reads_simp
  eta_reduce
  rfl

/-- Layer 1's stretch leaves the negated distances. -/
theorem negs1 (W : Vals) : after opsDist1 W (no_index (Proc.devRef .tc main_v153)) =
    negR (W (Proc.devRef .tc main_v123)) (slCode 1 (W (Proc.devRef .tc main_arg7))) := by
  simp only [opsDist1, opsDist1a, opsDist1b, normTokOps, normCodeOps]
  after_reads_simp
  eta_reduce
  rfl

/-- Layer 1's stretch leaves the picks. -/
theorem idx1 (W : Vals) : after opsIdx1 W (no_index (Proc.devRef .tc main_v155)) =
    idxR (W (Proc.devRef .tc main_v153)) := by
  simp only [opsIdx1, argmaxOps]
  after_reads_simp
  eta_reduce
  rfl

/-- Layer 1's stretch leaves the codebook of the layer. -/
theorem code1 (W : Vals) : after opsIdx1 W (no_index (Proc.devRef .tc main_v157)) =
    slCode 1 (W (Proc.devRef .tc main_arg7)) := by
  simp only [opsIdx1, argmaxOps]
  after_reads_simp
  eta_reduce
  rfl

/-- Layer 1's stretch leaves the picks with the negative ones wrapped. -/
theorem wrap1 (W : Vals) : after (takeWrapOps (.of main_v155) main_call7) W (no_index (Proc.devRef .tc main_call7_v5)) =
    wrapR (W (Proc.devRef .tc main_v155)) := by
  simp only [takeWrapOps, wrapSelOps]
  after_reads_simp
  eta_reduce
  rfl

/-- Layer 1's stretch leaves the picked rows. -/
theorem rows1 (W : Vals) : after opsTake1 W (no_index (Proc.devRef .tc main_v159)) =
    quantR (W (Proc.devRef .tc main_v157)) (W (Proc.devRef .tc main_call7_v5)) := by
  simp only [opsTake1, takeReadOps]
  after_reads_simp
  eta_reduce
  rfl

/-- Layer 1's stretch leaves the commitment loss so far. -/
theorem commit1 (W : Vals) : after opsLoss1 W (no_index (Proc.devRef .tc main_v167)) =
    addf (W (Proc.devRef .tc main_v67)) (meanSq (subf (W (Proc.devRef .tc main_v121)) (W (Proc.devRef .tc main_v159)))) := by
  simp only [opsLoss1]
  after_reads_simp
  eta_reduce
  rfl

/-- Layer 1's stretch leaves the codebook loss so far. -/
theorem codebook1 (W : Vals) : after opsLoss1 W (no_index (Proc.devRef .tc main_v175)) =
    addf (W (Proc.devRef .tc main_v75)) (meanSq (subf (W (Proc.devRef .tc main_v159)) (W (Proc.devRef .tc main_v121)))) := by
  simp only [opsLoss1]
  after_reads_simp
  eta_reduce
  rfl

/-- Layer 1's stretch leaves the outputs' sum so far. -/
theorem tot1 (W : Vals) : after opsOut1 W (no_index (Proc.devRef .tc main_v199)) =
    addf (W (Proc.devRef .tc main_v99)) (outR (W (Proc.devRef .tc main_v121)) (W (Proc.devRef .tc main_v159)) (slWout 1 (W (Proc.devRef .tc main_arg4))) (slVecOut 1 (W (Proc.devRef .tc main_arg5))) (slVecOut 1 (W (Proc.devRef .tc main_arg6)))) := by
  simp only [opsOut1]
  after_reads_simp
  eta_reduce
  rfl

/-- Layer 1's stretch leaves the residual for the next layer. -/
theorem res1 (W : Vals) : after opsOut1 W (no_index (Proc.devRef .tc main_v200)) =
    subf (W (Proc.devRef .tc main_v100)) (outR (W (Proc.devRef .tc main_v121)) (W (Proc.devRef .tc main_v159)) (slWout 1 (W (Proc.devRef .tc main_arg4))) (slVecOut 1 (W (Proc.devRef .tc main_arg5))) (slVecOut 1 (W (Proc.devRef .tc main_arg6)))) := by
  simp only [opsOut1]
  after_reads_simp
  eta_reduce
  rfl

/-- Layer 2's stretch leaves the projection. -/
theorem proj2 (W : Vals) : after opsProj2 W (no_index (Proc.devRef .tc main_v221)) =
    projR (W (Proc.devRef .tc main_v200)) (slWin 2 (W (Proc.devRef .tc main_arg1))) (slVec 2 (W (Proc.devRef .tc main_arg2))) (slVec 2 (W (Proc.devRef .tc main_arg3))) := by
  simp only [opsProj2]
  after_reads_simp
  eta_reduce
  rfl

/-- Layer 2's stretch leaves the projection, a row per token. -/
theorem tok2 (W : Vals) : after opsProj2 W (no_index (Proc.devRef .tc main_v223)) =
    tokR (projR (W (Proc.devRef .tc main_v200)) (slWin 2 (W (Proc.devRef .tc main_arg1))) (slVec 2 (W (Proc.devRef .tc main_arg2))) (slVec 2 (W (Proc.devRef .tc main_arg3)))) := by
  simp only [opsProj2]
  after_reads_simp
  eta_reduce
  rfl

/-- Layer 2's stretch leaves the logits. -/
theorem logits2 (W : Vals) : after opsDist2 W (no_index (Proc.devRef .tc main_v252)) =
    logitR (W (Proc.devRef .tc main_v223)) (slCode 2 (W (Proc.devRef .tc main_arg7))) := by
  simp only [opsDist2, opsDist2a, opsDist2b, normTokOps, normCodeOps]
  after_reads_simp
  eta_reduce
  rfl

/-- Layer 2's stretch leaves the negated distances. -/
theorem negs2 (W : Vals) : after opsDist2 W (no_index (Proc.devRef .tc main_v253)) =
    negR (W (Proc.devRef .tc main_v223)) (slCode 2 (W (Proc.devRef .tc main_arg7))) := by
  simp only [opsDist2, opsDist2a, opsDist2b, normTokOps, normCodeOps]
  after_reads_simp
  eta_reduce
  rfl

/-- Layer 2's stretch leaves the picks. -/
theorem idx2 (W : Vals) : after opsIdx2 W (no_index (Proc.devRef .tc main_v255)) =
    idxR (W (Proc.devRef .tc main_v253)) := by
  simp only [opsIdx2, argmaxOps]
  after_reads_simp
  eta_reduce
  rfl

/-- Layer 2's stretch leaves the codebook of the layer. -/
theorem code2 (W : Vals) : after opsIdx2 W (no_index (Proc.devRef .tc main_v257)) =
    slCode 2 (W (Proc.devRef .tc main_arg7)) := by
  simp only [opsIdx2, argmaxOps]
  after_reads_simp
  eta_reduce
  rfl

/-- Layer 2's stretch leaves the picks with the negative ones wrapped. -/
theorem wrap2 (W : Vals) : after (takeWrapOps (.of main_v255) main_call11) W (no_index (Proc.devRef .tc main_call11_v5)) =
    wrapR (W (Proc.devRef .tc main_v255)) := by
  simp only [takeWrapOps, wrapSelOps]
  after_reads_simp
  eta_reduce
  rfl

/-- Layer 2's stretch leaves the picked rows. -/
theorem rows2 (W : Vals) : after opsTake2 W (no_index (Proc.devRef .tc main_v259)) =
    quantR (W (Proc.devRef .tc main_v257)) (W (Proc.devRef .tc main_call11_v5)) := by
  simp only [opsTake2, takeReadOps]
  after_reads_simp
  eta_reduce
  rfl

/-- Layer 2's stretch leaves the commitment loss so far. -/
theorem commit2 (W : Vals) : after opsLoss2 W (no_index (Proc.devRef .tc main_v267)) =
    addf (W (Proc.devRef .tc main_v167)) (meanSq (subf (W (Proc.devRef .tc main_v221)) (W (Proc.devRef .tc main_v259)))) := by
  simp only [opsLoss2]
  after_reads_simp
  eta_reduce
  rfl

/-- Layer 2's stretch leaves the codebook loss so far. -/
theorem codebook2 (W : Vals) : after opsLoss2 W (no_index (Proc.devRef .tc main_v275)) =
    addf (W (Proc.devRef .tc main_v175)) (meanSq (subf (W (Proc.devRef .tc main_v259)) (W (Proc.devRef .tc main_v221)))) := by
  simp only [opsLoss2]
  after_reads_simp
  eta_reduce
  rfl

/-- Layer 2's stretch leaves the outputs' sum so far. -/
theorem tot2 (W : Vals) : after opsOut2 W (no_index (Proc.devRef .tc main_v299)) =
    addf (W (Proc.devRef .tc main_v199)) (outR (W (Proc.devRef .tc main_v221)) (W (Proc.devRef .tc main_v259)) (slWout 2 (W (Proc.devRef .tc main_arg4))) (slVecOut 2 (W (Proc.devRef .tc main_arg5))) (slVecOut 2 (W (Proc.devRef .tc main_arg6)))) := by
  simp only [opsOut2]
  after_reads_simp
  eta_reduce
  rfl

/-- Layer 2's stretch leaves the residual for the next layer. -/
theorem res2 (W : Vals) : after opsOut2 W (no_index (Proc.devRef .tc main_v300)) =
    subf (W (Proc.devRef .tc main_v200)) (outR (W (Proc.devRef .tc main_v221)) (W (Proc.devRef .tc main_v259)) (slWout 2 (W (Proc.devRef .tc main_arg4))) (slVecOut 2 (W (Proc.devRef .tc main_arg5))) (slVecOut 2 (W (Proc.devRef .tc main_arg6)))) := by
  simp only [opsOut2]
  after_reads_simp
  eta_reduce
  rfl

/-- Layer 3's stretch leaves the projection. -/
theorem proj3 (W : Vals) : after opsProj3 W (no_index (Proc.devRef .tc main_v321)) =
    projR (W (Proc.devRef .tc main_v300)) (slWin 3 (W (Proc.devRef .tc main_arg1))) (slVec 3 (W (Proc.devRef .tc main_arg2))) (slVec 3 (W (Proc.devRef .tc main_arg3))) := by
  simp only [opsProj3, opsProj3a, opsProj3b]
  after_reads_simp
  eta_reduce
  rfl

/-- Layer 3's stretch leaves the projection, a row per token. -/
theorem tok3 (W : Vals) : after opsProj3 W (no_index (Proc.devRef .tc main_v323)) =
    tokR (projR (W (Proc.devRef .tc main_v300)) (slWin 3 (W (Proc.devRef .tc main_arg1))) (slVec 3 (W (Proc.devRef .tc main_arg2))) (slVec 3 (W (Proc.devRef .tc main_arg3)))) := by
  simp only [opsProj3, opsProj3a, opsProj3b]
  after_reads_simp
  eta_reduce
  rfl

/-- Layer 3's stretch leaves the logits. -/
theorem logits3 (W : Vals) : after opsDist3 W (no_index (Proc.devRef .tc main_v352)) =
    logitR (W (Proc.devRef .tc main_v323)) (slCode 3 (W (Proc.devRef .tc main_arg7))) := by
  simp only [opsDist3, normTokOps, normCodeOps]
  after_reads_simp
  eta_reduce
  rfl

/-- Layer 3's stretch leaves the negated distances. -/
theorem negs3 (W : Vals) : after opsDist3 W (no_index (Proc.devRef .tc main_v353)) =
    negR (W (Proc.devRef .tc main_v323)) (slCode 3 (W (Proc.devRef .tc main_arg7))) := by
  simp only [opsDist3, normTokOps, normCodeOps]
  after_reads_simp
  eta_reduce
  rfl

/-- Layer 3's stretch leaves the picks. -/
theorem idx3 (W : Vals) : after opsIdx3 W (no_index (Proc.devRef .tc main_v355)) =
    idxR (W (Proc.devRef .tc main_v353)) := by
  simp only [opsIdx3, opsPick3a, opsIdx3b, argmaxOps]
  after_reads_simp
  eta_reduce
  rfl

/-- Layer 3's stretch leaves the codebook of the layer. -/
theorem code3 (W : Vals) : after opsIdx3 W (no_index (Proc.devRef .tc main_v357)) =
    slCode 3 (W (Proc.devRef .tc main_arg7)) := by
  simp only [opsIdx3, opsPick3a, opsIdx3b, argmaxOps]
  after_reads_simp
  eta_reduce
  rfl

/-- Layer 3's stretch leaves the picks with the negative ones wrapped. -/
theorem wrap3 (W : Vals) : after (takeWrapOps (.of main_v355) main_call15) W (no_index (Proc.devRef .tc main_call15_v5)) =
    wrapR (W (Proc.devRef .tc main_v355)) := by
  simp only [takeWrapOps, wrapSelOps]
  after_reads_simp
  eta_reduce
  rfl

/-- Layer 3's stretch leaves the picked rows. -/
theorem rows3 (W : Vals) : after opsTake3 W (no_index (Proc.devRef .tc main_v359)) =
    quantR (W (Proc.devRef .tc main_v357)) (W (Proc.devRef .tc main_call15_v5)) := by
  simp only [opsTake3, takeReadOps]
  after_reads_simp
  eta_reduce
  rfl

/-- Layer 3's stretch leaves the commitment loss so far. -/
theorem commit3 (W : Vals) : after opsLoss3 W (no_index (Proc.devRef .tc main_v367)) =
    addf (W (Proc.devRef .tc main_v267)) (meanSq (subf (W (Proc.devRef .tc main_v321)) (W (Proc.devRef .tc main_v359)))) := by
  simp only [opsLoss3]
  after_reads_simp
  eta_reduce
  rfl

/-- Layer 3's stretch leaves the codebook loss so far. -/
theorem codebook3 (W : Vals) : after opsLoss3 W (no_index (Proc.devRef .tc main_v375)) =
    addf (W (Proc.devRef .tc main_v275)) (meanSq (subf (W (Proc.devRef .tc main_v359)) (W (Proc.devRef .tc main_v321)))) := by
  simp only [opsLoss3]
  after_reads_simp
  eta_reduce
  rfl

/-- Layer 3's stretch leaves the outputs' sum so far. -/
theorem tot3 (W : Vals) : after opsOut3 W (no_index (Proc.devRef .tc main_v399)) =
    addf (W (Proc.devRef .tc main_v299)) (outR (W (Proc.devRef .tc main_v321)) (W (Proc.devRef .tc main_v359)) (slWout 3 (W (Proc.devRef .tc main_arg4))) (slVecOut 3 (W (Proc.devRef .tc main_arg5))) (slVecOut 3 (W (Proc.devRef .tc main_arg6)))) := by
  simp only [opsOut3]
  after_reads_simp
  eta_reduce
  rfl

/-- Layer 3's stretch leaves the residual for the next layer. -/
theorem res3 (W : Vals) : after opsOut3 W (no_index (Proc.devRef .tc main_v400)) =
    subf (W (Proc.devRef .tc main_v300)) (outR (W (Proc.devRef .tc main_v321)) (W (Proc.devRef .tc main_v359)) (slWout 3 (W (Proc.devRef .tc main_arg4))) (slVecOut 3 (W (Proc.devRef .tc main_arg5))) (slVecOut 3 (W (Proc.devRef .tc main_arg6)))) := by
  simp only [opsOut3]
  after_reads_simp
  eta_reduce
  rfl

end Cert.Ref

end
-- ==== Proof.RefRead.lean ====
/-
  The whole reference read back: what each of its results holds as a composition of the stages of RefStage.lean over
  the eight arguments.
-/
module

public import proofs.«01_k».proof.Proof.RefStage

@[expose] public section

set_option maxRecDepth 16384

noncomputable section

namespace Cert.Ref

open Cert.ReferenceIdeal Cert.ReferenceIdeal.Gen Idealize.ShloMosaic Idealize.ShloMosaic.TcCoe Idealize.SL.Sem
  Idealize.ShloMosaic.StableHlo

/-! ### What each segment leaves alone -/

/-- The buffers opsInit writes. -/
abbrev wInit : List (Ref sig .tc) :=
  [main_cst, main_v0]

/-- The first operations leave every buffer that they do not write. -/
theorem keepInit {r : Ref sig .tc} (h : r ∉ wInit) (V : Vals) :
    after opsInit V (no_index (Proc.devRef .tc r)) = V (Proc.devRef .tc r) := after_unwritten wInit rfl h V

/-- The buffers opsProj0 writes. -/
abbrev wProj0 : List (Ref sig .tc) :=
  [main_v1, main_v2, main_v3, main_v4, main_v5, main_cst_0, main_v6, main_v7, main_v8, main_v9, main_cst_1, main_v10,
   main_v11, main_v12, main_v13, main_v14, main_v15, main_v16, main_v17, main_v18, main_v19, main_v20, main_v21,
   main_v22, main_v23]

/-- The stretch of layer 0 that projects leaves every buffer that it does not write. -/
theorem keepProj0 {r : Ref sig .tc} (h : r ∉ wProj0) (V : Vals) :
    after opsProj0 V (no_index (Proc.devRef .tc r)) = V (Proc.devRef .tc r) := after_unwritten wProj0 rfl h V

/-- The buffers opsDist0 writes. -/
abbrev wDist0 : List (Ref sig .tc) :=
  [main_call0.v0.ref, main_call0.cst.ref, main_call0.v1.ref, main_call0.v2.ref, main_call0.v3.ref, main_cst_2,
   main_v25, main_v26, main_v27, main_v28, main_v29, main_v30, main_call1.v0.ref, main_call1.cst.ref,
   main_call1.v1.ref, main_call1.v2.ref, main_call1.v3.ref, main_cst_3, main_v32, main_v33, main_v34, main_v35,
   main_v36, main_cst_4, main_v37, main_v38, main_v39, main_v40, main_cst_5, main_v41, main_v42, main_v43, main_v44,
   main_v45, main_cst_6, main_v46, main_v47, main_v48, main_v49, main_v50, main_cst_7, main_v51, main_v52, main_v53]

/-- The stretch of layer 0 that computes the logits leaves every buffer that it does not write. -/
theorem keepDist0 {r : Ref sig .tc} (h : r ∉ wDist0) (V : Vals) :
    after opsDist0 V (no_index (Proc.devRef .tc r)) = V (Proc.devRef .tc r) := after_unwritten wDist0 rfl h V

/-- The buffers opsIdx0 writes. -/
abbrev wIdx0 : List (Ref sig .tc) :=
  [main_call2.v0.ref, main_call2.cst.ref, main_call2.c.ref, main_call2.v1_0.ref, main_call2.v1_1.ref, main_v55,
   main_v56, main_v57]

/-- The stretch of layer 0 that picks leaves every buffer that it does not write. -/
theorem keepIdx0 {r : Ref sig .tc} (h : r ∉ wIdx0) (V : Vals) :
    after opsIdx0 V (no_index (Proc.devRef .tc r)) = V (Proc.devRef .tc r) := after_unwritten wIdx0 rfl h V

/-- The buffers opsTake0 writes. -/
abbrev wTake0 : List (Ref sig .tc) :=
  [main_call3.c_1.ref, main_call3.c_2.ref, main_call3.v6.ref, main_call3.v7.ref, main_call3.v8.ref,
   main_call3.v9.ref, main_call3.v10.ref, main_call3.v11.ref, main_call3.c_3.ref, main_call3.v12.ref,
   main_call3.v13.ref, main_call3.v14.ref, main_call3.cst.ref, main_call3.v15.ref, main_call3.v16.ref, main_v59]

/-- The stretch of layer 0 that reads the picked rows leaves every buffer that it does not write. -/
theorem keepTake0 {r : Ref sig .tc} (h : r ∉ wTake0) (V : Vals) :
    after opsTake0 V (no_index (Proc.devRef .tc r)) = V (Proc.devRef .tc r) := after_unwritten wTake0 rfl h V

/-- The buffers opsLoss0 writes. -/
abbrev wLoss0 : List (Ref sig .tc) :=
  [main_v60, main_v61, main_cst_8, main_v62, main_cst_9, main_v63, main_v64, main_cst_10, main_v65, main_cst_11,
   main_v66, main_cst_12, main_v67, main_v68, main_v69, main_cst_13, main_v70, main_cst_14, main_v71, main_v72,
   main_cst_15, main_v73, main_cst_16, main_v74, main_cst_17, main_v75]

/-- The stretch of layer 0 that adds to the losses leaves every buffer that it does not write. -/
theorem keepLoss0 {r : Ref sig .tc} (h : r ∉ wLoss0) (V : Vals) :
    after opsLoss0 V (no_index (Proc.devRef .tc r)) = V (Proc.devRef .tc r) := after_unwritten wLoss0 rfl h V

/-- The buffers opsOut0 writes. -/
abbrev wOut0 : List (Ref sig .tc) :=
  [main_v76, main_v77, main_v78, main_v79, main_v80, main_v81, main_v82, main_cst_18, main_v83, main_v84, main_v85,
   main_v86, main_cst_19, main_v87, main_v88, main_v89, main_v90, main_v91, main_v92, main_v93, main_v94, main_v95,
   main_v96, main_v97, main_v98, main_v99, main_v100]

/-- The stretch of layer 0 that computes the output and the next residual leaves every buffer that it does not write. -/
theorem keepOut0 {r : Ref sig .tc} (h : r ∉ wOut0) (V : Vals) :
    after opsOut0 V (no_index (Proc.devRef .tc r)) = V (Proc.devRef .tc r) := after_unwritten wOut0 rfl h V

/-- The buffers takeWrapOps (.of main_v55) main_call3 writes. -/
abbrev wWrap0 : List (Ref sig .tc) :=
  [main_call3.c.ref, main_call3.v0.ref, main_call3.v1.ref, main_call3.c_0.ref, main_call3.v2.ref, main_call3.v3.ref,
   main_call3.call0.v0.ref, main_call3.v5.ref]

/-- The stretch of layer 0 that wraps negative indices leaves every buffer that it does not write. -/
theorem keepWrap0 {r : Ref sig .tc} (h : r ∉ wWrap0) (V : Vals) :
    after (takeWrapOps (.of main_v55) main_call3) V (no_index (Proc.devRef .tc r)) = V (Proc.devRef .tc r) := after_unwritten wWrap0 rfl h V

/-- The buffers opsProj1 writes. -/
abbrev wProj1 : List (Ref sig .tc) :=
  [main_v101, main_v102, main_v103, main_v104, main_v105, main_cst_20, main_v106, main_v107, main_v108, main_v109,
   main_cst_21, main_v110, main_v111, main_v112, main_v113, main_v114, main_v115, main_v116, main_v117, main_v118,
   main_v119, main_v120, main_v121, main_v122, main_v123]

/-- The stretch of layer 1 that projects leaves every buffer that it does not write. -/
theorem keepProj1 {r : Ref sig .tc} (h : r ∉ wProj1) (V : Vals) :
    after opsProj1 V (no_index (Proc.devRef .tc r)) = V (Proc.devRef .tc r) := after_unwritten wProj1 rfl h V

/-- The buffers opsDist1 writes. -/
abbrev wDist1 : List (Ref sig .tc) :=
  [main_call4.v0.ref, main_call4.cst.ref, main_call4.v1.ref, main_call4.v2.ref, main_call4.v3.ref, main_cst_22,
   main_v125, main_v126, main_v127, main_v128, main_v129, main_v130, main_call5.v0.ref, main_call5.cst.ref,
   main_call5.v1.ref, main_call5.v2.ref, main_call5.v3.ref, main_cst_23, main_v132, main_v133, main_v134, main_v135,
   main_v136, main_cst_24, main_v137, main_v138, main_v139, main_v140, main_cst_25, main_v141, main_v142, main_v143,
   main_v144, main_v145, main_cst_26, main_v146, main_v147, main_v148, main_v149, main_v150, main_cst_27, main_v151,
   main_v152, main_v153]

/-- The stretch of layer 1 that computes the logits leaves every buffer that it does not write. -/
theorem keepDist1 {r : Ref sig .tc} (h : r ∉ wDist1) (V : Vals) :
    after opsDist1 V (no_index (Proc.devRef .tc r)) = V (Proc.devRef .tc r) := after_unwritten wDist1 rfl h V

/-- The buffers opsIdx1 writes. -/
abbrev wIdx1 : List (Ref sig .tc) :=
  [main_call6.v0.ref, main_call6.cst.ref, main_call6.c.ref, main_call6.v1_0.ref, main_call6.v1_1.ref, main_v155,
   main_v156, main_v157]

/-- The stretch of layer 1 that picks leaves every buffer that it does not write. -/
theorem keepIdx1 {r : Ref sig .tc} (h : r ∉ wIdx1) (V : Vals) :
    after opsIdx1 V (no_index (Proc.devRef .tc r)) = V (Proc.devRef .tc r) := after_unwritten wIdx1 rfl h V

/-- The buffers opsTake1 writes. -/
abbrev wTake1 : List (Ref sig .tc) :=
  [main_call7.c_1.ref, main_call7.c_2.ref, main_call7.v6.ref, main_call7.v7.ref, main_call7.v8.ref,
   main_call7.v9.ref, main_call7.v10.ref, main_call7.v11.ref, main_call7.c_3.ref, main_call7.v12.ref,
   main_call7.v13.ref, main_call7.v14.ref, main_call7.cst.ref, main_call7.v15.ref, main_call7.v16.ref, main_v159]

/-- The stretch of layer 1 that reads the picked rows leaves every buffer that it does not write. -/
theorem keepTake1 {r : Ref sig .tc} (h : r ∉ wTake1) (V : Vals) :
    after opsTake1 V (no_index (Proc.devRef .tc r)) = V (Proc.devRef .tc r) := after_unwritten wTake1 rfl h V

/-- The buffers opsLoss1 writes. -/
abbrev wLoss1 : List (Ref sig .tc) :=
  [main_v160, main_v161, main_cst_28, main_v162, main_cst_29, main_v163, main_v164, main_cst_30, main_v165,
   main_cst_31, main_v166, main_v167, main_v168, main_v169, main_cst_32, main_v170, main_cst_33, main_v171,
   main_v172, main_cst_34, main_v173, main_cst_35, main_v174, main_v175]

/-- The stretch of layer 1 that adds to the losses leaves every buffer that it does not write. -/
theorem keepLoss1 {r : Ref sig .tc} (h : r ∉ wLoss1) (V : Vals) :
    after opsLoss1 V (no_index (Proc.devRef .tc r)) = V (Proc.devRef .tc r) := after_unwritten wLoss1 rfl h V

/-- The buffers opsOut1 writes. -/
abbrev wOut1 : List (Ref sig .tc) :=
  [main_v176, main_v177, main_v178, main_v179, main_v180, main_v181, main_v182, main_cst_36, main_v183, main_v184,
   main_v185, main_v186, main_cst_37, main_v187, main_v188, main_v189, main_v190, main_v191, main_v192, main_v193,
   main_v194, main_v195, main_v196, main_v197, main_v198, main_v199, main_v200]

/-- The stretch of layer 1 that computes the output and the next residual leaves every buffer that it does not write. -/
theorem keepOut1 {r : Ref sig .tc} (h : r ∉ wOut1) (V : Vals) :
    after opsOut1 V (no_index (Proc.devRef .tc r)) = V (Proc.devRef .tc r) := after_unwritten wOut1 rfl h V

/-- The buffers takeWrapOps (.of main_v155) main_call7 writes. -/
abbrev wWrap1 : List (Ref sig .tc) :=
  [main_call7.c.ref, main_call7.v0.ref, main_call7.v1.ref, main_call7.c_0.ref, main_call7.v2.ref, main_call7.v3.ref,
   main_call7.call0.v0.ref, main_call7.v5.ref]

/-- The stretch of layer 1 that wraps negative indices leaves every buffer that it does not write. -/
theorem keepWrap1 {r : Ref sig .tc} (h : r ∉ wWrap1) (V : Vals) :
    after (takeWrapOps (.of main_v155) main_call7) V (no_index (Proc.devRef .tc r)) = V (Proc.devRef .tc r) := after_unwritten wWrap1 rfl h V

/-- The buffers opsProj2 writes. -/
abbrev wProj2 : List (Ref sig .tc) :=
  [main_v201, main_v202, main_v203, main_v204, main_v205, main_cst_38, main_v206, main_v207, main_v208, main_v209,
   main_cst_39, main_v210, main_v211, main_v212, main_v213, main_v214, main_v215, main_v216, main_v217, main_v218,
   main_v219, main_v220, main_v221, main_v222, main_v223]

/-- The stretch of layer 2 that projects leaves every buffer that it does not write. -/
theorem keepProj2 {r : Ref sig .tc} (h : r ∉ wProj2) (V : Vals) :
    after opsProj2 V (no_index (Proc.devRef .tc r)) = V (Proc.devRef .tc r) := after_unwritten wProj2 rfl h V

/-- The buffers opsDist2 writes. -/
abbrev wDist2 : List (Ref sig .tc) :=
  [main_call8.v0.ref, main_call8.cst.ref, main_call8.v1.ref, main_call8.v2.ref, main_call8.v3.ref, main_cst_40,
   main_v225, main_v226, main_v227, main_v228, main_v229, main_v230, main_call9.v0.ref, main_call9.cst.ref,
   main_call9.v1.ref, main_call9.v2.ref, main_call9.v3.ref, main_cst_41, main_v232, main_v233, main_v234, main_v235,
   main_v236, main_cst_42, main_v237, main_v238, main_v239, main_v240, main_cst_43, main_v241, main_v242, main_v243,
   main_v244, main_v245, main_cst_44, main_v246, main_v247, main_v248, main_v249, main_v250, main_cst_45, main_v251,
   main_v252, main_v253]

/-- The stretch of layer 2 that computes the logits leaves every buffer that it does not write. -/
theorem keepDist2 {r : Ref sig .tc} (h : r ∉ wDist2) (V : Vals) :
    after opsDist2 V (no_index (Proc.devRef .tc r)) = V (Proc.devRef .tc r) := after_unwritten wDist2 rfl h V

/-- The buffers opsIdx2 writes. -/
abbrev wIdx2 : List (Ref sig .tc) :=
  [main_call10.v0.ref, main_call10.cst.ref, main_call10.c.ref, main_call10.v1_0.ref, main_call10.v1_1.ref, main_v255,
   main_v256, main_v257]

/-- The stretch of layer 2 that picks leaves every buffer that it does not write. -/
theorem keepIdx2 {r : Ref sig .tc} (h : r ∉ wIdx2) (V : Vals) :
    after opsIdx2 V (no_index (Proc.devRef .tc r)) = V (Proc.devRef .tc r) := after_unwritten wIdx2 rfl h V

/-- The buffers opsTake2 writes. -/
abbrev wTake2 : List (Ref sig .tc) :=
  [main_call11.c_1.ref, main_call11.c_2.ref, main_call11.v6.ref, main_call11.v7.ref, main_call11.v8.ref,
   main_call11.v9.ref, main_call11.v10.ref, main_call11.v11.ref, main_call11.c_3.ref, main_call11.v12.ref,
   main_call11.v13.ref, main_call11.v14.ref, main_call11.cst.ref, main_call11.v15.ref, main_call11.v16.ref, main_v259]

/-- The stretch of layer 2 that reads the picked rows leaves every buffer that it does not write. -/
theorem keepTake2 {r : Ref sig .tc} (h : r ∉ wTake2) (V : Vals) :
    after opsTake2 V (no_index (Proc.devRef .tc r)) = V (Proc.devRef .tc r) := after_unwritten wTake2 rfl h V

/-- The buffers opsLoss2 writes. -/
abbrev wLoss2 : List (Ref sig .tc) :=
  [main_v260, main_v261, main_cst_46, main_v262, main_cst_47, main_v263, main_v264, main_cst_48, main_v265,
   main_cst_49, main_v266, main_v267, main_v268, main_v269, main_cst_50, main_v270, main_cst_51, main_v271,
   main_v272, main_cst_52, main_v273, main_cst_53, main_v274, main_v275]

/-- The stretch of layer 2 that adds to the losses leaves every buffer that it does not write. -/
theorem keepLoss2 {r : Ref sig .tc} (h : r ∉ wLoss2) (V : Vals) :
    after opsLoss2 V (no_index (Proc.devRef .tc r)) = V (Proc.devRef .tc r) := after_unwritten wLoss2 rfl h V

/-- The buffers opsOut2 writes. -/
abbrev wOut2 : List (Ref sig .tc) :=
  [main_v276, main_v277, main_v278, main_v279, main_v280, main_v281, main_v282, main_cst_54, main_v283, main_v284,
   main_v285, main_v286, main_cst_55, main_v287, main_v288, main_v289, main_v290, main_v291, main_v292, main_v293,
   main_v294, main_v295, main_v296, main_v297, main_v298, main_v299, main_v300]

/-- The stretch of layer 2 that computes the output and the next residual leaves every buffer that it does not write. -/
theorem keepOut2 {r : Ref sig .tc} (h : r ∉ wOut2) (V : Vals) :
    after opsOut2 V (no_index (Proc.devRef .tc r)) = V (Proc.devRef .tc r) := after_unwritten wOut2 rfl h V

/-- The buffers takeWrapOps (.of main_v255) main_call11 writes. -/
abbrev wWrap2 : List (Ref sig .tc) :=
  [main_call11.c.ref, main_call11.v0.ref, main_call11.v1.ref, main_call11.c_0.ref, main_call11.v2.ref,
   main_call11.v3.ref, main_call11.call0.v0.ref, main_call11.v5.ref]

/-- The stretch of layer 2 that wraps negative indices leaves every buffer that it does not write. -/
theorem keepWrap2 {r : Ref sig .tc} (h : r ∉ wWrap2) (V : Vals) :
    after (takeWrapOps (.of main_v255) main_call11) V (no_index (Proc.devRef .tc r)) = V (Proc.devRef .tc r) := after_unwritten wWrap2 rfl h V

/-- The buffers opsProj3 writes. -/
abbrev wProj3 : List (Ref sig .tc) :=
  [main_v301, main_v302, main_v303, main_v304, main_v305, main_cst_56, main_v306, main_v307, main_v308, main_v309,
   main_cst_57, main_v310, main_v311, main_v312, main_v313, main_v314, main_v315, main_v316, main_v317, main_v318,
   main_v319, main_v320, main_v321, main_v322, main_v323]

/-- The stretch of layer 3 that projects leaves every buffer that it does not write. -/
theorem keepProj3 {r : Ref sig .tc} (h : r ∉ wProj3) (V : Vals) :
    after opsProj3 V (no_index (Proc.devRef .tc r)) = V (Proc.devRef .tc r) := after_unwritten wProj3 rfl h V

/-- The buffers opsDist3 writes. -/
abbrev wDist3 : List (Ref sig .tc) :=
  [main_call12.v0.ref, main_call12.cst.ref, main_call12.v1.ref, main_call12.v2.ref, main_call12.v3.ref, main_cst_58,
   main_v325, main_v326, main_v327, main_v328, main_v329, main_v330, main_call13.v0.ref, main_call13.cst.ref,
   main_call13.v1.ref, main_call13.v2.ref, main_call13.v3.ref, main_cst_59, main_v332, main_v333, main_v334,
   main_v335, main_v336, main_cst_60, main_v337, main_v338, main_v339, main_v340, main_cst_61, main_v341, main_v342,
   main_v343, main_v344, main_v345, main_cst_62, main_v346, main_v347, main_v348, main_v349, main_v350, main_cst_63,
   main_v351, main_v352, main_v353]

/-- The stretch of layer 3 that computes the logits leaves every buffer that it does not write. -/
theorem keepDist3 {r : Ref sig .tc} (h : r ∉ wDist3) (V : Vals) :
    after opsDist3 V (no_index (Proc.devRef .tc r)) = V (Proc.devRef .tc r) := after_unwritten wDist3 rfl h V

/-- The buffers opsIdx3 writes. -/
abbrev wIdx3 : List (Ref sig .tc) :=
  [main_call14.v0.ref, main_call14.cst.ref, main_call14.c.ref, main_call14.v1_0.ref, main_call14.v1_1.ref, main_v355,
   main_v356, main_v357]

/-- The stretch of layer 3 that picks leaves every buffer that it does not write. -/
theorem keepIdx3 {r : Ref sig .tc} (h : r ∉ wIdx3) (V : Vals) :
    after opsIdx3 V (no_index (Proc.devRef .tc r)) = V (Proc.devRef .tc r) := after_unwritten wIdx3 rfl h V

/-- The buffers opsTake3 writes. -/
abbrev wTake3 : List (Ref sig .tc) :=
  [main_call15.c_1.ref, main_call15.c_2.ref, main_call15.v6.ref, main_call15.v7.ref, main_call15.v8.ref,
   main_call15.v9.ref, main_call15.v10.ref, main_call15.v11.ref, main_call15.c_3.ref, main_call15.v12.ref,
   main_call15.v13.ref, main_call15.v14.ref, main_call15.cst.ref, main_call15.v15.ref, main_call15.v16.ref, main_v359]

/-- The stretch of layer 3 that reads the picked rows leaves every buffer that it does not write. -/
theorem keepTake3 {r : Ref sig .tc} (h : r ∉ wTake3) (V : Vals) :
    after opsTake3 V (no_index (Proc.devRef .tc r)) = V (Proc.devRef .tc r) := after_unwritten wTake3 rfl h V

/-- The buffers opsLoss3 writes. -/
abbrev wLoss3 : List (Ref sig .tc) :=
  [main_v360, main_v361, main_cst_64, main_v362, main_cst_65, main_v363, main_v364, main_cst_66, main_v365,
   main_cst_67, main_v366, main_v367, main_v368, main_v369, main_cst_68, main_v370, main_cst_69, main_v371,
   main_v372, main_cst_70, main_v373, main_cst_71, main_v374, main_v375]

/-- The stretch of layer 3 that adds to the losses leaves every buffer that it does not write. -/
theorem keepLoss3 {r : Ref sig .tc} (h : r ∉ wLoss3) (V : Vals) :
    after opsLoss3 V (no_index (Proc.devRef .tc r)) = V (Proc.devRef .tc r) := after_unwritten wLoss3 rfl h V

/-- The buffers opsOut3 writes. -/
abbrev wOut3 : List (Ref sig .tc) :=
  [main_v376, main_v377, main_v378, main_v379, main_v380, main_v381, main_v382, main_cst_72, main_v383, main_v384,
   main_v385, main_v386, main_cst_73, main_v387, main_v388, main_v389, main_v390, main_v391, main_v392, main_v393,
   main_v394, main_v395, main_v396, main_v397, main_v398, main_v399, main_v400]

/-- The stretch of layer 3 that computes the output and the next residual leaves every buffer that it does not write. -/
theorem keepOut3 {r : Ref sig .tc} (h : r ∉ wOut3) (V : Vals) :
    after opsOut3 V (no_index (Proc.devRef .tc r)) = V (Proc.devRef .tc r) := after_unwritten wOut3 rfl h V

/-- The buffers takeWrapOps (.of main_v355) main_call15 writes. -/
abbrev wWrap3 : List (Ref sig .tc) :=
  [main_call15.c.ref, main_call15.v0.ref, main_call15.v1.ref, main_call15.c_0.ref, main_call15.v2.ref,
   main_call15.v3.ref, main_call15.call0.v0.ref, main_call15.v5.ref]

/-- The stretch of layer 3 that wraps negative indices leaves every buffer that it does not write. -/
theorem keepWrap3 {r : Ref sig .tc} (h : r ∉ wWrap3) (V : Vals) :
    after (takeWrapOps (.of main_v355) main_call15) V (no_index (Proc.devRef .tc r)) = V (Proc.devRef .tc r) := after_unwritten wWrap3 rfl h V

/-! ### A layer as a function of the arguments and its residual -/

/-- The eight arguments. -/
structure Args where
  /-- the input -/
  a0 : A S8x512x1024
  /-- input weights -/
  a1 : A S4x256x512
  /-- input gains -/
  a2 : A S4x256
  /-- input biases -/
  a3 : A S4x256
  /-- output weights -/
  a4 : A S4x512x256
  /-- output gains -/
  a5 : A S4x512
  /-- output biases -/
  a6 : A S4x512
  /-- codebooks -/
  a7 : A S4x1024x256

/-- The arguments as the buffers hold them. -/
def args (W : Vals) : Args :=
  ⟨W (Proc.devRef .tc main_arg0), W (Proc.devRef .tc main_arg1), W (Proc.devRef .tc main_arg2), W (Proc.devRef .tc main_arg3),
    W (Proc.devRef .tc main_arg4), W (Proc.devRef .tc main_arg5), W (Proc.devRef .tc main_arg6), W (Proc.devRef .tc main_arg7)⟩

variable (a : Args) (l : Fin 4) (x : A S8x512x1024)

/-- Layer `l`'s projection of the residual `x`. -/
def pR : A S8x256x1024 := projR x (slWin l a.a1) (slVec l a.a2) (slVec l a.a3)
/-- Its logits. -/
def lR : A S8192x1024 := logitR (tokR (pR a l x)) (slCode l a.a7)
/-- Its indices. -/
def iR : IVec S8x1024 32 := idxR (negR (tokR (pR a l x)) (slCode l a.a7))
/-- Its picked codebook rows. -/
def qR : A S8x256x1024 := quantR (slCode l a.a7) (wrapR (iR a l x))
/-- Its output. -/
def oR : A S8x512x1024 := outR (pR a l x) (qR a l x) (slWout l a.a4) (slVecOut l a.a5) (slVecOut l a.a6)
/-- Its commitment loss. -/
def cR : A S_ := meanSq (subf (pR a l x) (qR a l x))
/-- Its codebook loss. -/
def bR : A S_ := meanSq (subf (qR a l x) (pR a l x))
/-- The residual it leaves. -/
def nR : A S8x512x1024 := subf x (oR a l x)

/-! ### Each layer's operations are that layer -/

/-- Layer 0's pick, wrap and read, one after the other. -/
theorem pick0_eq : (opsPick0 : List (HloOp τ sig (Elt Ideal))) = opsIdx0 ++ (takeWrapOps (.of main_v55) main_call3 ++ opsTake0) := rfl

/-- All of layer 0 leaves the logits, in terms of the residual it found. -/
theorem logitsLayer0 (W : Vals) : after opsLayer0 W (no_index (Proc.devRef .tc main_v52)) = lR (args W) 0 (W (Proc.devRef .tc main_arg0)) := by
  simp (disch := decide) only [opsLayer0, pick0_eq, StableHlo.after_append, proj0, tok0, logits0, negs0, idx0, code0, wrap0, rows0,
    commit0, codebook0, tot0, res0, keepProj0, keepDist0, keepIdx0, keepWrap0, keepTake0, keepLoss0, keepOut0, lR, iR, qR, oR, cR, bR, nR, pR, args]

/-- All of layer 0 leaves the picks, in terms of the residual it found. -/
theorem idxLayer0 (W : Vals) : after opsLayer0 W (no_index (Proc.devRef .tc main_v55)) = iR (args W) 0 (W (Proc.devRef .tc main_arg0)) := by
  simp (disch := decide) only [opsLayer0, pick0_eq, StableHlo.after_append, proj0, tok0, logits0, negs0, idx0, code0, wrap0, rows0,
    commit0, codebook0, tot0, res0, keepProj0, keepDist0, keepIdx0, keepWrap0, keepTake0, keepLoss0, keepOut0, lR, iR, qR, oR, cR, bR, nR, pR, args]

/-- All of layer 0 leaves the commitment loss so far, in terms of the residual it found. -/
theorem commitLayer0 (W : Vals) : after opsLayer0 W (no_index (Proc.devRef .tc main_v67)) = addf (constant S_ .f32 0x00000000#32) (cR (args W) 0 (W (Proc.devRef .tc main_arg0))) := by
  simp (disch := decide) only [opsLayer0, pick0_eq, StableHlo.after_append, proj0, tok0, logits0, negs0, idx0, code0, wrap0, rows0,
    commit0, codebook0, tot0, res0, keepProj0, keepDist0, keepIdx0, keepWrap0, keepTake0, keepLoss0, keepOut0, lR, iR, qR, oR, cR, bR, nR, pR, args]

/-- All of layer 0 leaves the codebook loss so far, in terms of the residual it found. -/
theorem codebookLayer0 (W : Vals) : after opsLayer0 W (no_index (Proc.devRef .tc main_v75)) = addf (constant S_ .f32 0x00000000#32) (bR (args W) 0 (W (Proc.devRef .tc main_arg0))) := by
  simp (disch := decide) only [opsLayer0, pick0_eq, StableHlo.after_append, proj0, tok0, logits0, negs0, idx0, code0, wrap0, rows0,
    commit0, codebook0, tot0, res0, keepProj0, keepDist0, keepIdx0, keepWrap0, keepTake0, keepLoss0, keepOut0, lR, iR, qR, oR, cR, bR, nR, pR, args]

/-- All of layer 0 leaves the outputs' sum so far, in terms of the residual it found. -/
theorem totLayer0 (W : Vals) : after opsLayer0 W (no_index (Proc.devRef .tc main_v99)) = addf (W (Proc.devRef .tc main_v0)) (oR (args W) 0 (W (Proc.devRef .tc main_arg0))) := by
  simp (disch := decide) only [opsLayer0, pick0_eq, StableHlo.after_append, proj0, tok0, logits0, negs0, idx0, code0, wrap0, rows0,
    commit0, codebook0, tot0, res0, keepProj0, keepDist0, keepIdx0, keepWrap0, keepTake0, keepLoss0, keepOut0, lR, iR, qR, oR, cR, bR, nR, pR, args]

/-- All of layer 0 leaves the residual for the next layer, in terms of the residual it found. -/
theorem resLayer0 (W : Vals) : after opsLayer0 W (no_index (Proc.devRef .tc main_v100)) = nR (args W) 0 (W (Proc.devRef .tc main_arg0)) := by
  simp (disch := decide) only [opsLayer0, pick0_eq, StableHlo.after_append, proj0, tok0, logits0, negs0, idx0, code0, wrap0, rows0,
    commit0, codebook0, tot0, res0, keepProj0, keepDist0, keepIdx0, keepWrap0, keepTake0, keepLoss0, keepOut0, lR, iR, qR, oR, cR, bR, nR, pR, args]

/-- Layer 1's pick, wrap and read, one after the other. -/
theorem pick1_eq : (opsPick1 : List (HloOp τ sig (Elt Ideal))) = opsIdx1 ++ (takeWrapOps (.of main_v155) main_call7 ++ opsTake1) := rfl

/-- All of layer 1 leaves the logits, in terms of the residual it found. -/
theorem logitsLayer1 (W : Vals) : after opsLayer1 W (no_index (Proc.devRef .tc main_v152)) = lR (args W) 1 (W (Proc.devRef .tc main_v100)) := by
  simp (disch := decide) only [opsLayer1, pick1_eq, StableHlo.after_append, proj1, tok1, logits1, negs1, idx1, code1, wrap1, rows1,
    commit1, codebook1, tot1, res1, keepProj1, keepDist1, keepIdx1, keepWrap1, keepTake1, keepLoss1, keepOut1, lR, iR, qR, oR, cR, bR, nR, pR, args]

/-- All of layer 1 leaves the picks, in terms of the residual it found. -/
theorem idxLayer1 (W : Vals) : after opsLayer1 W (no_index (Proc.devRef .tc main_v155)) = iR (args W) 1 (W (Proc.devRef .tc main_v100)) := by
  simp (disch := decide) only [opsLayer1, pick1_eq, StableHlo.after_append, proj1, tok1, logits1, negs1, idx1, code1, wrap1, rows1,
    commit1, codebook1, tot1, res1, keepProj1, keepDist1, keepIdx1, keepWrap1, keepTake1, keepLoss1, keepOut1, lR, iR, qR, oR, cR, bR, nR, pR, args]

/-- All of layer 1 leaves the commitment loss so far, in terms of the residual it found. -/
theorem commitLayer1 (W : Vals) : after opsLayer1 W (no_index (Proc.devRef .tc main_v167)) = addf (W (Proc.devRef .tc main_v67)) (cR (args W) 1 (W (Proc.devRef .tc main_v100))) := by
  simp (disch := decide) only [opsLayer1, pick1_eq, StableHlo.after_append, proj1, tok1, logits1, negs1, idx1, code1, wrap1, rows1,
    commit1, codebook1, tot1, res1, keepProj1, keepDist1, keepIdx1, keepWrap1, keepTake1, keepLoss1, keepOut1, lR, iR, qR, oR, cR, bR, nR, pR, args]

/-- All of layer 1 leaves the codebook loss so far, in terms of the residual it found. -/
theorem codebookLayer1 (W : Vals) : after opsLayer1 W (no_index (Proc.devRef .tc main_v175)) = addf (W (Proc.devRef .tc main_v75)) (bR (args W) 1 (W (Proc.devRef .tc main_v100))) := by
  simp (disch := decide) only [opsLayer1, pick1_eq, StableHlo.after_append, proj1, tok1, logits1, negs1, idx1, code1, wrap1, rows1,
    commit1, codebook1, tot1, res1, keepProj1, keepDist1, keepIdx1, keepWrap1, keepTake1, keepLoss1, keepOut1, lR, iR, qR, oR, cR, bR, nR, pR, args]

/-- All of layer 1 leaves the outputs' sum so far, in terms of the residual it found. -/
theorem totLayer1 (W : Vals) : after opsLayer1 W (no_index (Proc.devRef .tc main_v199)) = addf (W (Proc.devRef .tc main_v99)) (oR (args W) 1 (W (Proc.devRef .tc main_v100))) := by
  simp (disch := decide) only [opsLayer1, pick1_eq, StableHlo.after_append, proj1, tok1, logits1, negs1, idx1, code1, wrap1, rows1,
    commit1, codebook1, tot1, res1, keepProj1, keepDist1, keepIdx1, keepWrap1, keepTake1, keepLoss1, keepOut1, lR, iR, qR, oR, cR, bR, nR, pR, args]

/-- All of layer 1 leaves the residual for the next layer, in terms of the residual it found. -/
theorem resLayer1 (W : Vals) : after opsLayer1 W (no_index (Proc.devRef .tc main_v200)) = nR (args W) 1 (W (Proc.devRef .tc main_v100)) := by
  simp (disch := decide) only [opsLayer1, pick1_eq, StableHlo.after_append, proj1, tok1, logits1, negs1, idx1, code1, wrap1, rows1,
    commit1, codebook1, tot1, res1, keepProj1, keepDist1, keepIdx1, keepWrap1, keepTake1, keepLoss1, keepOut1, lR, iR, qR, oR, cR, bR, nR, pR, args]

/-- Layer 2's pick, wrap and read, one after the other. -/
theorem pick2_eq : (opsPick2 : List (HloOp τ sig (Elt Ideal))) = opsIdx2 ++ (takeWrapOps (.of main_v255) main_call11 ++ opsTake2) := rfl

/-- All of layer 2 leaves the logits, in terms of the residual it found. -/
theorem logitsLayer2 (W : Vals) : after opsLayer2 W (no_index (Proc.devRef .tc main_v252)) = lR (args W) 2 (W (Proc.devRef .tc main_v200)) := by
  simp (disch := decide) only [opsLayer2, pick2_eq, StableHlo.after_append, proj2, tok2, logits2, negs2, idx2, code2, wrap2, rows2,
    commit2, codebook2, tot2, res2, keepProj2, keepDist2, keepIdx2, keepWrap2, keepTake2, keepLoss2, keepOut2, lR, iR, qR, oR, cR, bR, nR, pR, args]

/-- All of layer 2 leaves the picks, in terms of the residual it found. -/
theorem idxLayer2 (W : Vals) : after opsLayer2 W (no_index (Proc.devRef .tc main_v255)) = iR (args W) 2 (W (Proc.devRef .tc main_v200)) := by
  simp (disch := decide) only [opsLayer2, pick2_eq, StableHlo.after_append, proj2, tok2, logits2, negs2, idx2, code2, wrap2, rows2,
    commit2, codebook2, tot2, res2, keepProj2, keepDist2, keepIdx2, keepWrap2, keepTake2, keepLoss2, keepOut2, lR, iR, qR, oR, cR, bR, nR, pR, args]

/-- All of layer 2 leaves the commitment loss so far, in terms of the residual it found. -/
theorem commitLayer2 (W : Vals) : after opsLayer2 W (no_index (Proc.devRef .tc main_v267)) = addf (W (Proc.devRef .tc main_v167)) (cR (args W) 2 (W (Proc.devRef .tc main_v200))) := by
  simp (disch := decide) only [opsLayer2, pick2_eq, StableHlo.after_append, proj2, tok2, logits2, negs2, idx2, code2, wrap2, rows2,
    commit2, codebook2, tot2, res2, keepProj2, keepDist2, keepIdx2, keepWrap2, keepTake2, keepLoss2, keepOut2, lR, iR, qR, oR, cR, bR, nR, pR, args]

/-- All of layer 2 leaves the codebook loss so far, in terms of the residual it found. -/
theorem codebookLayer2 (W : Vals) : after opsLayer2 W (no_index (Proc.devRef .tc main_v275)) = addf (W (Proc.devRef .tc main_v175)) (bR (args W) 2 (W (Proc.devRef .tc main_v200))) := by
  simp (disch := decide) only [opsLayer2, pick2_eq, StableHlo.after_append, proj2, tok2, logits2, negs2, idx2, code2, wrap2, rows2,
    commit2, codebook2, tot2, res2, keepProj2, keepDist2, keepIdx2, keepWrap2, keepTake2, keepLoss2, keepOut2, lR, iR, qR, oR, cR, bR, nR, pR, args]

/-- All of layer 2 leaves the outputs' sum so far, in terms of the residual it found. -/
theorem totLayer2 (W : Vals) : after opsLayer2 W (no_index (Proc.devRef .tc main_v299)) = addf (W (Proc.devRef .tc main_v199)) (oR (args W) 2 (W (Proc.devRef .tc main_v200))) := by
  simp (disch := decide) only [opsLayer2, pick2_eq, StableHlo.after_append, proj2, tok2, logits2, negs2, idx2, code2, wrap2, rows2,
    commit2, codebook2, tot2, res2, keepProj2, keepDist2, keepIdx2, keepWrap2, keepTake2, keepLoss2, keepOut2, lR, iR, qR, oR, cR, bR, nR, pR, args]

/-- All of layer 2 leaves the residual for the next layer, in terms of the residual it found. -/
theorem resLayer2 (W : Vals) : after opsLayer2 W (no_index (Proc.devRef .tc main_v300)) = nR (args W) 2 (W (Proc.devRef .tc main_v200)) := by
  simp (disch := decide) only [opsLayer2, pick2_eq, StableHlo.after_append, proj2, tok2, logits2, negs2, idx2, code2, wrap2, rows2,
    commit2, codebook2, tot2, res2, keepProj2, keepDist2, keepIdx2, keepWrap2, keepTake2, keepLoss2, keepOut2, lR, iR, qR, oR, cR, bR, nR, pR, args]

/-- Layer 3's pick, wrap and read, one after the other. -/
theorem pick3_eq : (opsPick3 : List (HloOp τ sig (Elt Ideal))) = opsIdx3 ++ (takeWrapOps (.of main_v355) main_call15 ++ opsTake3) := rfl

/-- All of layer 3 leaves the logits, in terms of the residual it found. -/
theorem logitsLayer3 (W : Vals) : after opsLayer3 W (no_index (Proc.devRef .tc main_v352)) = lR (args W) 3 (W (Proc.devRef .tc main_v300)) := by
  simp (disch := decide) only [opsLayer3, pick3_eq, StableHlo.after_append, proj3, tok3, logits3, negs3, idx3, code3, wrap3, rows3,
    commit3, codebook3, tot3, res3, keepProj3, keepDist3, keepIdx3, keepWrap3, keepTake3, keepLoss3, keepOut3, lR, iR, qR, oR, cR, bR, nR, pR, args]

/-- All of layer 3 leaves the picks, in terms of the residual it found. -/
theorem idxLayer3 (W : Vals) : after opsLayer3 W (no_index (Proc.devRef .tc main_v355)) = iR (args W) 3 (W (Proc.devRef .tc main_v300)) := by
  simp (disch := decide) only [opsLayer3, pick3_eq, StableHlo.after_append, proj3, tok3, logits3, negs3, idx3, code3, wrap3, rows3,
    commit3, codebook3, tot3, res3, keepProj3, keepDist3, keepIdx3, keepWrap3, keepTake3, keepLoss3, keepOut3, lR, iR, qR, oR, cR, bR, nR, pR, args]

/-- All of layer 3 leaves the commitment loss so far, in terms of the residual it found. -/
theorem commitLayer3 (W : Vals) : after opsLayer3 W (no_index (Proc.devRef .tc main_v367)) = addf (W (Proc.devRef .tc main_v267)) (cR (args W) 3 (W (Proc.devRef .tc main_v300))) := by
  simp (disch := decide) only [opsLayer3, pick3_eq, StableHlo.after_append, proj3, tok3, logits3, negs3, idx3, code3, wrap3, rows3,
    commit3, codebook3, tot3, res3, keepProj3, keepDist3, keepIdx3, keepWrap3, keepTake3, keepLoss3, keepOut3, lR, iR, qR, oR, cR, bR, nR, pR, args]

/-- All of layer 3 leaves the codebook loss so far, in terms of the residual it found. -/
theorem codebookLayer3 (W : Vals) : after opsLayer3 W (no_index (Proc.devRef .tc main_v375)) = addf (W (Proc.devRef .tc main_v275)) (bR (args W) 3 (W (Proc.devRef .tc main_v300))) := by
  simp (disch := decide) only [opsLayer3, pick3_eq, StableHlo.after_append, proj3, tok3, logits3, negs3, idx3, code3, wrap3, rows3,
    commit3, codebook3, tot3, res3, keepProj3, keepDist3, keepIdx3, keepWrap3, keepTake3, keepLoss3, keepOut3, lR, iR, qR, oR, cR, bR, nR, pR, args]

/-- All of layer 3 leaves the outputs' sum so far, in terms of the residual it found. -/
theorem totLayer3 (W : Vals) : after opsLayer3 W (no_index (Proc.devRef .tc main_v399)) = addf (W (Proc.devRef .tc main_v299)) (oR (args W) 3 (W (Proc.devRef .tc main_v300))) := by
  simp (disch := decide) only [opsLayer3, pick3_eq, StableHlo.after_append, proj3, tok3, logits3, negs3, idx3, code3, wrap3, rows3,
    commit3, codebook3, tot3, res3, keepProj3, keepDist3, keepIdx3, keepWrap3, keepTake3, keepLoss3, keepOut3, lR, iR, qR, oR, cR, bR, nR, pR, args]

/-- All of layer 3 leaves the residual for the next layer, in terms of the residual it found. -/
theorem resLayer3 (W : Vals) : after opsLayer3 W (no_index (Proc.devRef .tc main_v400)) = nR (args W) 3 (W (Proc.devRef .tc main_v300)) := by
  simp (disch := decide) only [opsLayer3, pick3_eq, StableHlo.after_append, proj3, tok3, logits3, negs3, idx3, code3, wrap3, rows3,
    commit3, codebook3, tot3, res3, keepProj3, keepDist3, keepIdx3, keepWrap3, keepTake3, keepLoss3, keepOut3, lR, iR, qR, oR, cR, bR, nR, pR, args]

end Cert.Ref

end
-- ==== Proof.RefResult.lean ====
/-
  The reference's results, one expression each over the eight arguments.
-/
module

public import proofs.«01_k».proof.Proof.RefRead

@[expose] public section

set_option maxRecDepth 16384

noncomputable section

namespace Cert.Ref

open Cert.ReferenceIdeal Cert.ReferenceIdeal.Gen Idealize.ShloMosaic Idealize.ShloMosaic.TcCoe Idealize.SL.Sem
  Idealize.ShloMosaic.StableHlo

/-! ### What each layer leaves alone -/

/-- Layer 0 leaves every buffer that it does not write. -/
theorem keepLayer0 {r : Ref sig .tc} (h : r ∉ wProj0 ++ (wDist0 ++ (wIdx0 ++ (wWrap0 ++ (wTake0 ++ (wLoss0 ++ (wOut0))))))) (V : Vals) :
    after opsLayer0 V (no_index (Proc.devRef .tc r)) = V (Proc.devRef .tc r) := by
  simp only [List.mem_append, not_or] at h
  obtain ⟨h1, h2, h3, h4, h5, h6, h7⟩ := h
  rw [opsLayer0, pick0_eq]
  simp only [StableHlo.after_append]
  rw [keepOut0 h7, keepLoss0 h6, keepTake0 h5, keepWrap0 h4, keepIdx0 h3, keepDist0 h2, keepProj0 h1]

/-- Layer 0 leaves the arguments. -/
theorem argsLayer0 (W : Vals) : args (after opsLayer0 W) = args W := by
  simp (disch := decide) only [args, keepLayer0]

/-- Layer 1 leaves every buffer that it does not write. -/
theorem keepLayer1 {r : Ref sig .tc} (h : r ∉ wProj1 ++ (wDist1 ++ (wIdx1 ++ (wWrap1 ++ (wTake1 ++ (wLoss1 ++ (wOut1))))))) (V : Vals) :
    after opsLayer1 V (no_index (Proc.devRef .tc r)) = V (Proc.devRef .tc r) := by
  simp only [List.mem_append, not_or] at h
  obtain ⟨h1, h2, h3, h4, h5, h6, h7⟩ := h
  rw [opsLayer1, pick1_eq]
  simp only [StableHlo.after_append]
  rw [keepOut1 h7, keepLoss1 h6, keepTake1 h5, keepWrap1 h4, keepIdx1 h3, keepDist1 h2, keepProj1 h1]

/-- Layer 1 leaves the arguments. -/
theorem argsLayer1 (W : Vals) : args (after opsLayer1 W) = args W := by
  simp (disch := decide) only [args, keepLayer1]

/-- Layer 2 leaves every buffer that it does not write. -/
theorem keepLayer2 {r : Ref sig .tc} (h : r ∉ wProj2 ++ (wDist2 ++ (wIdx2 ++ (wWrap2 ++ (wTake2 ++ (wLoss2 ++ (wOut2))))))) (V : Vals) :
    after opsLayer2 V (no_index (Proc.devRef .tc r)) = V (Proc.devRef .tc r) := by
  simp only [List.mem_append, not_or] at h
  obtain ⟨h1, h2, h3, h4, h5, h6, h7⟩ := h
  rw [opsLayer2, pick2_eq]
  simp only [StableHlo.after_append]
  rw [keepOut2 h7, keepLoss2 h6, keepTake2 h5, keepWrap2 h4, keepIdx2 h3, keepDist2 h2, keepProj2 h1]

/-- Layer 2 leaves the arguments. -/
theorem argsLayer2 (W : Vals) : args (after opsLayer2 W) = args W := by
  simp (disch := decide) only [args, keepLayer2]

/-- Layer 3 leaves every buffer that it does not write. -/
theorem keepLayer3 {r : Ref sig .tc} (h : r ∉ wProj3 ++ (wDist3 ++ (wIdx3 ++ (wWrap3 ++ (wTake3 ++ (wLoss3 ++ (wOut3))))))) (V : Vals) :
    after opsLayer3 V (no_index (Proc.devRef .tc r)) = V (Proc.devRef .tc r) := by
  simp only [List.mem_append, not_or] at h
  obtain ⟨h1, h2, h3, h4, h5, h6, h7⟩ := h
  rw [opsLayer3, pick3_eq]
  simp only [StableHlo.after_append]
  rw [keepOut3 h7, keepLoss3 h6, keepTake3 h5, keepWrap3 h4, keepIdx3 h3, keepDist3 h2, keepProj3 h1]

/-- Layer 3 leaves the arguments. -/
theorem argsLayer3 (W : Vals) : args (after opsLayer3 W) = args W := by
  simp (disch := decide) only [args, keepLayer3]

/-- The first operations leave the arguments. -/
theorem argsInit (W : Vals) : args (after opsInit W) = args W := by
  simp (disch := decide) only [args, keepInit]

/-- They leave a zero array for the outputs' sum. -/
theorem zero0 (W : Vals) : after opsInit W (no_index (Proc.devRef .tc main_v0)) =
    broadcastInDim S8x512x1024 ![] bcast_S_S8x512x1024 (constant (F := Ideal) S_ .f32 0x00000000#32) := by
  simp only [opsInit]
  after_reads_simp

/-! ### The stacking of the four layers' indices and logits -/

/-- Four index planes stacked along a new axis. -/
def stackI (u v w z : IVec S8x1024 32) : IVec S8x4x1024 32 :=
  concatenate S8x4x1024 1
    [⟨S8x1x1024, broadcastInDim S8x1x1024 ![0, 2] bcast_S8x1024_S8x1x1024_0_2 u⟩,
      ⟨S8x1x1024, broadcastInDim S8x1x1024 ![0, 2] bcast_S8x1024_S8x1x1024_0_2 v⟩,
      ⟨S8x1x1024, broadcastInDim S8x1x1024 ![0, 2] bcast_S8x1024_S8x1x1024_0_2 w⟩,
      ⟨S8x1x1024, broadcastInDim S8x1x1024 ![0, 2] bcast_S8x1024_S8x1x1024_0_2 z⟩]
    concatenates_S8x1x1024_S8x1x1024_S8x1x1024_S8x1x1024_S8x4x1024_d1

/-- Four logit planes stacked along a new axis. -/
def stackL (u v w z : A S8192x1024) : A S8192x4x1024 :=
  concatenate S8192x4x1024 1
    [⟨S8192x1x1024, broadcastInDim S8192x1x1024 ![0, 2] bcast_S8192x1024_S8192x1x1024_0_2 u⟩,
      ⟨S8192x1x1024, broadcastInDim S8192x1x1024 ![0, 2] bcast_S8192x1024_S8192x1x1024_0_2 v⟩,
      ⟨S8192x1x1024, broadcastInDim S8192x1x1024 ![0, 2] bcast_S8192x1024_S8192x1x1024_0_2 w⟩,
      ⟨S8192x1x1024, broadcastInDim S8192x1x1024 ![0, 2] bcast_S8192x1024_S8192x1x1024_0_2 z⟩]
    concatenates_S8192x1x1024_S8192x1x1024_S8192x1x1024_S8192x1x1024_S8192x4x1024_d1

/-- The last operations stack the picks. -/
theorem stackIdx (W : Vals) : after opsStack W (no_index (Proc.devRef .tc main_v405)) =
    stackI (W (Proc.devRef .tc main_v55)) (W (Proc.devRef .tc main_v155)) (W (Proc.devRef .tc main_v255)) (W (Proc.devRef .tc main_v355)) := by
  simp only [opsStack, opsStacka, opsStackb]
  after_reads_simp
  rfl

/-- They stack the logits. -/
theorem stackLogits (W : Vals) : after opsStack W (no_index (Proc.devRef .tc main_v410)) =
    stackL (W (Proc.devRef .tc main_v52)) (W (Proc.devRef .tc main_v152)) (W (Proc.devRef .tc main_v252)) (W (Proc.devRef .tc main_v352)) := by
  simp only [opsStack, opsStacka, opsStackb]
  after_reads_simp
  rfl

/-- The buffers opsStack writes. -/
abbrev wStack : List (Ref sig .tc) :=
  [main_v401, main_v402, main_v403, main_v404, main_v405, main_v406, main_v407, main_v408, main_v409, main_v410]

/-- They leave every other buffer. -/
theorem keepStack {r : Ref sig .tc} (h : r ∉ wStack) (V : Vals) :
    after opsStack V (no_index (Proc.devRef .tc r)) = V (Proc.devRef .tc r) := after_unwritten wStack (by rfl) h V

/-! ### The results -/

variable (a : Args)

/-- The residual layer 1 sees. -/
def x1 : A S8x512x1024 := nR a 0 a.a0
/-- The residual layer 2 sees. -/
def x2 : A S8x512x1024 := nR a 1 (x1 a)
/-- The residual layer 3 sees. -/
def x3 : A S8x512x1024 := nR a 2 (x2 a)

/-- The sum of the layers' outputs. -/
def totalR : A S8x512x1024 :=
  addf (addf (addf (addf (broadcastInDim S8x512x1024 ![] bcast_S_S8x512x1024 (constant (F := Ideal) S_ .f32 0x00000000#32))
    (oR a 0 a.a0)) (oR a 1 (x1 a))) (oR a 2 (x2 a))) (oR a 3 (x3 a))

/-- The commitment loss. -/
def commitR : A S_ :=
  addf (addf (addf (addf (constant (F := Ideal) S_ .f32 0x00000000#32) (cR a 0 a.a0)) (cR a 1 (x1 a))) (cR a 2 (x2 a))) (cR a 3 (x3 a))

/-- The codebook loss. -/
def codebookR : A S_ :=
  addf (addf (addf (addf (constant (F := Ideal) S_ .f32 0x00000000#32) (bR a 0 a.a0)) (bR a 1 (x1 a))) (bR a 2 (x2 a))) (bR a 3 (x3 a))

/-- The first result of the whole list, as array operations. -/
theorem total_read (W : Vals) : after ops W (Proc.devRef .tc main_v399) =
    totalR (args W) := by
  have h0 : (args W).a0 = W (Proc.devRef .tc main_arg0) := rfl
  rw [ops]
  simp (disch := decide) only [StableHlo.after_append, zero0, argsInit, argsLayer0, argsLayer1, argsLayer2, argsLayer3,
    stackIdx, stackLogits, keepStack, keepLayer0, keepLayer1, keepLayer2, keepLayer3, keepInit,
    logitsLayer0, logitsLayer1, logitsLayer2, logitsLayer3,
    idxLayer0, idxLayer1, idxLayer2, idxLayer3,
    commitLayer0, commitLayer1, commitLayer2, commitLayer3,
    codebookLayer0, codebookLayer1, codebookLayer2, codebookLayer3,
    totLayer0, totLayer1, totLayer2, totLayer3,
    resLayer0, resLayer1, resLayer2, resLayer3, totalR, x3, x2, x1, h0]

/-- The second. -/
theorem indices_read (W : Vals) : after ops W (Proc.devRef .tc main_v405) =
    stackI (iR (args W) 0 (args W).a0) (iR (args W) 1 (x1 (args W))) (iR (args W) 2 (x2 (args W))) (iR (args W) 3 (x3 (args W))) := by
  have h0 : (args W).a0 = W (Proc.devRef .tc main_arg0) := rfl
  rw [ops]
  simp (disch := decide) only [StableHlo.after_append, zero0, argsInit, argsLayer0, argsLayer1, argsLayer2, argsLayer3,
    stackIdx, stackLogits, keepStack, keepLayer0, keepLayer1, keepLayer2, keepLayer3, keepInit,
    logitsLayer0, logitsLayer1, logitsLayer2, logitsLayer3,
    idxLayer0, idxLayer1, idxLayer2, idxLayer3,
    commitLayer0, commitLayer1, commitLayer2, commitLayer3,
    codebookLayer0, codebookLayer1, codebookLayer2, codebookLayer3,
    totLayer0, totLayer1, totLayer2, totLayer3,
    resLayer0, resLayer1, resLayer2, resLayer3, x3, x2, x1, h0]

/-- The third. -/
theorem logits_read (W : Vals) : after ops W (Proc.devRef .tc main_v410) =
    stackL (lR (args W) 0 (args W).a0) (lR (args W) 1 (x1 (args W))) (lR (args W) 2 (x2 (args W))) (lR (args W) 3 (x3 (args W))) := by
  have h0 : (args W).a0 = W (Proc.devRef .tc main_arg0) := rfl
  rw [ops]
  simp (disch := decide) only [StableHlo.after_append, zero0, argsInit, argsLayer0, argsLayer1, argsLayer2, argsLayer3,
    stackIdx, stackLogits, keepStack, keepLayer0, keepLayer1, keepLayer2, keepLayer3, keepInit,
    logitsLayer0, logitsLayer1, logitsLayer2, logitsLayer3,
    idxLayer0, idxLayer1, idxLayer2, idxLayer3,
    commitLayer0, commitLayer1, commitLayer2, commitLayer3,
    codebookLayer0, codebookLayer1, codebookLayer2, codebookLayer3,
    totLayer0, totLayer1, totLayer2, totLayer3,
    resLayer0, resLayer1, resLayer2, resLayer3, x3, x2, x1, h0]

/-- The fourth. -/
theorem commit_read (W : Vals) : after ops W (Proc.devRef .tc main_v367) =
    commitR (args W) := by
  have h0 : (args W).a0 = W (Proc.devRef .tc main_arg0) := rfl
  rw [ops]
  simp (disch := decide) only [StableHlo.after_append, zero0, argsInit, argsLayer0, argsLayer1, argsLayer2, argsLayer3,
    stackIdx, stackLogits, keepStack, keepLayer0, keepLayer1, keepLayer2, keepLayer3, keepInit,
    logitsLayer0, logitsLayer1, logitsLayer2, logitsLayer3,
    idxLayer0, idxLayer1, idxLayer2, idxLayer3,
    commitLayer0, commitLayer1, commitLayer2, commitLayer3,
    codebookLayer0, codebookLayer1, codebookLayer2, codebookLayer3,
    totLayer0, totLayer1, totLayer2, totLayer3,
    resLayer0, resLayer1, resLayer2, resLayer3, commitR, x3, x2, x1, h0]

/-- The fifth. -/
theorem codebook_read (W : Vals) : after ops W (Proc.devRef .tc main_v375) =
    codebookR (args W) := by
  have h0 : (args W).a0 = W (Proc.devRef .tc main_arg0) := rfl
  rw [ops]
  simp (disch := decide) only [StableHlo.after_append, zero0, argsInit, argsLayer0, argsLayer1, argsLayer2, argsLayer3,
    stackIdx, stackLogits, keepStack, keepLayer0, keepLayer1, keepLayer2, keepLayer3, keepInit,
    logitsLayer0, logitsLayer1, logitsLayer2, logitsLayer3,
    idxLayer0, idxLayer1, idxLayer2, idxLayer3,
    commitLayer0, commitLayer1, commitLayer2, commitLayer3,
    codebookLayer0, codebookLayer1, codebookLayer2, codebookLayer3,
    totLayer0, totLayer1, totLayer2, totLayer3,
    resLayer0, resLayer1, resLayer2, resLayer3, codebookR, x3, x2, x1, h0]

/-- No operation writes an argument. -/
theorem args_read (W : Vals) {r : Ref sig .tc} (h : r ∈ [main_arg0, main_arg1, main_arg2, main_arg3, main_arg4, main_arg5, main_arg6, main_arg7]) :
    after ops W (Proc.devRef .tc r) = W (Proc.devRef .tc r) := by
  simp only [List.mem_cons, List.not_mem_nil, or_false] at h
  rw [ops]
  rcases h with rfl | rfl | rfl | rfl | rfl | rfl | rfl | rfl <;>
    simp (disch := decide) only [StableHlo.after_append, keepStack, keepLayer0, keepLayer1, keepLayer2, keepLayer3, keepInit]

end Cert.Ref

end
-- ==== Proof.Spec.lean ====
/-
  The mathematics both programs compute, stated over the extended reals and without either program: a residual
  vector quantizer of four layers, one token at a time. Each layer projects the token's residual, picks the codebook
  row nearest in direction (the first among equals), projects that row back and subtracts it from the residual.
-/
module

public import Idealize.ShloMosaic.PureOps.Ideal.Laws
public import Idealize.ShloMosaic.Lib.IdealHost

@[expose] public section

namespace Cert.Spec

open Idealize.ShloMosaic

/-- The floor under every norm, the single-precision number nearest `1e-12`. -/
noncomputable def eps : EReal := Ideal.ofBits .f32 0x2B8CBCCC#32

/-- The squared length of a vector. -/
noncomputable def sq {n : ℕ} (v : Fin n → EReal) : EReal := ∑ i, v i * v i

/-- The length of a vector, kept off zero. -/
noncomputable def len {n : ℕ} (v : Fin n → EReal) : EReal := max (Ideal.sqrt (sq v)) eps

/-- A vector divided by its length. -/
noncomputable def unit {n : ℕ} (v : Fin n → EReal) (i : Fin n) : EReal := Ideal.div (v i) (len v)

/-- A weight-normalised row: the vector times its gain over its length. -/
noncomputable def wnorm {n : ℕ} (v : Fin n → EReal) (g : EReal) (i : Fin n) : EReal := v i * Ideal.div g (len v)

/-- The parameters of one layer, weights normalised. -/
structure Layer where
  /-- the input projection, a row per code coordinate -/
  win : Fin 256 → Fin 512 → EReal
  /-- its bias -/
  inb : Fin 256 → EReal
  /-- the output projection, a row per channel -/
  wout : Fin 512 → Fin 256 → EReal
  /-- its bias -/
  outb : Fin 512 → EReal
  /-- the codebook -/
  code : Fin 1024 → Fin 256 → EReal

/-- The input projection of a residual. -/
noncomputable def proj (L : Layer) (x : Fin 512 → EReal) (e : Fin 256) : EReal := (∑ c, x c * L.win e c) + L.inb e

/-- The score of codebook row `k` for the projected vector `p`: minus the squared distance of the two directions. -/
noncomputable def score (L : Layer) (p : Fin 256 → EReal) (k : Fin 1024) : EReal :=
  (Ideal.ofBits .f32 0x40000000#32 * (∑ e, unit p e * unit (L.code k) e) - sq (unit p)) - sq (unit (L.code k))

/-- `k` is the first place where `f` is greatest. -/
def IsFirstMax {n : ℕ} (f : Fin n → EReal) (k : Fin n) : Prop := (∀ j, f j ≤ f k) ∧ ∀ j, f k ≤ f j → k ≤ j

/-- The first place where `f` is greatest. -/
noncomputable def firstMax (f : Fin 1024 → EReal) : Fin 1024 := by
  classical exact if h : ∃ k, IsFirstMax f k then h.choose else 0

/-- The logits of a layer at a residual. -/
noncomputable def logit (L : Layer) (x : Fin 512 → EReal) (k : Fin 1024) : EReal := score L (proj L x) k

/-- The codebook row the layer picks. -/
noncomputable def pick (L : Layer) (x : Fin 512 → EReal) : Fin 1024 := firstMax (logit L x)

/-- The picked row less the projected vector. -/
noncomputable def diff (L : Layer) (x : Fin 512 → EReal) (e : Fin 256) : EReal := L.code (pick L x) e - proj L x e

/-- The layer's output: the projected vector plus that difference, projected back. -/
noncomputable def out (L : Layer) (x : Fin 512 → EReal) (c : Fin 512) : EReal :=
  (∑ e, (proj L x e + diff L x e) * L.wout c e) + L.outb c

/-- The residual the next layer sees. -/
noncomputable def next (L : Layer) (x : Fin 512 → EReal) (c : Fin 512) : EReal := x c - out L x c

/-- The residual layer `l` sees. -/
noncomputable def res (Ls : Fin 4 → Layer) (x : Fin 512 → EReal) : ℕ → Fin 512 → EReal
  | 0 => x
  | l + 1 => if h : l < 4 then next (Ls ⟨l, h⟩) (res Ls x l) else x

/-- The sum of the four layers' outputs, in the order the layers run. -/
noncomputable def total (Ls : Fin 4 → Layer) (x : Fin 512 → EReal) (c : Fin 512) : EReal :=
  (((0 + out (Ls 0) (res Ls x 0) c) + out (Ls 1) (res Ls x 1) c) + out (Ls 2) (res Ls x 2) c)
    + out (Ls 3) (res Ls x 3) c

/-- The squared difference of one layer on one token. -/
noncomputable def err (Ls : Fin 4 → Layer) (x : Fin 512 → EReal) (l : Fin 4) : EReal :=
  sq (diff (Ls l) (res Ls x l.val))

/-- The loss: the squared differences of every layer and token, summed and divided by the number of entries of one
    layer's codes. -/
noncomputable def loss (Ls : Fin 4 → Layer) (x : Fin 8 → Fin 1024 → Fin 512 → EReal) : EReal :=
  Ideal.div (∑ l, ∑ b, ∑ s, err Ls (x b s) l) (Ideal.ofBits .f32 0x4A000000#32)

/-! ### Constants -/

/-- The floor is a positive real number. -/
theorem eps_pos : ∃ r : ℝ, 0 < r ∧ eps = (r : EReal) := by
  refine ⟨(9223372 : ℝ) * (2 : ℝ) ^ (-63 : ℤ), by positivity, ?_⟩
  simp [eps, Ideal.ofBits, Ideal.ieee]

/-- The word of 2. -/
theorem two_eq : Ideal.ofBits .f32 0x40000000#32 = ((2 : ℝ) : EReal) := by
  simp [Ideal.ofBits, Ideal.ieee]
  rw [← EReal.coe_mul]
  norm_num

/-- The word of 8, the size of the batch. -/
theorem eight_eq : Ideal.ofBits .f32 0x41000000#32 = ((8 : ℝ) : EReal) := by
  simp [Ideal.ofBits, Ideal.ieee]
  rw [← EReal.coe_mul]
  norm_num

/-- The word of 2097152, the number of code entries of a layer. -/
theorem entries_eq : Ideal.ofBits .f32 0x4A000000#32 = ((2097152 : ℝ) : EReal) := by
  simp [Ideal.ofBits, Ideal.ieee]
  rw [← EReal.coe_mul]
  norm_num

/-- The word of 262144, the number of code entries of a batch entry. -/
theorem perBatch_eq : Ideal.ofBits .f32 0x48800000#32 = ((262144 : ℝ) : EReal) := by
  simp [Ideal.ofBits, Ideal.ieee]
  rw [← EReal.coe_mul]
  norm_num

/-- The word of minus infinity. -/
theorem negInf_eq : Ideal.ofBits .f32 0xFF800000#32 = (⊥ : EReal) := by
  simp [Ideal.ofBits, Ideal.ieee]

/-! ### Unit vectors are finite, so the two ways of writing a score agree -/

/-- A square is at least zero, infinities included. -/
theorem sq_nonneg' (a : EReal) : 0 ≤ a * a := by
  rcases le_total 0 a with h | h
  · exact mul_nonneg h h
  · have := mul_nonneg (EReal.neg_nonneg.2 h) (EReal.neg_nonneg.2 h)
    rwa [neg_mul_neg] at this

/-- So is a sum of squares. -/
theorem sq_nonneg {n : ℕ} (v : Fin n → EReal) : 0 ≤ sq v := Finset.sum_nonneg fun i _ => sq_nonneg' (v i)

/-- Every entry of a unit vector is a real number, whatever the vector was. -/
theorem unit_real {n : ℕ} (v : Fin n → EReal) (i : Fin n) : ∃ r : ℝ, unit v i = (r : EReal) := by
  obtain ⟨e, he, hE⟩ := eps_pos
  have hle : v i * v i ≤ sq v := Finset.single_le_sum (fun j _ => sq_nonneg' (v j)) (Finset.mem_univ i)
  have h0 := sq_nonneg v
  unfold unit len
  rw [hE]
  generalize sq v = S at hle h0
  induction S with
  | bot => exact absurd h0 (by simp)
  | top =>
    refine ⟨0, ?_⟩
    have ht : max (Ideal.sqrt ⊤) (e : EReal) = ⊤ := by
      rw [show Ideal.sqrt ⊤ = ⊤ from rfl]
      exact max_eq_left le_top
    rw [ht, Ideal.div, if_neg (by simp), EReal.inv_top, mul_zero]
    rfl
  | coe s =>
    have hs : ¬ s < 0 := not_lt.2 (by exact_mod_cast h0)
    have hm : max (Ideal.sqrt (s : EReal)) (e : EReal) = ((max (Real.sqrt s) e : ℝ) : EReal) := by
      rw [show Ideal.sqrt (s : EReal) = (Real.sqrt s : EReal) from if_neg hs]
      exact (EReal.coe_strictMono.monotone.map_max).symm
    have hp : (0 : ℝ) < max (Real.sqrt s) e := lt_max_of_lt_right he
    rw [hm]
    generalize v i = a at hle
    induction a with
    | bot => simp at hle
    | top => simp at hle
    | coe a =>
      refine ⟨a * (max (Real.sqrt s) e)⁻¹, ?_⟩
      rw [Ideal.div, if_neg (by exact_mod_cast hp.ne')]
      rw [EReal.coe_mul, EReal.coe_inv]

/-- A finite sum of real numbers is real. -/
theorem sum_real {ι : Type} (s : Finset ι) (f : ι → EReal) (h : ∀ i, ∃ r : ℝ, f i = (r : EReal)) :
    ∃ r : ℝ, ∑ i ∈ s, f i = (r : EReal) := by
  choose g hg using h
  refine ⟨∑ i ∈ s, g i, ?_⟩
  simp only [hg]
  induction s using Finset.cons_induction with
  | empty => simp
  | cons a S ha ih => rw [Finset.sum_cons, Finset.sum_cons, ih, EReal.coe_add]

/-- The products of two unit vectors' entries sum to a real number. -/
theorem dot_unit_real {n : ℕ} (v w : Fin n → EReal) : ∃ r : ℝ, ∑ i, unit v i * unit w i = (r : EReal) := by
  refine sum_real _ _ fun i => ?_
  obtain ⟨a, ha⟩ := unit_real v i
  obtain ⟨b, hb⟩ := unit_real w i
  exact ⟨a * b, by rw [ha, hb, EReal.coe_mul]⟩

/-- The reference's score: the negated squared distance, divided by a temperature of one. -/
noncomputable def score' (L : Layer) (p : Fin 256 → EReal) (k : Fin 1024) : EReal :=
  Ideal.div (-((sq (unit p) - Ideal.ofBits .f32 0x40000000#32 * (∑ e, unit p e * unit (L.code k) e)) + sq (unit (L.code k))))
    (Ideal.ofBits .f32 0x3F800000#32)

/-- It is the same score: all three terms are real numbers. -/
theorem score'_eq (L : Layer) (p : Fin 256 → EReal) (k : Fin 1024) : score' L p k = score L p k := by
  obtain ⟨a, ha⟩ := dot_unit_real p p
  obtain ⟨b, hb⟩ := dot_unit_real p (L.code k)
  obtain ⟨c, hc⟩ := dot_unit_real (L.code k) (L.code k)
  unfold score' score
  rw [sq, sq, ha, hb, hc, two_eq, Ideal.ofBits_one_f32, Ideal.div, if_neg one_ne_zero, inv_one, mul_one]
  norm_cast
  ring

/-- A score is a real number. -/
theorem score_real (L : Layer) (p : Fin 256 → EReal) (k : Fin 1024) : ∃ r : ℝ, score L p k = (r : EReal) := by
  obtain ⟨a, ha⟩ := dot_unit_real p p
  obtain ⟨b, hb⟩ := dot_unit_real p (L.code k)
  obtain ⟨c, hc⟩ := dot_unit_real (L.code k) (L.code k)
  refine ⟨(2 * b - a) - c, ?_⟩
  unfold score
  rw [sq, sq, ha, hb, hc, two_eq]
  norm_cast

/-! ### The first greatest place -/

/-- There is one first maximum at most. -/
theorem IsFirstMax.unique {n : ℕ} {f : Fin n → EReal} {k k' : Fin n} (h : IsFirstMax f k) (h' : IsFirstMax f k') : k = k' :=
  le_antisymm (h.2 k' (h'.1 k)) (h'.2 k (h.1 k'))

/-- There is a first maximum. -/
theorem exists_isFirstMax {n : ℕ} (f : Fin (n + 1) → EReal) : ∃ k, IsFirstMax f k := by
  classical
  obtain ⟨m, -, hm⟩ := Finset.exists_max_image Finset.univ f Finset.univ_nonempty
  have hne : (Finset.univ.filter fun k => f m ≤ f k).Nonempty := ⟨m, by simp⟩
  refine ⟨(Finset.univ.filter fun k => f m ≤ f k).min' hne, ?_, ?_⟩
  · intro j
    have := Finset.min'_mem _ hne
    rw [Finset.mem_filter] at this
    exact (hm j (Finset.mem_univ j)).trans this.2
  · intro j hj
    have := Finset.min'_mem _ hne
    rw [Finset.mem_filter] at this
    exact Finset.min'_le _ _ (by simpa using this.2.trans hj)

/-- `firstMax` is a first maximum. -/
theorem firstMax_spec (f : Fin 1024 → EReal) : IsFirstMax f (firstMax f) := by
  have h := exists_isFirstMax f
  unfold firstMax
  rw [dif_pos h]
  exact h.choose_spec

/-- A first maximum is `firstMax`. -/
theorem firstMax_eq {f : Fin 1024 → EReal} {k : Fin 1024} (h : IsFirstMax f k) : firstMax f = k :=
  (firstMax_spec f).unique h

/-! ### The loss -/

/-- A division by a positive real number is a product with its inverse. -/
theorem div_of_pos {c : ℝ} (hc : 0 < c) (x : EReal) : Ideal.div x (c : EReal) = x * ((c⁻¹ : ℝ) : EReal) := by
  rw [Ideal.div, if_neg (by exact_mod_cast hc.ne'), EReal.coe_inv]

/-- Division by a positive real number distributes over a sum of nonnegative terms. -/
theorem sum_div {ι : Type} (s : Finset ι) (f : ι → EReal) (hf : ∀ i, 0 ≤ f i) {c : ℝ} (hc : 0 < c) :
    ∑ i ∈ s, Ideal.div (f i) (c : EReal) = Ideal.div (∑ i ∈ s, f i) (c : EReal) := by
  simp only [div_of_pos hc]
  induction s using Finset.cons_induction with
  | empty => simp
  | cons a S ha ih =>
    rw [Finset.sum_cons, Finset.sum_cons, ih, EReal.right_distrib_of_nonneg (hf a) (Finset.sum_nonneg fun i _ => hf i)]

/-- Two divisions by positive real numbers are one by their product. -/
theorem div_div {c d : ℝ} (hc : 0 < c) (hd : 0 < d) (x : EReal) :
    Ideal.div (Ideal.div x (c : EReal)) (d : EReal) = Ideal.div x ((c * d : ℝ) : EReal) := by
  rw [div_of_pos hc, div_of_pos hd, div_of_pos (mul_pos hc hd), mul_assoc, ← EReal.coe_mul, mul_inv]

/-- A difference squared is the reversed difference squared. -/
theorem sub_sq_comm (a b : EReal) : (a - b) * (a - b) = (b - a) * (b - a) := by
  induction a with
  | bot => induction b <;> first | rfl | simp
  | top => induction b <;> first | rfl | simp
  | coe x =>
    induction b with
    | bot => first | rfl | simp
    | top => first | rfl | simp
    | coe y =>
      norm_cast
      ring

/-- A squared error is at least zero. -/
theorem err_nonneg (Ls : Fin 4 → Layer) (x : Fin 512 → EReal) (l : Fin 4) : 0 ≤ err Ls x l := sq_nonneg _

end Cert.Spec
-- ==== Proof.RefMath.lean ====
/-
  Each stage of the reference read at an index, in the terms of Spec.lean.
-/
module

public import proofs.«01_k».proof.Proof.RefResult
public import proofs.«01_k».proof.Proof.Spec
public import Idealize.ShloMosaic.Lib.Pointwise

@[expose] public section

set_option maxRecDepth 16384

noncomputable section

namespace Cert.Ref

open Cert.ReferenceIdeal Cert.ReferenceIdeal.Gen Idealize.ShloMosaic
open Cert.Spec (wnorm unit len)

/-- The slice of layer `l`'s input weights, at an index. -/
theorem slWin_ap (l : Fin 4) (a : A S4x256x512) (e : Fin 256) (c : Fin 512) : slWin l a (ix2 e c) = a (ix3 l e c) := by
  pointwise [slWin]

/-- The slice of layer `l`'s code-sized vector, at an index. -/
theorem slVec_ap (l : Fin 4) (a : A S4x256) (e : Fin 256) : slVec l a (ix1 e) = a (ix2 l e) := by
  pointwise [slVec]

/-- The slice of layer `l`'s output weights, at an index. -/
theorem slWout_ap (l : Fin 4) (a : A S4x512x256) (c : Fin 512) (e : Fin 256) : slWout l a (ix2 c e) = a (ix3 l c e) := by
  pointwise [slWout]

/-- The slice of layer `l`'s channel-sized vector, at an index. -/
theorem slVecOut_ap (l : Fin 4) (a : A S4x512) (c : Fin 512) : slVecOut l a (ix1 c) = a (ix2 l c) := by
  pointwise [slVecOut]

/-- The slice of layer `l`'s codebook, at an index. -/
theorem slCode_ap (l : Fin 4) (a : A S4x1024x256) (k : Fin 1024) (e : Fin 256) : slCode l a (ix2 k e) = a (ix3 l k e) := by
  pointwise [slCode]

/-- The normalized input weights are `wnorm`. -/
theorem wIn_ap (w : A S256x512) (g : A S256) (e : Fin 256) (c : Fin 512) :
    wIn w g (ix2 e c) = wnorm (fun c => w (ix2 e c)) (g (ix1 e)) c := by
  pointwise [wIn, wnorm, len, Cert.Spec.sq, Cert.Spec.eps]

/-- The normalized output weights are `wnorm`. -/
theorem wOut_ap (w : A S512x256) (g : A S512) (c : Fin 512) (e : Fin 256) :
    wOut w g (ix2 c e) = wnorm (fun e => w (ix2 c e)) (g (ix1 c)) e := by
  pointwise [wOut, wnorm, len, Cert.Spec.sq, Cert.Spec.eps]

/-- The projection at an index: a product over the channels and the bias. -/
theorem projR_ap (x : A S8x512x1024) (w : A S256x512) (g b : A S256) (i : Fin 8) (e : Fin 256) (s : Fin 1024) :
    projR x w g b (ix3 i e s) = (∑ c, x (ix3 i c s) * wIn w g (ix2 e c)) + b (ix1 e) := by
  pointwise [projR]

/-- The row of token `(b, s)`. -/
def tok (b : Fin 8) (s : Fin 1024) : Fin 8192 := ⟨1024 * b.val + s.val, by omega⟩

/-- The projection laid out a row per token. -/
theorem tokR_ap (p : A S8x256x1024) (b : Fin 8) (s : Fin 1024) (e : Fin 256) : tokR p (ix2 (tok b s) e) = p (ix3 b e s) := by
  pointwise [tokR, tok]

/-- A token divided by its floored length is `unit` of it. -/
theorem unitTok_ap (y : A S8192x256) (n : Fin 8192) (e : Fin 256) : unitTok y (ix2 n e) = unit (fun e => y (ix2 n e)) e := by
  pointwise [unitTok, unit, len, Cert.Spec.sq, Cert.Spec.eps]

/-- A codebook row divided by its floored length is `unit` of it. -/
theorem unitCode_ap (y : A S1024x256) (n : Fin 1024) (e : Fin 256) : unitCode y (ix2 n e) = unit (fun e => y (ix2 n e)) e := by
  pointwise [unitCode, unit, len, Cert.Spec.sq, Cert.Spec.eps]

/-- The squared distance between two directions, at an index. -/
theorem distU_ap (u : A S8192x256) (v : A S1024x256) (n : Fin 8192) (k : Fin 1024) :
    distU u v (ix2 n k) = (Cert.Spec.sq (fun e => u (ix2 n e)) - Ideal.ofBits .f32 0x40000000#32 * (∑ e, u (ix2 n e) * v (ix2 k e)))
      + Cert.Spec.sq (fun e => v (ix2 k e)) := by
  pointwise [distU, Cert.Spec.sq]

/-- The value whose maximum is looked for is minus the distance. -/
theorem negR_ap (y : A S8192x256) (c : A S1024x256) (j : S8192x1024.Idx) :
    negR y c j = - distU (unitTok y) (unitCode c) j := by
  pointwise [negR]

/-- The logit is minus the distance, divided by one. -/
theorem logitR_ap (y : A S8192x256) (c : A S1024x256) (j : S8192x1024.Idx) :
    logitR y c j = Ideal.div (negR y c j) (Ideal.ofBits .f32 0x3F800000#32) := by
  pointwise [logitR]

/-- The layer's output at an index: a product over the code coordinates and the bias. -/
theorem outR_ap (p q : A S8x256x1024) (w : A S512x256) (g b : A S512) (i : Fin 8) (c : Fin 512) (s : Fin 1024) :
    outR p q w g b (ix3 i c s) = (∑ e, (p (ix3 i e s) + (q (ix3 i e s) - p (ix3 i e s))) * wOut w g (ix2 c e)) + b (ix1 c) := by
  pointwise [outR]

/-- The mean over the batch of each entry's mean square. -/
theorem meanSq_ap (d : A S8x256x1024) (j : S_.Idx) :
    meanSq d j = Ideal.div (∑ b : Fin 8, Ideal.div (∑ e : Fin 256, ∑ s : Fin 1024, d (ix3 b e s) * d (ix3 b e s))
      (Ideal.ofBits .f32 0x48800000#32)) (Ideal.ofBits .f32 0x41000000#32) := by
  pointwise [meanSq]

end Cert.Ref

end
-- ==== Proof.RefPick.lean ====
/-
  The reference's argmax and its row lookup: the index it finds is the first place of the greatest logit, and the
  lookup reads that row of the codebook.
-/
module

public import proofs.«01_k».proof.Proof.RefMath
public import proofs.«01_k».proof.Proof.Spec
public import Idealize.ShloMosaic.Lib.Pointwise

@[expose] public section

set_option maxRecDepth 16384

noncomputable section

namespace Cert.Ref

open Cert.ReferenceIdeal Cert.ReferenceIdeal.Gen Idealize.ShloMosaic
open Cert.Spec (IsFirstMax firstMax)

/-- The word of a codebook place. -/
abbrev word (k : Fin 1024) : BitVec 32 := BitVec.ofNat 32 k.val

/-- A place's word, read as a signed integer, is the place. -/
theorem word_toInt (k : Fin 1024) : (word k).toInt = k.val := by
  rw [BitVec.toInt_ofNat']
  have := k.isLt
  rw [Int.bmod_eq_of_le] <;> omega

/-- One step of the argmax keeps the greater value, on equal values the one with the smaller index. -/
theorem step_eq (a b : EReal × BitVec 32) : reducer_argmax_f32_i32 (F := Ideal) a b =
    if b.1 < a.1 ∨ (a.1 = b.1 ∧ a.2.toInt < b.2.toInt) then a else b := by
  obtain ⟨a, i⟩ := a
  obtain ⟨b, k⟩ := b
  show (Scalar.select (IntOp.ori (Ideal.cmp .ogt a b) (Ideal.cmp .une a a)) a b, Scalar.select (IntOp.ori (IntOp.ori (Ideal.cmp .ogt a b) (Ideal.cmp .une a a)) (IntOp.andi (Ideal.cmp .oeq a b) (IntOp.cmpi .slt i k))) i k) = _
  simp only [Ideal.cmp, IntOp.cmpi, IntOp.ori, IntOp.andi, Scalar.select, BitVec.slt]
  by_cases h : b < a
  · have e : a ≠ b := fun e => absurd h (e ▸ lt_irrefl _)
    simp [h, e]
  · by_cases e : a = b
    · by_cases q : i.toInt < k.toInt <;> simp [e, q]
    · simp [h, e]

/-- The argmax fold over a list of places ends at one whose value is the greatest and which comes first among those. -/
theorem fold_first (g : Fin 1024 → EReal) (K : List (Fin 1024)) : ∀ k0, ∃ k ∈ k0 :: K,
    K.foldl (fun r k => reducer_argmax_f32_i32 (F := Ideal) r (g k, word k)) (g k0, word k0) = (g k, word k) ∧
      ∀ j ∈ k0 :: K, g j ≤ g k ∧ (g k ≤ g j → k ≤ j) := by
  induction K with
  | nil => exact fun k0 => ⟨k0, by simp, rfl, by simp⟩
  | cons k1 K ih =>
    intro k0
    rw [List.foldl_cons, step_eq]
    simp only [word_toInt]
    split_ifs with h
    · obtain ⟨k, hk, e, hj⟩ := ih k0
      refine ⟨k, by simp at hk ⊢; tauto, e, fun j hjm => ?_⟩
      rcases List.mem_cons.1 hjm with rfl | hjm
      · exact hj _ (by simp)
      rcases List.mem_cons.1 hjm with rfl | hjm
      · have h0 := hj k0 (by simp)
        rcases h with h | ⟨h, h'⟩
        · exact ⟨h.le.trans h0.1, fun q => absurd (h0.1.trans q) (not_le.2 h)⟩
        · refine ⟨h ▸ h0.1, fun q => (h0.2 (h ▸ q)).trans ?_⟩
          exact Fin.le_def.2 (by omega)
      · exact hj _ (by simp [hjm])
    · obtain ⟨k, hk, e, hj⟩ := ih k1
      refine ⟨k, by simp at hk ⊢; tauto, e, fun j hjm => ?_⟩
      rcases List.mem_cons.1 hjm with rfl | hjm
      · have h1 := hj k1 (by simp)
        push Not at h
        refine ⟨h.1.trans h1.1, fun q => ?_⟩
        have e01 : g j = g k1 := le_antisymm h.1 (h1.1.trans q)
        have := h.2 e01
        exact (h1.2 (e01 ▸ q)).trans (Fin.le_def.2 (by omega))
      · exact hj j hjm

/-- The place of an entry along the codebook axis. -/
def col {R : ℕ} (i : (⟨2, ![R, 1024]⟩ : Shape).Idx) : Fin 1024 := i 1

/-- An index of row `r` is `r` and its place. -/
theorem ix2_col {R : ℕ} (r : Fin R) (i : (⟨2, ![R, 1024]⟩ : Shape).Idx) (h : i 0 = r) : i = ix2 r (col i) := by
  funext a
  match a with
  | ⟨0, _⟩ => exact h
  | ⟨1, _⟩ => rfl

/-- The argmax fold over the entries of one row, in any order, of finite values. -/
theorem fold_row {R : ℕ} (x : FVec Ideal (⟨2, ![R, 1024]⟩ : Shape) .f32) (y : IVec (⟨2, ![R, 1024]⟩ : Shape) 32) (r : Fin R)
    (hy : ∀ k, y (ix2 r k) = word k) (hx : ∀ k, ⊥ < x (ix2 r k)) (L : List (⟨2, ![R, 1024]⟩ : Shape).Idx)
    (hmem : ∀ i ∈ L, i 0 = r) (hall : ∀ k, ix2 r k ∈ L) :
    (L.foldl (fun p i => reducer_argmax_f32_i32 (F := Ideal) p (x i, y i)) ((⊥ : EReal), 0#32)).2 = word (firstMax fun k => x (ix2 r k)) := by
  have hfold : ∀ p : EReal × BitVec 32, L.foldl (fun p i => reducer_argmax_f32_i32 (F := Ideal) p (x i, y i)) p
      = (L.map col).foldl (fun p k => reducer_argmax_f32_i32 (F := Ideal) p (x (ix2 r k), word k)) p := by
    intro p
    rw [List.foldl_map]
    refine List.foldl_ext _ _ _ fun q i hi => ?_
    have e := ix2_col r i (hmem i hi)
    rw [← hy, ← e]
  have hall' : ∀ k, k ∈ L.map col := fun k => List.mem_map.2 ⟨_, hall k, rfl⟩
  rw [hfold]
  generalize L.map col = K at hall'
  match K, hall' with
  | [], h => exact absurd (h 0) (by simp)
  | k1 :: K, h =>
    rw [List.foldl_cons]
    have e1 : reducer_argmax_f32_i32 (F := Ideal) ((⊥ : EReal), 0#32) (x (ix2 r k1), word k1) = (x (ix2 r k1), word k1) := by
      rw [step_eq, if_neg]
      rintro (h | ⟨h, -⟩)
      · exact absurd h not_lt_bot
      · exact absurd h (hx k1).ne
    rw [e1]
    obtain ⟨k, -, e, hj⟩ := fold_first (fun k => x (ix2 r k)) K k1
    rw [e]
    exact congrArg word (Cert.Spec.firstMax_eq ⟨fun j => (hj j (h j)).1, fun j => (hj j (h j)).2⟩).symm

/-- Reducing the places leaves the row. -/
theorem drop_eq {R : ℕ} (h : (⟨2, ![R, 1024]⟩ : Shape).ReducesTo [1] (⟨1, ![R]⟩ : Shape)) (i : (⟨2, ![R, 1024]⟩ : Shape).Idx) :
    h.drop i = ix1 (i 0) := by
  funext a
  match a with
  | ⟨0, _⟩ => rfl

/-- The argmax of a row of finite values is the first place of its greatest value. -/
theorem argReduce_row {R : ℕ} (h : (⟨2, ![R, 1024]⟩ : Shape).ReducesTo [1] (⟨1, ![R]⟩ : Shape)) (hu : 0 < S_.numel)
    (x : FVec Ideal (⟨2, ![R, 1024]⟩ : Shape) .f32) (y : IVec (⟨2, ![R, 1024]⟩ : Shape) 32) (u : FVec Ideal S_ .f32) (v : IVec S_ 32)
    (hu0 : ∀ i, u i = (⊥ : EReal)) (hv0 : ∀ i, v i = 0#32) (r : Fin R)
    (hy : ∀ k, y (ix2 r k) = word k) (hx : ∀ k, ⊥ < x (ix2 r k)) :
    argSnd (reducer_argmax_f32_i32 (F := Ideal)) x y u v h hu (ix1 r) = word (firstMax fun k => x (ix2 r k)) := by
  unfold argSnd
  rw [Ideal.argReduce_eq_reduce2]
  unfold Host.reduce2
  rw [hu0, hv0, ← fold_row x y r hy hx
    (((List.finRange (⟨2, ![R, 1024]⟩ : Shape).numel).filter (fun n => h.drop ((⟨2, ![R, 1024]⟩ : Shape).rowMajor.symm n) = ix1 r)).map
      (⟨2, ![R, 1024]⟩ : Shape).rowMajor.symm)]
  · rw [List.foldl_map]
  · intro i hi
    obtain ⟨n, hn, rfl⟩ := List.mem_map.1 hi
    have h2 := of_decide_eq_true (List.mem_filter.1 hn).2
    rw [drop_eq] at h2
    exact congrFun h2 0
  · intro k
    refine List.mem_map.2 ⟨(⟨2, ![R, 1024]⟩ : Shape).rowMajor (ix2 r k), List.mem_filter.2 ⟨List.mem_finRange _, decide_eq_true ?_⟩, Equiv.symm_apply_apply _ _⟩
    rw [Equiv.symm_apply_apply, drop_eq]
    rfl

/-- The argmax of a row of values above minus infinity is its first maximum. -/
theorem argIdx_ap (x : A S8192x1024) (r : Fin 8192) (hx : ∀ k, ⊥ < x (ix2 r k)) :
    argIdx (F := Ideal) x (iotaInDim S8192x1024 32 1) (constant (F := Ideal) S_ .f32 0xFF800000#32) (constantI S_ 32 0#32) (ix1 r)
      = word (firstMax fun k => x (ix2 r k)) := by
  exact argReduce_row reducesTo_S8192x1024_S8192_d1 h_S_ x (iotaInDim S8192x1024 32 1) (constant (F := Ideal) S_ .f32 0xFF800000#32)
    (constantI S_ 32 0#32) (fun _ => Cert.Spec.negInf_eq) (fun _ => rfl) r (fun _ => rfl) hx

/-- The picks laid out batch by time. -/
theorem idx_cast (y : IVec S8192 32) (b : Fin 8) (s : Fin 1024) :
    shapeCast S8x1024 y shapeCasts_S8192_S8x1024 (ix2 b s) = y (ix1 (tok b s)) := by
  rw [show tok b s = ⟨b.val * 1024 + s.val, by omega⟩ from Fin.ext (by simp [tok]; omega)]
  pointwise []

/-- The pick at batch entry `b` and time `s`. -/
theorem idxR_ap (x : A S8192x1024) (b : Fin 8) (s : Fin 1024) (hx : ∀ k, ⊥ < x (ix2 (tok b s) k)) :
    idxR x (ix2 b s) = word (firstMax fun k => x (ix2 (tok b s) k)) := by
  exact (idx_cast _ b s).trans (argIdx_ap x (tok b s) hx)

/-- A pick is not negative, so the wrap of negative indices leaves it. -/
theorem wrapR_ap (i : IVec S8x1024 32) (b : Fin 8) (s : Fin 1024) (k : Fin 1024) (h : i (ix2 b s) = word k) (z : Fin 1) :
    wrapR i (ix3 b s z) = word k := by
  have e : wrapR i (ix3 b s z) = Scalar.select (IntOp.cmpi .slt (i (ix2 b s)) 0#32) (IntOp.addi (i (ix2 b s)) 1024#32) (i (ix2 b s)) := by
    pointwise [wrapR]
  rw [e, h]
  have : IntOp.cmpi .slt (word k) 0#32 = 0#1 := by
    have h0 : ¬ ((k.val : Int) < 0) := by omega
    simp only [IntOp.cmpi, BitVec.slt, word_toInt]
    simp [h0]
  rw [this]
  rfl

/-- The row lookup at an index in range reads that row. -/
theorem gather_ap (c : A S1024x256) (w : IVec S8x1024x1 32) (b : Fin 8) (s : Fin 1024) (e : Fin 256) (k : Fin 1024)
    (h : w (ix3 b s (0 : Fin 1)) = word k) :
    Host.gather gather_S1024x256_S8x1024x1_S8x1024x256_2_0_n_n_0_2_1256 c w (ix3 b s e) = c (ix2 k e) := by
  set d := gather_S1024x256_S8x1024x1_S8x1024x256_2_0_n_n_0_2_1256 with hd
  show c (d.operandIdx (ix3 b s e) w) = c (ix2 k e)
  refine congrArg c (funext fun a => Fin.ext ?_)
  have hsi : d.siIdx (ix3 b s e) (⟨0, Nat.one_pos⟩ : Fin 1) = ix3 b s (0 : Fin 1) := by
    funext z
    match z with
    | ⟨0, _⟩ => rfl
    | ⟨1, _⟩ => rfl
    | ⟨2, _⟩ => rfl
  match a with
  | ⟨0, _⟩ =>
    show min (w (d.siIdx (ix3 b s e) (⟨0, Nat.one_pos⟩ : Fin 1))).toInt.toNat (1024 - 1) + 0 + 0 = k.val
    rw [hsi, h, word_toInt]
    have := k.isLt
    omega
  | ⟨1, _⟩ =>
    show 0 + 0 + e.val = e.val
    omega

/-- The row read at an index that is a place is the codebook's row there. -/
theorem takeR_ap (c : A S1024x256) (w : IVec S8x1024x1 32) (b : Fin 8) (s : Fin 1024) (e : Fin 256) (k : Fin 1024)
    (h : w (ix3 b s (0 : Fin 1)) = word k) : takeR c w (ix3 b s e) = c (ix2 k e) := by
  rw [← gather_ap c w b s e k h]
  unfold takeR
  generalize Host.gather gather_S1024x256_S8x1024x1_S8x1024x256_2_0_n_n_0_2_1256 c w = y
  pointwise []
  have h0 : IntOp.cmpi .sge (word k) 0#32 = 1#1 := IntOp.cmpi_sge.2 (by rw [word_toInt]; simp)
  have h1 : IntOp.cmpi .sle (word k) 1023#32 = 1#1 := IntOp.cmpi_sle.2 (by
    rw [word_toInt, show (1023#32 : BitVec 32).toInt = 1023 from rfl]
    have := k.isLt
    omega)
  rw [Finset.univ_unique, Finset.fold_singleton, show w (ix3 b s (default : Fin 1)) = word k from h, h0, h1]
  rfl

/-- The picked row at a place. -/
theorem quantR_ap (c : A S1024x256) (i : IVec S8x1024 32) (b : Fin 8) (s : Fin 1024) (e : Fin 256) (k : Fin 1024)
    (h : i (ix2 b s) = word k) : quantR c (wrapR i) (ix3 b e s) = c (ix2 k e) := by
  rw [← takeR_ap c (wrapR i) b s e k (wrapR_ap i b s k h 0)]
  unfold quantR
  generalize takeR c (wrapR i) = y
  pointwise []

end Cert.Ref

end
-- ==== Proof.Results.lean ====
/-
  The four result arrays of the residual quantizer as functions of the eight inputs, in the terms of Spec.lean.
-/
module

public import proofs.«01_k».proof.Proof.Spec
public import Idealize.ShloMosaic.Lib.Pointwise

@[expose] public section

noncomputable section

namespace Cert.Spec

open Idealize.ShloMosaic

/-- The eight inputs. -/
structure Inputs where
  /-- the activations, batch by channel by time -/
  a0 : FVec Ideal ⟨3, ![8, 512, 1024]⟩ .f32
  /-- the input projections, layer by code coordinate by channel -/
  a1 : FVec Ideal ⟨3, ![4, 256, 512]⟩ .f32
  /-- their gains -/
  a2 : FVec Ideal ⟨2, ![4, 256]⟩ .f32
  /-- their biases -/
  a3 : FVec Ideal ⟨2, ![4, 256]⟩ .f32
  /-- the output projections, layer by channel by code coordinate -/
  a4 : FVec Ideal ⟨3, ![4, 512, 256]⟩ .f32
  /-- their gains -/
  a5 : FVec Ideal ⟨2, ![4, 512]⟩ .f32
  /-- their biases -/
  a6 : FVec Ideal ⟨2, ![4, 512]⟩ .f32
  /-- the codebooks, layer by row by code coordinate -/
  a7 : FVec Ideal ⟨3, ![4, 1024, 256]⟩ .f32

variable (a : Inputs)

/-- The parameters of layer `l`. -/
def Inputs.lay (l : Fin 4) : Layer where
  win e c := wnorm (fun c => a.a1 (ix3 l e c)) (a.a2 (ix2 l e)) c
  inb e := a.a3 (ix2 l e)
  wout c e := wnorm (fun e => a.a4 (ix3 l c e)) (a.a5 (ix2 l c)) e
  outb c := a.a6 (ix2 l c)
  code k e := a.a7 (ix3 l k e)

/-- The activations at batch entry `b` and time `s`. -/
def Inputs.token (b : Fin 8) (s : Fin 1024) (c : Fin 512) : EReal := a.a0 (ix3 b c s)

/-- The residual layer `l` sees there. -/
def Inputs.resid (b : Fin 8) (s : Fin 1024) (l : Fin 4) : Fin 512 → EReal := res a.lay (a.token b s) l.val

/-- The batch entry of token `n`. -/
def batchOf (n : Fin 8192) : Fin 8 := ⟨n.val / 1024, by omega⟩

/-- The time of token `n`. -/
def timeOf (n : Fin 8192) : Fin 1024 := ⟨n.val % 1024, by omega⟩

/-- The sum of the layers' outputs. -/
def Inputs.totalOf : FVec Ideal ⟨3, ![8, 512, 1024]⟩ .f32 := fun i => total a.lay (a.token (i 0) (i 2)) (i 1)

/-- The index each layer picks. -/
def Inputs.indicesOf : IVec ⟨3, ![8, 4, 1024]⟩ 32 := fun i =>
  BitVec.ofNat 32 (pick (a.lay (i 1)) (a.resid (i 0) (i 2) (i 1))).val

/-- Each layer's logits. -/
def Inputs.logitsOf : FVec Ideal ⟨3, ![8192, 4, 1024]⟩ .f32 := fun i =>
  logit (a.lay (i 1)) (a.resid (batchOf (i 0)) (timeOf (i 0)) (i 1)) (i 2)

/-- The loss. -/
def Inputs.lossOf : FVec Ideal ⟨0, ![]⟩ .f32 := fun _ => loss a.lay a.token

/-! ### A division by one, and the loss as a sum of layer means -/

/-- A division by one changes nothing. -/
theorem div_one (x : EReal) : Ideal.div x (Ideal.ofBits .f32 0x3F800000#32) = x := by
  rw [Ideal.ofBits_one_f32, Ideal.div, if_neg one_ne_zero, inv_one, mul_one]

/-- The mean over the batch of each entry's mean, as one mean. -/
theorem mean_eq (f : Fin 8 → Fin 1024 → EReal) (hf : ∀ b s, 0 ≤ f b s) :
    Ideal.div (∑ b, Ideal.div (∑ s, f b s) (Ideal.ofBits .f32 0x48800000#32)) (Ideal.ofBits .f32 0x41000000#32)
      = Ideal.div (∑ b, ∑ s, f b s) (Ideal.ofBits .f32 0x4A000000#32) := by
  rw [perBatch_eq, eight_eq, entries_eq, sum_div _ _ (fun b => Finset.sum_nonneg fun s _ => hf b s) (by norm_num),
    div_div (by norm_num) (by norm_num)]
  norm_num

/-- The loss is the sum of the layers' means. -/
theorem loss_eq (Ls : Fin 4 → Layer) (x : Fin 8 → Fin 1024 → Fin 512 → EReal) :
    loss Ls x = ∑ l, Ideal.div (∑ b, ∑ s, err Ls (x b s) l) (Ideal.ofBits .f32 0x4A000000#32) := by
  rw [loss, entries_eq, sum_div _ _ (fun l => Finset.sum_nonneg fun b _ => Finset.sum_nonneg fun s _ => err_nonneg _ _ _) (by norm_num)]

end Cert.Spec

end
-- ==== Proof.RefValue.lean ====
/-
  The reference's results are the arrays of Results.lean.
-/
module

public import proofs.«01_k».proof.Proof.RefPick
public import proofs.«01_k».proof.Proof.Results

@[expose] public section

set_option maxRecDepth 16384

noncomputable section

namespace Cert.Ref

open Cert.ReferenceIdeal Cert.ReferenceIdeal.Gen Idealize.ShloMosaic
open Cert.Spec (Inputs proj score score' pick diff out next res err logit wnorm)

/-- The reference's arguments as the inputs. -/
def Args.inp (a : Args) : Inputs := ⟨a.a0, a.a1, a.a2, a.a3, a.a4, a.a5, a.a6, a.a7⟩

/-- An index of three dimensions is its three coordinates. -/
theorem ix3_eta {p q r : ℕ} (i : (⟨3, ![p, q, r]⟩ : Shape).Idx) : ∃ x y z, i = ix3 x y z :=
  ⟨i 0, i 1, i 2, by
    funext d
    match d with
    | ⟨0, _⟩ => rfl
    | ⟨1, _⟩ => rfl
    | ⟨2, _⟩ => rfl⟩

variable (a : Args) (l : Fin 4) (X : A S8x512x1024) (x : Fin 8 → Fin 1024 → Fin 512 → EReal)
  (hX : ∀ b s c, X (ix3 b c s) = x b s c)

include hX

/-- The reference's projection is `proj`. -/
theorem pR_ap (b : Fin 8) (s : Fin 1024) (e : Fin 256) : pR a l X (ix3 b e s) = proj (a.inp.lay l) (x b s) e := by
  unfold pR proj
  rw [projR_ap, slVec_ap]
  simp only [wIn_ap, hX, slWin_ap, slVec_ap]
  rfl

/-- Minus its distance is `logit`. -/
theorem neg_ap (b : Fin 8) (s : Fin 1024) (k : Fin 1024) :
    negR (tokR (pR a l X)) (slCode l a.a7) (ix2 (tok b s) k) = logit (a.inp.lay l) (x b s) k := by
  unfold logit
  rw [← Cert.Spec.score'_eq, score', Cert.Spec.div_one, negR_ap, distU_ap]
  simp only [unitTok_ap, unitCode_ap, tokR_ap, slCode_ap, pR_ap a l X x hX]
  rfl

/-- Its logits are `logit`. -/
theorem lR_ap (b : Fin 8) (s : Fin 1024) (k : Fin 1024) : lR a l X (ix2 (tok b s) k) = logit (a.inp.lay l) (x b s) k := by
  unfold lR
  rw [logitR_ap, neg_ap a l X x hX, Cert.Spec.div_one]

/-- Its pick is `pick`. -/
theorem iR_ap (b : Fin 8) (s : Fin 1024) : iR a l X (ix2 b s) = word (pick (a.inp.lay l) (x b s)) := by
  unfold iR pick
  rw [idxR_ap]
  · simp only [neg_ap a l X x hX]
  · intro k
    rw [neg_ap a l X x hX]
    obtain ⟨r, hr⟩ := Cert.Spec.score_real (a.inp.lay l) (proj (a.inp.lay l) (x b s)) k
    rw [logit, hr]
    exact EReal.bot_lt_coe r

/-- The row it takes is the picked code. -/
theorem qR_ap (b : Fin 8) (s : Fin 1024) (e : Fin 256) :
    qR a l X (ix3 b e s) = (a.inp.lay l).code (pick (a.inp.lay l) (x b s)) e := by
  unfold qR
  rw [quantR_ap _ _ b s e _ (iR_ap a l X x hX b s), slCode_ap]
  rfl

/-- Its output is `out`. -/
theorem oR_ap (b : Fin 8) (s : Fin 1024) (c : Fin 512) : oR a l X (ix3 b c s) = out (a.inp.lay l) (x b s) c := by
  unfold oR out
  rw [outR_ap, slVecOut_ap]
  simp only [wOut_ap, slWout_ap, slVecOut_ap, pR_ap a l X x hX, qR_ap a l X x hX]
  rfl

/-- The residual it hands on is `next`. -/
theorem nR_ap (b : Fin 8) (s : Fin 1024) (c : Fin 512) : nR a l X (ix3 b c s) = next (a.inp.lay l) (x b s) c := by
  unfold nR next
  rw [← oR_ap a l X x hX, ← hX]
  rfl

/-- Its mean square of differences that square as `diff` does. -/
theorem mean_ap (d : A S8x256x1024) (hd : ∀ b s e, d (ix3 b e s) * d (ix3 b e s) = diff (a.inp.lay l) (x b s) e * diff (a.inp.lay l) (x b s) e)
    (j : S_.Idx) : meanSq d j = Ideal.div (∑ b, ∑ s, Cert.Spec.sq (diff (a.inp.lay l) (x b s))) (Ideal.ofBits .f32 0x4A000000#32) := by
  rw [meanSq_ap, ← Cert.Spec.mean_eq _ fun b s => Cert.Spec.sq_nonneg _]
  have hb : ∀ b, ∑ e, ∑ s, diff (a.inp.lay l) (x b s) e * diff (a.inp.lay l) (x b s) e = ∑ s, Cert.Spec.sq (diff (a.inp.lay l) (x b s)) :=
    fun b => Finset.sum_comm
  simp only [hd, hb]

/-- Its commitment loss of one layer. -/
theorem cR_ap (j : S_.Idx) :
    cR a l X j = Ideal.div (∑ b, ∑ s, Cert.Spec.sq (diff (a.inp.lay l) (x b s))) (Ideal.ofBits .f32 0x4A000000#32) := by
  refine mean_ap a l X x hX _ (fun b s e => ?_) j
  show (pR a l X (ix3 b e s) - qR a l X (ix3 b e s)) * (pR a l X (ix3 b e s) - qR a l X (ix3 b e s)) = _
  rw [Cert.Spec.sub_sq_comm, pR_ap a l X x hX, qR_ap a l X x hX]
  rfl

/-- Its codebook loss of one layer. -/
theorem bR_ap (j : S_.Idx) :
    bR a l X j = Ideal.div (∑ b, ∑ s, Cert.Spec.sq (diff (a.inp.lay l) (x b s))) (Ideal.ofBits .f32 0x4A000000#32) := by
  refine mean_ap a l X x hX _ (fun b s e => ?_) j
  show (qR a l X (ix3 b e s) - pR a l X (ix3 b e s)) * (qR a l X (ix3 b e s) - pR a l X (ix3 b e s)) = _
  rw [pR_ap a l X x hX, qR_ap a l X x hX]
  rfl

omit hX

/-! ### The residuals -/

/-- The residual the first layer sees. -/
theorem x0_ap (b : Fin 8) (s : Fin 1024) (c : Fin 512) : a.a0 (ix3 b c s) = res a.inp.lay (a.inp.token b s) 0 c := rfl

/-- The residual the second layer sees. -/
theorem x1_ap (b : Fin 8) (s : Fin 1024) (c : Fin 512) : x1 a (ix3 b c s) = res a.inp.lay (a.inp.token b s) 1 c :=
  nR_ap a 0 _ _ (x0_ap a) b s c

/-- The residual the third layer sees. -/
theorem x2_ap (b : Fin 8) (s : Fin 1024) (c : Fin 512) : x2 a (ix3 b c s) = res a.inp.lay (a.inp.token b s) 2 c :=
  nR_ap a 1 _ _ (x1_ap a) b s c

/-- The residual the fourth layer sees. -/
theorem x3_ap (b : Fin 8) (s : Fin 1024) (c : Fin 512) : x3 a (ix3 b c s) = res a.inp.lay (a.inp.token b s) 3 c :=
  nR_ap a 2 _ _ (x2_ap a) b s c

/-! ### The results -/

/-- The reference's first result is `totalOf`. -/
theorem total_eq : totalR a = a.inp.totalOf := by
  funext i
  obtain ⟨b, c, s, rfl⟩ := ix3_eta i
  show (((Ideal.ofBits .f32 0x00000000#32 + oR a 0 a.a0 (ix3 b c s)) + oR a 1 (x1 a) (ix3 b c s)) + oR a 2 (x2 a) (ix3 b c s)) + oR a 3 (x3 a) (ix3 b c s) = _
  rw [Ideal.ofBits_zero_f32, oR_ap a 0 _ _ (x0_ap a), oR_ap a 1 _ _ (x1_ap a), oR_ap a 2 _ _ (x2_ap a), oR_ap a 3 _ _ (x3_ap a)]
  rfl

/-- Its commitment loss is `lossOf`. -/
theorem commit_eq : commitR a = a.inp.lossOf := by
  funext j
  show (((Ideal.ofBits .f32 0x00000000#32 + cR a 0 a.a0 j) + cR a 1 (x1 a) j) + cR a 2 (x2 a) j) + cR a 3 (x3 a) j = Cert.Spec.loss _ _
  rw [Ideal.ofBits_zero_f32, cR_ap a 0 _ _ (x0_ap a), cR_ap a 1 _ _ (x1_ap a), cR_ap a 2 _ _ (x2_ap a), cR_ap a 3 _ _ (x3_ap a),
    Cert.Spec.loss_eq, Fin.sum_univ_four, zero_add]
  rfl

/-- Its codebook loss is `lossOf`. -/
theorem codebook_eq : codebookR a = a.inp.lossOf := by
  funext j
  show (((Ideal.ofBits .f32 0x00000000#32 + bR a 0 a.a0 j) + bR a 1 (x1 a) j) + bR a 2 (x2 a) j) + bR a 3 (x3 a) j = Cert.Spec.loss _ _
  rw [Ideal.ofBits_zero_f32, bR_ap a 0 _ _ (x0_ap a), bR_ap a 1 _ _ (x1_ap a), bR_ap a 2 _ _ (x2_ap a), bR_ap a 3 _ _ (x3_ap a),
    Cert.Spec.loss_eq, Fin.sum_univ_four, zero_add]
  rfl

/-- Four layers' picks, stacked, at an index. -/
theorem stackI_ap (u : Fin 4 → IVec S8x1024 32) (b : Fin 8) (l : Fin 4) (s : Fin 1024) :
    stackI (u 0) (u 1) (u 2) (u 3) (ix3 b l s) = u l (ix2 b s) := by
  fin_cases l <;> pointwise [stackI]

/-- Four layers' logits, stacked, at an index. -/
theorem stackL_ap (u : Fin 4 → A S8192x1024) (n : Fin 8192) (l : Fin 4) (k : Fin 1024) :
    stackL (u 0) (u 1) (u 2) (u 3) (ix3 n l k) = u l (ix2 n k) := by
  fin_cases l <;> pointwise [stackL]

/-- The residual layer `l` sees. -/
def xs (l : Fin 4) : A S8x512x1024 := ![a.a0, x1 a, x2 a, x3 a] l

/-- The residual layer `l` sees is `res`. -/
theorem xs_ap (l : Fin 4) (b : Fin 8) (s : Fin 1024) (c : Fin 512) : xs a l (ix3 b c s) = a.inp.resid b s l c := by
  fin_cases l
  · exact x0_ap a b s c
  · exact x1_ap a b s c
  · exact x2_ap a b s c
  · exact x3_ap a b s c

/-- Its second result is `indicesOf`. -/
theorem indices_eq : stackI (iR a 0 a.a0) (iR a 1 (x1 a)) (iR a 2 (x2 a)) (iR a 3 (x3 a)) = a.inp.indicesOf := by
  funext i
  obtain ⟨b, l, s, rfl⟩ := ix3_eta i
  refine (stackI_ap (fun l => iR a l (xs a l)) b l s).trans ?_
  exact iR_ap a l _ _ (xs_ap a l) b s

/-- Its third result is `logitsOf`. -/
theorem logits_eq : stackL (lR a 0 a.a0) (lR a 1 (x1 a)) (lR a 2 (x2 a)) (lR a 3 (x3 a)) = a.inp.logitsOf := by
  funext i
  obtain ⟨n, l, k, rfl⟩ := ix3_eta i
  refine (stackL_ap (fun l => lR a l (xs a l)) n l k).trans ?_
  have hn : n = tok (Cert.Spec.batchOf n) (Cert.Spec.timeOf n) := Fin.ext (by simp [tok, Cert.Spec.batchOf, Cert.Spec.timeOf]; omega)
  rw [hn]
  refine (lR_ap a l _ _ (xs_ap a l) _ _ k).trans ?_
  rw [← hn]
  rfl

end Cert.Ref

end
-- ==== Proof.KStage.lean ====
/-
  The kernel body in stages. One quantizer layer of the body is the same few operations each time, on the layer's
  slice of each parameter; this file names them and reads each value the body computes in those names.
-/
module

public import proofs.«01_k».proof.Proof.Gen.KernelIdeal.Frame
public import Idealize.ShloMosaic.Lib.Pipeline.Value
public import Idealize.ShloMosaic.Lib.Tactic
public import Idealize.ShloMosaic.Lib.Pointwise

@[expose] public section

noncomputable section

namespace Cert.KernelIdeal.Value

open Cert.KernelIdeal Cert.KernelIdeal.Gen Idealize.ShloMosaic Idealize.ShloMosaic.TcCoe Idealize.SL.Sem

/-- The lane numbers along a row of logits. -/
abbrev lane : IVec S512x1024 32 := iota .tc S512x1024 32 [1] iota_S512x1024_d1_w32

/-- The zero block the sums start from. -/
abbrev zero : FVec Ideal S512x512 .f32 := constant S512x512 .f32 0x00000000#32

/-- The input projection of a tile. -/
def kProj (x : FVec Ideal S512x512 .f32) (w : FVec Ideal S1x512x256 .f32) (b : FVec Ideal S1x1x256 .f32) : FVec Ideal S512x256 .f32 :=
  addf (matmul dot_S512x512_S512x256_S512x256_1_0_0_1_n_n none x (shapeCast S512x256 w shapeCasts_S1x512x256_S512x256)
      (constant S512x256 .f32 0x00000000#32))
    (broadcastTo S512x256 (shapeCast S1x256 b shapeCasts_S1x1x256_S1x256) broadcasts_S1x256_S512x256)

/-- The length of each row, kept off zero, along the row. -/
def kLen (p : FVec Ideal S512x256 .f32) : FVec Ideal S512x256 .f32 :=
  broadcastTo S512x256 (maximumf (sqrt (shapeCast S512x1
    (multiReduction .add [1] S512 (mulf p p) 0x00000000#32 reduces_S512x256_S512 (.inl rfl) rfl) shapeCasts_S512_S512x1))
    (broadcast S512x1 (Scalar.ofBits .f32 0x2B8CBCCC#32))) broadcasts_S512x1_S512x256

/-- Twice the similarity less the row's squared length, for a tile of directions. -/
def kNear (u : FVec Ideal S512x256 .f32) (ct : FVec Ideal S1x256x1024 .f32) : FVec Ideal S512x1024 .f32 :=
  subf (mulf (broadcast S512x1024 (Scalar.ofBits .f32 0x40000000#32))
      (matmul dot_S512x256_S256x1024_S512x1024_1_0_0_1_n_n none u (shapeCast S256x1024 ct shapeCasts_S1x256x1024_S256x1024)
        (constant S512x1024 .f32 0x00000000#32)))
    (broadcastTo S512x1024 (shapeCast S512x1
      (multiReduction .add [1] S512 (mulf u u) 0x00000000#32 reduces_S512x256_S512 (.inl rfl) rfl) shapeCasts_S512_S512x1)
      broadcasts_S512x1_S512x1024)

/-- The codebook's squared lengths along every row. -/
def kRow (cn : FVec Ideal S1x1x1024 .f32) : FVec Ideal S512x1024 .f32 :=
  broadcastTo S512x1024 (shapeCast S1x1024 cn shapeCasts_S1x1x1024_S1x1024) broadcasts_S1x1024_S512x1024

/-- The logits of a tile, from its projection. -/
def kLogit (p : FVec Ideal S512x256 .f32) (ct : FVec Ideal S1x256x1024 .f32) (cn : FVec Ideal S1x1x1024 .f32) : FVec Ideal S512x1024 .f32 :=
  subf (kNear (divf p (kLen p)) ct) (kRow cn)

/-- A value per row as a column. -/
def kCol (i : IVec S512 32) : IVec S512x1 32 := shapeCast S512x1 i shapeCasts_S512_S512x1

/-- The greatest logit of each row, along the row. -/
def kMax (y : FVec Ideal S512x1024 .f32) : FVec Ideal S512x1024 .f32 :=
  broadcastTo S512x1024 (shapeCast S512x1 (multiReduction .maximumf [1] S512 y 0xFF800000#32 reduces_S512x1024_S512 (.inl rfl) rfl)
    shapeCasts_S512_S512x1) broadcasts_S512x1_S512x1024

/-- The least lane holding its row's greatest logit. -/
def kIdx (y : FVec Ideal S512x1024 .f32) : IVec S512 32 :=
  multiReductionI .minsi [1] S512 (select (cmpf .oge y (kMax y)) lane (broadcast S512x1024 1024#32)) 2147483647#32
    reduces_S512x1024_S512 rfl

/-- The codebook row each index names, by a product with the row's one-hot vector. -/
def kRows (i : IVec S512 32) (c : FVec Ideal S1x1024x256 .f32) : FVec Ideal S512x256 .f32 :=
  matmul (φ₁ := .f32) (φ₂ := .f32) dot_S512x1024_S1024x256_S512x256_1_0_0_1_n_n none
    (sitofp .f32 (extui 32 (cmpi .eq lane (broadcastTo S512x1024 (kCol i) broadcasts_S512x1_S512x1024)) natLt_1_32))
    (shapeCast S1024x256 c shapeCasts_S1x1024x256_S1024x256) (constant S512x256 .f32 0x00000000#32)

/-- The picked rows less the projection. -/
def kDiff (p : FVec Ideal S512x256 .f32) (i : IVec S512 32) (c : FVec Ideal S1x1024x256 .f32) : FVec Ideal S512x256 .f32 :=
  subf (kRows i c) p

/-- The sum of squares over a tile. -/
def kSum (d : FVec Ideal S512x256 .f32) : Ideal .f32 :=
  extractAt ![0, 0, 0] (shapeCast S1x1x1 (multiReduction .add [1, 2] S1
    (shapeCast S1x512x256 (mulf d d) shapeCasts_S512x256_S1x512x256) 0x00000000#32 reduces_S1x512x256_S1 (.inl rfl) rfl)
    shapeCasts_S1_S1x1x1) inpos_S1x1x1_p0_0_0

/-- A layer's output: projection plus difference, projected back. -/
def kOut (p d : FVec Ideal S512x256 .f32) (w : FVec Ideal S1x256x512 .f32) (b : FVec Ideal S1x1x512 .f32) : FVec Ideal S512x512 .f32 :=
  addf (matmul dot_S512x256_S256x512_S512x512_1_0_0_1_n_n none (addf p d) (shapeCast S256x512 w shapeCasts_S1x256x512_S256x512)
      (constant S512x512 .f32 0x00000000#32))
    (broadcastTo S512x512 (shapeCast S1x512 b shapeCasts_S1x1x512_S1x512) broadcasts_S1x512_S512x512)

/-- A tile of logits as one layer's slab of the stored block. -/
def kSlab (y : FVec Ideal S512x1024 .f32) : FVec Ideal S512x1x1024 .f32 := shapeCast S512x1x1024 y shapeCasts_S512x1024_S512x1x1024

variable (x tot : FVec Ideal S512x512 .f32) (w w' : FVec Ideal S1x512x256 .f32) (b b' : FVec Ideal S1x1x256 .f32)
  (ct : FVec Ideal S1x256x1024 .f32) (cn : FVec Ideal S1x1x1024 .f32) (cb : FVec Ideal S1x1024x256 .f32)
  (wo : FVec Ideal S1x256x512 .f32) (bo : FVec Ideal S1x1x512 .f32) (p d : FVec Ideal S512x256 .f32)
  (y y' : FVec Ideal S512x1024 .f32) (i : IVec S512 32) (s s' : Ideal .f32)

/-! Each value of the body in those names. -/

/-- The tile itself. -/
theorem pay4 : k0_pay4 (F := Ideal) x = x := shapeCast_self _ _
/-- The zero tile. -/
theorem pay5 : k0_pay5 (F := Ideal) = zero := rfl
/-- The projection. -/
theorem pay6 : k0_pay6 (F := Ideal) x w b = kProj x w b := by
  unfold k0_pay6; rw [pay4]; rfl
/-- The doubled products with the directions, less the squared lengths. -/
theorem pay7 : k0_pay7 (F := Ideal) x w b ct = kNear (divf (kProj x w b) (kLen (kProj x w b))) ct := by
  unfold k0_pay7; rw [pay6]; rfl
/-- The directions' squared lengths, a row each. -/
theorem pay8 : k0_pay8 (F := Ideal) cn = kRow cn := rfl
/-- The logits. -/
theorem pay9 : k0_pay9 (F := Ideal) y y' = subf y y' := rfl
/-- The logits, as one layer's slab. -/
theorem pay10 : k0_pay10 (F := Ideal) y y' = kSlab (subf y y') := rfl
/-- The picks, as a column. -/
theorem pay11 : k0_pay11 (F := Ideal) lane y y' = kCol (kIdx (subf y y')) := rfl
/-- The picked code less the projection. -/
theorem pay12 : k0_pay12 (F := Ideal) lane p y y' cb = kDiff p (kIdx (subf y y')) cb := rfl
/-- The squared error so far, the layer's added. -/
theorem pay13 : k0_pay13 (F := Ideal) lane p y y' cb
    = Scalar.addf (Scalar.ofBits .f32 0x00000000#32) (kSum (kDiff p (kIdx (subf y y')) cb)) := by
  unfold k0_pay13; rw [pay12]; rfl
/-- The layer's output. -/
theorem pay14 : k0_pay14 (F := Ideal) lane p y y' cb wo bo = kOut p (kDiff p (kIdx (subf y y')) cb) wo bo := by
  unfold k0_pay14; rw [pay12]; rfl
/-- The outputs' sum, the layer's added. -/
theorem pay15 : k0_pay15 (F := Ideal) tot lane p y y' cb wo bo = addf tot (kOut p (kDiff p (kIdx (subf y y')) cb) wo bo) := by
  unfold k0_pay15; rw [pay14]
/-- The residual handed on. -/
theorem pay16 : k0_pay16 (F := Ideal) x lane p y y' cb wo bo = subf x (kOut p (kDiff p (kIdx (subf y y')) cb) wo bo) := by
  unfold k0_pay16; rw [pay14]
/-- The projection. -/
theorem pay17 : k0_pay17 (F := Ideal) x w b = kProj x w b := rfl
/-- The logits. -/
theorem pay18 : k0_pay18 (F := Ideal) x w b ct cn = kLogit (kProj x w b) ct cn := by
  unfold k0_pay18; rw [pay17]; rfl
/-- The logits, as one layer's slab. -/
theorem pay19 : k0_pay19 (F := Ideal) x w b ct cn = kSlab (kLogit (kProj x w b) ct cn) := by
  unfold k0_pay19; rw [pay18]; rfl
/-- The picks. -/
theorem pay20 : k0_pay20 (F := Ideal) lane x w b ct cn = kIdx (kLogit (kProj x w b) ct cn) := by
  unfold k0_pay20; rw [pay18]; rfl
/-- The picks, as a column. -/
theorem pay21 : k0_pay21 i = kCol i := rfl
/-- The picked code less the projection. -/
theorem pay22 : k0_pay22 (F := Ideal) lane p i cb = kDiff p i cb := rfl
/-- The squared error so far, the layer's added. -/
theorem pay23 : k0_pay23 (F := Ideal) lane s p i cb = Scalar.addf s (kSum (kDiff p i cb)) := by
  unfold k0_pay23; rw [pay22]; rfl
/-- The layer's output. -/
theorem pay24 : k0_pay24 (F := Ideal) lane p i cb wo bo = kOut p (kDiff p i cb) wo bo := by
  unfold k0_pay24; rw [pay22]; rfl
/-- The outputs' sum, the layer's added. -/
theorem pay25 : k0_pay25 (F := Ideal) lane tot p i cb wo bo = addf tot (kOut p (kDiff p i cb) wo bo) := by
  unfold k0_pay25; rw [pay24]
/-- The residual handed on. -/
theorem pay26 : k0_pay26 (F := Ideal) lane x p i cb wo bo = subf x (kOut p (kDiff p i cb) wo bo) := by
  unfold k0_pay26; rw [pay24]
/-- The projection of the residual handed on. -/
theorem pay27 : k0_pay27 (F := Ideal) lane x p i cb wo bo w b = kProj (subf x (kOut p (kDiff p i cb) wo bo)) w b := by
  unfold k0_pay27; rw [pay26]; rfl
/-- The floored lengths of the next layer's projection. -/
theorem pay28 : k0_pay28 (F := Ideal) lane x p i cb wo bo w b = kLen (kProj (subf x (kOut p (kDiff p i cb) wo bo)) w b) := by
  unfold k0_pay28; rw [pay27]; rfl
/-- The logits. -/
theorem pay29 : k0_pay29 (F := Ideal) p d ct cn = subf (kNear (divf p d) ct) (kRow cn) := rfl
/-- The logits, as one layer's slab. -/
theorem pay30 : k0_pay30 (F := Ideal) p d ct cn = kSlab (subf (kNear (divf p d) ct) (kRow cn)) := by
  unfold k0_pay30; rw [pay29]; rfl
/-- The picks, as a column. -/
theorem pay31 : k0_pay31 (F := Ideal) lane p d ct cn = kCol (kIdx (subf (kNear (divf p d) ct) (kRow cn))) := by
  unfold k0_pay31; rw [pay29]; rfl
/-- The picked code less the projection. -/
theorem pay32 : k0_pay32 (F := Ideal) lane p d ct cn cb = kDiff p (kIdx (subf (kNear (divf p d) ct) (kRow cn))) cb := by
  unfold k0_pay32; rw [pay31]; rfl
/-- The squared error of the layer. -/
theorem pay33 : k0_pay33 (F := Ideal) lane p d ct cn cb = kSum (kDiff p (kIdx (subf (kNear (divf p d) ct) (kRow cn))) cb) := by
  unfold k0_pay33; rw [pay32]; rfl
/-- The squared error so far, the layer's added. -/
theorem pay34 : k0_pay34 (F := Ideal) s s' = Scalar.addf s s' := rfl
/-- The layer's output. -/
theorem pay35 : k0_pay35 (F := Ideal) p d wo bo = kOut p d wo bo := rfl
/-- The outputs' sum, the layer's added. -/
theorem pay36 : k0_pay36 (F := Ideal) tot p d wo bo = addf tot (kOut p d wo bo) := rfl
/-- The projection of the residual handed on. -/
theorem pay37 : k0_pay37 (F := Ideal) x p d wo bo w b = kProj (subf x (kOut p d wo bo)) w b := by
  unfold k0_pay37; rw [pay35]; rfl
/-- The doubled products with the directions, less the squared lengths. -/
theorem pay38 : k0_pay38 (F := Ideal) x p d wo bo w b ct
    = kNear (divf (kProj (subf x (kOut p d wo bo)) w b) (kLen (kProj (subf x (kOut p d wo bo)) w b))) ct := by
  unfold k0_pay38; rw [pay37]; rfl
/-- The logits. -/
theorem pay39 : k0_pay39 (F := Ideal) y cn = subf y (kRow cn) := rfl
/-- The logits, as one layer's slab. -/
theorem pay40 : k0_pay40 (F := Ideal) y cn = kSlab (subf y (kRow cn)) := rfl
/-- The picks, as a column. -/
theorem pay41 : k0_pay41 (F := Ideal) lane y cn = kCol (kIdx (subf y (kRow cn))) := rfl
/-- The picked code less the projection. -/
theorem pay42 : k0_pay42 (F := Ideal) lane p y cn cb = kDiff p (kIdx (subf y (kRow cn))) cb := by
  unfold k0_pay42; rw [pay41]; rfl
/-- The squared error so far, the layer's added. -/
theorem pay43 : k0_pay43 (F := Ideal) lane s p y cn cb = Scalar.addf s (kSum (kDiff p (kIdx (subf y (kRow cn))) cb)) := by
  unfold k0_pay43; rw [pay42]; rfl
/-- The outputs' sum, the layer's added. -/
theorem pay44 : k0_pay44 (F := Ideal) lane tot p y cn cb wo bo = addf tot (kOut p (kDiff p (kIdx (subf y (kRow cn))) cb) wo bo) := by
  unfold k0_pay44; rw [pay42]; rfl

end Cert.KernelIdeal.Value
-- ==== Proof.KRun.lean ====
/-
  What one grid step leaves in the four output blocks, as the layered computation on its tile of tokens.
-/
module

public import proofs.«01_k».proof.Proof.KStage

@[expose] public section

set_option maxHeartbeats 2000000

noncomputable section

namespace Cert.KernelIdeal.Value

open Cert.KernelIdeal Cert.KernelIdeal.Gen Idealize.ShloMosaic Idealize.ShloMosaic.TcCoe Idealize.SL.Sem
open Idealize.ShloMosaic.Pipeline (Dat)

/-- Layer `l`'s slab of a parameter. -/
def slab {p q : ℕ} (l : Fin 4) (x : FVec Ideal ⟨3, ![4, p, q]⟩ .f32) : FVec Ideal ⟨3, ![1, p, q]⟩ .f32 :=
  fun j => x (ix3 l (j 1) (j 2))

/-- The parameters a step reads. -/
structure Params where
  /-- the input projections -/
  w : FVec Ideal S4x512x256 .f32
  /-- their biases -/
  b : FVec Ideal S4x1x256 .f32
  /-- the output projections -/
  wo : FVec Ideal S4x256x512 .f32
  /-- their biases -/
  bo : FVec Ideal S4x1x512 .f32
  /-- the codebooks' directions -/
  ct : FVec Ideal S4x256x1024 .f32
  /-- their squared lengths -/
  cn : FVec Ideal S4x1x1024 .f32
  /-- the codebooks -/
  cb : FVec Ideal S4x1024x256 .f32

variable (K : Params) (l : Fin 4) (x : FVec Ideal S512x512 .f32)

/-- The projection of layer `l`. -/
def Params.P : FVec Ideal S512x256 .f32 := kProj x (slab l K.w) (slab l K.b)
/-- Its logits. -/
def Params.Y : FVec Ideal S512x1024 .f32 := kLogit (K.P l x) (slab l K.ct) (slab l K.cn)
/-- Its picks. -/
def Params.I : IVec S512 32 := kIdx (K.Y l x)
/-- The picked rows less the projection. -/
def Params.D : FVec Ideal S512x256 .f32 := kDiff (K.P l x) (K.I l x) (slab l K.cb)
/-- Its output. -/
def Params.O : FVec Ideal S512x512 .f32 := kOut (K.P l x) (K.D l x) (slab l K.wo) (slab l K.bo)
/-- The residual it hands on. -/
def Params.N : FVec Ideal S512x512 .f32 := subf x (K.O l x)
/-- The residual layer `l` sees. -/
def Params.R : Fin 4 → FVec Ideal S512x512 .f32
  | 0 => x
  | 1 => K.N 0 x
  | 2 => K.N 1 (K.N 0 x)
  | 3 => K.N 2 (K.N 1 (K.N 0 x))

/-- The sum of the outputs. -/
def Params.tot : FVec Ideal S512x512 .f32 :=
  addf (addf (addf (addf zero (K.O 0 (K.R x 0))) (K.O 1 (K.R x 1))) (K.O 2 (K.R x 2))) (K.O 3 (K.R x 3))
/-- The four columns of picks. -/
def Params.idx : IVec S512x4 32 :=
  k0_pay1 (kCol (K.I 0 (K.R x 0))) (kCol (K.I 1 (K.R x 1))) (kCol (K.I 2 (K.R x 2))) (kCol (K.I 3 (K.R x 3)))
/-- The four slabs of logits. -/
def Params.lgt : FVec Ideal S512x4x1024 .f32 := fun i => K.Y (i 1) (K.R x (i 1)) (ix2 (i 0) (i 2))
/-- The tile's squared error over the layers. -/
def Params.sse : Ideal .f32 :=
  Scalar.addf (Scalar.addf (Scalar.addf (Scalar.addf (Scalar.ofBits .f32 0x00000000#32) (kSum (K.D 0 (K.R x 0))))
    (kSum (K.D 1 (K.R x 1)))) (kSum (K.D 2 (K.R x 2)))) (kSum (K.D 3 (K.R x 3)))

/-- The offsets of a whole block are zero. -/
theorem hz2 : (![0, 0] : Fin 2 → Nat) = fun _ => 0 := funext fun a => by fin_cases a <;> rfl

/-- A load of one layer's rectangle is that layer's slab. -/
theorem ld_slab {p q : ℕ} (y : FVec Ideal ⟨3, ![4, p, q]⟩ .f32) (k : ℕ) (hk : k < 4)
    (h : ∀ a, (![k, 0, 0] : Fin 3 → ℕ) a + (![1, p, q] : Fin 3 → ℕ) a ≤ (⟨3, ![4, p, q]⟩ : Shape).size a) :
    View.ld (Val := Elt Ideal) (e' := .f32) y (Rect.unit (s := ⟨3, ![4, p, q]⟩) ![k, 0, 0] ![1, p, q] h) = slab ⟨k, hk⟩ y := by
  funext j
  show y _ = y _
  congr 1
  funext a
  have h0 : (j 0).val < 1 := (j 0).isLt
  match a with
  | ⟨0, _⟩ => exact Fin.ext (by show k + 1 * (j 0).val = k; omega)
  | ⟨1, _⟩ => exact Fin.ext (by show 0 + 1 * (j 1).val = (j 1).val; omega)
  | ⟨2, _⟩ => exact Fin.ext (by show 0 + 1 * (j 2).val = (j 2).val; omega)

variable (m : (ℓ : Loc nD τ sig) → Buf (Elt Ideal) ℓ)

/-- The parameters as step `t` sees them. -/
def par (c : Dev nD) (t : Fin cfg0.N) : Params where
  w := iblk m c 1 t
  b := iblk m c 2 t
  wo := iblk m c 3 t
  bo := iblk m c 4 t
  ct := iblk m c 5 t
  cn := iblk m c 6 t
  cb := iblk m c 7 t

/-- The first output block holds the sum of the layers' outputs. -/
theorem outs_8 (c : Dev nD) (t : Fin cfg0.N) : (outsAt0 m c t.val t.isLt).1 = (par m c t).tot (iblk m c 0 t) := by
  unfold par
  by_cases h0 : t.val % 16 = 0
  · rw [outsAt0_A m c t h0]
    dsimp only
    unfold out0_A_8
    rw [View.read_writes_eq_canon _ _ _ fun y => cover0_A_8 (y := y) ..]
    unfold kernelRun0_A
    dsimp only
    sl_unfold_words
    rw [View.canon_unit_zero hz2]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x512) hz2, ld_slab]
    simp only [pay4, pay5, pay6, pay7, pay8, pay15, pay16, pay17, pay20, pay25, pay26, pay27, pay28, pay29, pay32, pay36, pay37, pay38, pay44]
    rfl
  · rw [outsAt0_B m c t h0]
    dsimp only
    unfold out0_B_8
    rw [View.read_writes_eq_canon _ _ _ fun y => cover0_B_8 (y := y) ..]
    unfold kernelRun0_B
    dsimp only
    sl_unfold_words
    rw [View.canon_unit_zero hz2]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x512) hz2, ld_slab]
    simp only [pay4, pay5, pay6, pay7, pay8, pay15, pay16, pay17, pay20, pay25, pay26, pay27, pay28, pay29, pay32, pay36, pay37, pay38, pay44]
    rfl

/-- The second holds the four columns of picks. -/
theorem outs_9 (c : Dev nD) (t : Fin cfg0.N) : (outsAt0 m c t.val t.isLt).2.1 = (par m c t).idx (iblk m c 0 t) := by
  unfold par
  by_cases h0 : t.val % 16 = 0
  · rw [outsAt0_A m c t h0]
    dsimp only
    unfold out0_A_9
    rw [View.read_writes_eq_canon _ _ _ fun y => cover0_A_9 (y := y) ..]
    unfold kernelRun0_A
    dsimp only
    sl_unfold_words
    rw [View.canon_unit_zero hz2]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x512) hz2, ld_slab]
    simp only [pay4, pay5, pay6, pay7, pay8, pay11, pay15, pay16, pay17, pay20, pay21, pay25, pay26, pay27, pay28, pay29, pay31, pay32, pay36, pay37, pay38, pay41, pay44]
    rfl
  · rw [outsAt0_B m c t h0]
    dsimp only
    unfold out0_B_9
    rw [View.read_writes_eq_canon _ _ _ fun y => cover0_B_9 (y := y) ..]
    unfold kernelRun0_B
    dsimp only
    sl_unfold_words
    rw [View.canon_unit_zero hz2]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x512) hz2, ld_slab]
    simp only [pay4, pay5, pay6, pay7, pay8, pay11, pay15, pay16, pay17, pay20, pay21, pay25, pay26, pay27, pay28, pay29, pay31, pay32, pay36, pay37, pay38, pay41, pay44]
    rfl

/-- A tile of logits stored as one layer's slab, read at the slab's own index. -/
theorem kSlab_ap (y : FVec Ideal S512x1024 .f32) (r : Fin 512) (z : Fin 1) (k : Fin 1024) : kSlab y (ix3 r z k) = y (ix2 r k) := by
  pointwise [kSlab]

/-- A slab of logits stored at layer `k` agrees there with the block of all four. -/
theorem slab_at (F : Fin 4 → FVec Ideal S512x1024 .f32) (k : ℕ) (hk : k < 4)
    (h : ∀ a, (![0, k, 0] : Fin 3 → ℕ) a + S512x1x1024.size a ≤ S512x4x1024.size a)
    (j : (Rect.unit (s := S512x4x1024) ![0, k, 0] S512x1x1024.size h).shape.Idx) :
    kSlab (F ⟨k, hk⟩) j = (fun i : S512x4x1024.Idx => F (i 1) (ix2 (i 0) (i 2)))
      ((Rect.unit (s := S512x4x1024) ![0, k, 0] S512x1x1024.size h).emb j) := by
  obtain ⟨j0, j1, j2, rfl⟩ : ∃ (j0 : Fin 512) (j1 : Fin 1) (j2 : Fin 1024), j = (ix3 j0 j1 j2 : S512x1x1024.Idx) :=
    ⟨j 0, j 1, j 2, by
      funext a
      match a with
      | ⟨0, _⟩ => rfl
      | ⟨1, _⟩ => rfl
      | ⟨2, _⟩ => rfl⟩
  have h1 := j1.isLt
  have e : (Rect.unit (s := S512x4x1024) ![0, k, 0] S512x1x1024.size h).emb (ix3 j0 j1 j2 : S512x1x1024.Idx)
      = (ix3 j0 (⟨k, hk⟩ : Fin 4) j2 : S512x4x1024.Idx) := by
    funext a
    match a with
    | ⟨0, _⟩ => exact Fin.ext (by show 0 + 1 * j0.val = j0.val; omega)
    | ⟨1, _⟩ => exact Fin.ext (by show k + 1 * j1.val = k; omega)
    | ⟨2, _⟩ => exact Fin.ext (by show 0 + 1 * j2.val = j2.val; omega)
  rw [e]
  exact kSlab_ap _ _ _ _

/-- Four slabs of logits stored side by side are the block of all four. -/
theorem canon_slabs (F : Fin 4 → FVec Ideal S512x1024 .f32)
    (h0 : ∀ a, (![0, 0, 0] : Fin 3 → ℕ) a + S512x1x1024.size a ≤ S512x4x1024.size a)
    (h1 : ∀ a, (![0, 1, 0] : Fin 3 → ℕ) a + S512x1x1024.size a ≤ S512x4x1024.size a)
    (h2 : ∀ a, (![0, 2, 0] : Fin 3 → ℕ) a + S512x1x1024.size a ≤ S512x4x1024.size a)
    (h3 : ∀ a, (![0, 3, 0] : Fin 3 → ℕ) a + S512x1x1024.size a ≤ S512x4x1024.size a) :
    View.canon (Val := Elt Ideal) (s := S512x4x1024) (e := .f32)
      [⟨Rect.unit ![0, 3, 0] S512x1x1024.size h3, kSlab (F 3)⟩, ⟨Rect.unit ![0, 2, 0] S512x1x1024.size h2, kSlab (F 2)⟩,
       ⟨Rect.unit ![0, 1, 0] S512x1x1024.size h1, kSlab (F 1)⟩, ⟨Rect.unit ![0, 0, 0] S512x1x1024.size h0, kSlab (F 0)⟩]
      = fun i => F (i 1) (ix2 (i 0) (i 2)) := by
  funext y
  refine View.canon_apply_of_pieces (Val := Elt Ideal) (e := .f32) (fun i : S512x4x1024.Idx => F (i 1) (ix2 (i 0) (i 2))) _ ?_ y ?_
  · simp only [List.mem_cons, List.not_mem_nil, or_false, forall_eq_or_imp, forall_eq]
    exact ⟨slab_at F 3 (by decide) h3, slab_at F 2 (by decide) h2, slab_at F 1 (by decide) h1, slab_at F 0 (by decide) h0⟩
  · have a0 : (y 0).val < 512 := (y 0).isLt
    have a1 : (y 1).val < 4 := (y 1).isLt
    have a2 : (y 2).val < 1024 := (y 2).isLt
    have mem : ∀ (k : ℕ) (h : ∀ a, (![0, k, 0] : Fin 3 → ℕ) a + S512x1x1024.size a ≤ S512x4x1024.size a), (y 1).val = k →
        y ∈ (Rect.unit (s := S512x4x1024) ![0, k, 0] S512x1x1024.size h).set := by
      intro k h hk
      refine Rect.mem_set_unit.2 fun a => ?_
      match a with
      | ⟨0, _⟩ => exact ⟨Nat.zero_le _, by show (y 0).val < 0 + 512; omega⟩
      | ⟨1, _⟩ => exact ⟨by show k ≤ (y 1).val; omega, by show (y 1).val < k + 1; omega⟩
      | ⟨2, _⟩ => exact ⟨Nat.zero_le _, by show (y 2).val < 0 + 1024; omega⟩
    have : (y 1).val = 0 ∨ (y 1).val = 1 ∨ (y 1).val = 2 ∨ (y 1).val = 3 := by omega
    rcases this with q | q | q | q
    · exact ⟨_, .tail _ (.tail _ (.tail _ (.head _))), mem 0 h0 q⟩
    · exact ⟨_, .tail _ (.tail _ (.head _)), mem 1 h1 q⟩
    · exact ⟨_, .tail _ (.head _), mem 2 h2 q⟩
    · exact ⟨_, .head _, mem 3 h3 q⟩

/-- The third holds the four slabs of logits. -/
theorem outs_10 (c : Dev nD) (t : Fin cfg0.N) : (outsAt0 m c t.val t.isLt).2.2.1 = (par m c t).lgt (iblk m c 0 t) := by
  unfold par
  by_cases h0 : t.val % 16 = 0
  · rw [outsAt0_A m c t h0]
    dsimp only
    unfold out0_A_10
    rw [View.read_writes_eq_canon _ _ _ fun y => cover0_A_10 (y := y) ..]
    unfold kernelRun0_A
    dsimp only
    sl_unfold_words
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x512) hz2, ld_slab]
    simp only [pay4, pay5, pay6, pay7, pay8, pay10, pay15, pay16, pay17, pay19, pay20, pay25, pay26, pay27, pay28, pay29, pay30, pay32, pay36, pay37, pay38, pay40, pay44]
    exact canon_slabs (fun l => Params.Y ⟨x1, x2, x3, x4, x5, x6, x7⟩ l (Params.R ⟨x1, x2, x3, x4, x5, x6, x7⟩ x0 l)) _ _ _ _
  · rw [outsAt0_B m c t h0]
    dsimp only
    unfold out0_B_10
    rw [View.read_writes_eq_canon _ _ _ fun y => cover0_B_10 (y := y) ..]
    unfold kernelRun0_B
    dsimp only
    sl_unfold_words
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x512) hz2, ld_slab]
    simp only [pay4, pay5, pay6, pay7, pay8, pay10, pay15, pay16, pay17, pay19, pay20, pay25, pay26, pay27, pay28, pay29, pay30, pay32, pay36, pay37, pay38, pay40, pay44]
    exact canon_slabs (fun l => Params.Y ⟨x1, x2, x3, x4, x5, x6, x7⟩ l (Params.R ⟨x1, x2, x3, x4, x5, x6, x7⟩ x0 l)) _ _ _ _

/-- The fourth holds, at the first step, the tile's share of the loss. -/
theorem outs_11_first (c : Dev nD) (t : Fin cfg0.N) (h0 : t.val % 16 = 0) : (outsAt0 m c t.val t.isLt).2.2.2
    = k0_pay2 ((par m c t).sse (iblk m c 0 t)) (k0_pay3 (F := Ideal)) := by
  unfold par
  rw [outsAt0_A m c t h0]
  dsimp only
  unfold out0_A_11
  rw [View.read_writes_eq_canon _ _ _ fun y => cover0_A_11 (y := y) ..]
  unfold kernelRun0_A
  dsimp only
  sl_unfold_words
  rw [View.canon_cons_unit_zero hz2]
  simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x512) hz2, View.readCov_unit_zero (S := S1x1) _ hz2, ld_slab]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  simp only [pay4, pay5, pay6, pay7, pay8, pay13, pay15, pay16, pay17, pay20, pay23, pay25, pay26, pay27, pay28, pay29, pay32, pay33, pay34, pay36, pay37, pay38, pay43, pay44]
  rfl

/-- At a later step it holds the share added to what the step before left. -/
theorem outs_11_next (c : Dev nD) (t : Fin cfg0.N) (h0 : ¬t.val % 16 = 0) : (outsAt0 m c t.val t.isLt).2.2.2
    = k0_pay2 ((par m c t).sse (iblk m c 0 t)) (outsAt0 m c (t.val - 1) (Nat.lt_of_le_of_lt (Nat.sub_le _ _) t.isLt)).2.2.2 := by
  unfold par
  rw [outsAt0_B m c t h0]
  dsimp only
  generalize (outsAt0 m c (t.val - 1) (Nat.lt_of_le_of_lt (Nat.sub_le _ _) t.isLt)).2.2.2 = xo
  unfold out0_B_11
  rw [View.read_writes_eq_canon _ _ _ fun y => cover0_B_11 (y := y) ..]
  unfold kernelRun0_B
  dsimp only
  sl_unfold_words
  rw [View.canon_unit_zero hz2]
  simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, View.ld_unit_zero (S := S512x512) hz2, View.ld_unit_zero (S := S1x1) hz2, ld_slab]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  simp only [pay4, pay5, pay6, pay7, pay8, pay13, pay15, pay16, pay17, pay20, pay23, pay25, pay26, pay27, pay28, pay29, pay32, pay33, pay34, pay36, pay37, pay38, pay43, pay44]
  rfl

end Cert.KernelIdeal.Value

end
-- ==== Proof.KMath.lean ====
/-
  Each stage of the kernel body read at an index, in the terms of Spec.lean.
-/
module

public import proofs.«01_k».proof.Proof.KStage
public import proofs.«01_k».proof.Proof.Results
public import Idealize.ShloMosaic.Lib.Pointwise

@[expose] public section

set_option maxRecDepth 16384

noncomputable section

namespace Cert.KernelIdeal.Value

open Cert.KernelIdeal Cert.KernelIdeal.Gen Idealize.ShloMosaic
open Cert.Spec (IsFirstMax firstMax unit len)

/-- The projection of a row. -/
theorem kProj_ap (x : FVec Ideal S512x512 .f32) (w : FVec Ideal S1x512x256 .f32) (b : FVec Ideal S1x1x256 .f32) (r : Fin 512) (e : Fin 256) :
    kProj x w b (ix2 r e) = (∑ c, x (ix2 r c) * w (ix3 0 c e)) + b (ix3 0 0 e) := by
  pointwise [kProj]

/-- A row divided by its floored length is `unit` of it. -/
theorem kUnit_ap (p : FVec Ideal S512x256 .f32) (r : Fin 512) (e : Fin 256) :
    divf p (kLen p) (ix2 r e) = unit (fun e => p (ix2 r e)) e := by
  pointwise [kLen, unit, len, Cert.Spec.sq, Cert.Spec.eps]

/-- The doubled product with a direction, less the squared length of the row's own. -/
theorem kNear_ap (u : FVec Ideal S512x256 .f32) (ct : FVec Ideal S1x256x1024 .f32) (r : Fin 512) (k : Fin 1024) :
    kNear u ct (ix2 r k) = Ideal.ofBits .f32 0x40000000#32 * (∑ e, u (ix2 r e) * ct (ix3 0 e k)) - Cert.Spec.sq (fun e => u (ix2 r e)) := by
  pointwise [kNear, Cert.Spec.sq]

/-- The directions' squared lengths, the same in every row. -/
theorem kRow_ap (cn : FVec Ideal S1x1x1024 .f32) (r : Fin 512) (k : Fin 1024) : kRow cn (ix2 r k) = cn (ix3 0 0 k) := by
  pointwise [kRow]

/-- The output of a row. -/
theorem kOut_ap (p d : FVec Ideal S512x256 .f32) (w : FVec Ideal S1x256x512 .f32) (b : FVec Ideal S1x1x512 .f32) (r : Fin 512) (c : Fin 512) :
    kOut p d w b (ix2 r c) = (∑ e, (p (ix2 r e) + d (ix2 r e)) * w (ix3 0 e c)) + b (ix3 0 0 c) := by
  pointwise [kOut]

/-- The picks as a column. -/
theorem kCol_ap (i : IVec S512 32) (r : Fin 512) : kCol i (ix2 r 0) = i (ix1 r) := by
  pointwise [kCol]

/-- The sum over a tile is the sum of its rows' sums of squares. -/
theorem kSum_ap (d : FVec Ideal S512x256 .f32) : kSum d = ∑ r : Fin 512, Cert.Spec.sq (fun e => d (ix2 r e)) := by
  pointwise [kSum, Cert.Spec.sq]

/-- The greatest logit of a row is the one at the first place of the greatest. -/
theorem kMax_ap (y : FVec Ideal S512x1024 .f32) (r : Fin 512) (k : Fin 1024) :
    kMax y (ix2 r k) = y (ix2 r (firstMax fun k => y (ix2 r k))) := by
  have h : kMax y (ix2 r k) = Finset.fold max (Ideal.ofBits .f32 0xFF800000#32) (fun k => y (ix2 r k)) Finset.univ := by
    pointwise [kMax]
  rw [h, Cert.Spec.negInf_eq]
  have hs := Cert.Spec.firstMax_spec fun k => y (ix2 r k)
  exact le_antisymm ((Finset.fold_max_le _).2 ⟨bot_le, fun x _ => hs.1 x⟩)
    ((Finset.le_fold_max _).2 (Or.inr ⟨_, Finset.mem_univ _, le_rfl⟩))

/-- The signed minimum of two words is the minimum of their integers. -/
theorem minsi_toInt (a b : BitVec 32) : (IntOp.minsi a b).toInt = min a.toInt b.toInt := by
  unfold IntOp.minsi
  simp only [BitVec.slt, BitVec.sle]
  split_ifs with h <;> simp at h <;> omega

/-- A signed minimum over words is the minimum of the integers. -/
theorem fold_minsi {n : ℕ} (g : Fin n → BitVec 32) (b : BitVec 32) :
    (Finset.fold IntOp.minsi b g Finset.univ).toInt = Finset.fold min b.toInt (fun x => (g x).toInt) Finset.univ :=
  (Finset.fold_hom (op := IntOp.minsi) (op' := min) (m := BitVec.toInt) minsi_toInt).symm

/-- The word of a codebook place. -/
abbrev word (k : Fin 1024) : BitVec 32 := BitVec.ofNat 32 k.val

/-- A place's word, read as a signed integer, is the place. -/
theorem word_toInt (k : Fin 1024) : (word k).toInt = k.val := by
  rw [BitVec.toInt_ofNat']
  have := k.isLt
  rw [Int.bmod_eq_of_le] <;> omega

/-- The least lane of the greatest logit is the first place of the greatest. -/
theorem kIdx_ap (y : FVec Ideal S512x1024 .f32) (r : Fin 512) :
    kIdx y (ix1 r) = word (firstMax fun k => y (ix2 r k)) := by
  have h : kIdx y (ix1 r) = Finset.fold IntOp.minsi (2147483647#32)
      (fun x : Fin 1024 => if kMax y (ix2 r x) ≤ y (ix2 r x) then word x else 1024#32) Finset.univ := by
    pointwise [kIdx]
  have hs := Cert.Spec.firstMax_spec fun k => y (ix2 r k)
  rw [h]
  refine BitVec.eq_of_toInt_eq ?_
  rw [fold_minsi, word_toInt]
  simp only [kMax_ap]
  generalize (firstMax fun k => y (ix2 r k)) = k at hs
  have hk := k.isLt
  refine le_antisymm ((Finset.fold_min_le _).2 (Or.inr ⟨k, Finset.mem_univ _, ?_⟩)) ((Finset.le_fold_min _).2 ⟨?_, fun x _ => ?_⟩)
  · rw [if_pos le_rfl, word_toInt]
  · have : (2147483647#32).toInt = 2147483647 := by decide
    omega
  · split_ifs with hx
    · rw [word_toInt]
      have := Fin.le_def.1 (hs.2 x hx)
      omega
    · have : (1024#32).toInt = 1024 := by decide
      omega

/-- Different places have different words. -/
theorem word_inj {k x : Fin 1024} (h : word k = word x) : k = x := by
  have := congrArg BitVec.toInt h
  rw [word_toInt, word_toInt] at this
  exact Fin.ext (by omega)

/-- The one-hot product reads the named row. -/
theorem kRows_ap (i : IVec S512 32) (c : FVec Ideal S1x1024x256 .f32) (r : Fin 512) (e : Fin 256) (k : Fin 1024) (hi : i (ix1 r) = word k) :
    kRows i c (ix2 r e) = c (ix3 0 k e) := by
  have h : kRows i c (ix2 r e) = ∑ x : Fin 1024, (FloatOps.sitofp (F := Ideal) .f32
      (BitVec.setWidth 32 (IntOp.cmpi CmpIPredicate.eq (word x) (kCol i (ix2 r 0)))) : EReal) * c (ix3 0 x e) := by
    pointwise [kRows]
  rw [h, kCol_ap, hi, Finset.sum_eq_single k]
  · have : (FloatOps.sitofp (F := Ideal) .f32 (BitVec.setWidth 32 (IntOp.cmpi CmpIPredicate.eq (word k) (word k))) : EReal) = 1 := by
      show (((BitVec.setWidth 32 (IntOp.cmpi CmpIPredicate.eq (word k) (word k))).toInt : ℝ) : EReal) = 1
      simp [IntOp.cmpi]
    rw [this, one_mul]
  · intro x _ hx
    have hne : word x ≠ word k := fun q => hx (word_inj q)
    have : (FloatOps.sitofp (F := Ideal) .f32 (BitVec.setWidth 32 (IntOp.cmpi CmpIPredicate.eq (word x) (word k))) : EReal) = 0 := by
      show (((BitVec.setWidth 32 (IntOp.cmpi CmpIPredicate.eq (word x) (word k))).toInt : ℝ) : EReal) = 0
      simp [IntOp.cmpi, beq_eq_false_iff_ne.2 hne]
    rw [this, zero_mul]
  · simp

end Cert.KernelIdeal.Value

end
-- ==== Proof.KTile.lean ====
/-
  One grid step in the terms of Spec.lean: when the parameters it reads are those of the four layers and its tile's rows
  are tokens, the blocks it leaves are the layers' outputs, picks, logits and squared errors of those tokens.
-/
module

public import proofs.«01_k».proof.Proof.KRun
public import proofs.«01_k».proof.Proof.KMath

@[expose] public section

set_option maxRecDepth 16384

noncomputable section

namespace Cert.KernelIdeal.Value

open Cert.KernelIdeal Cert.KernelIdeal.Gen Idealize.ShloMosaic
open Cert.Spec (Layer unit proj logit pick diff out next res total err)

/-- The parameters a step reads are those of the layers `L`. -/
structure Fits (K : Params) (L : Fin 4 → Layer) : Prop where
  w : ∀ l c e, K.w (ix3 l c e) = (L l).win e c
  b : ∀ l e, K.b (ix3 l 0 e) = (L l).inb e
  wo : ∀ l e c, K.wo (ix3 l e c) = (L l).wout c e
  bo : ∀ l c, K.bo (ix3 l 0 c) = (L l).outb c
  ct : ∀ l e k, K.ct (ix3 l e k) = unit ((L l).code k) e
  cn : ∀ l k, K.cn (ix3 l 0 k) = Cert.Spec.sq (unit ((L l).code k))
  cb : ∀ l k e, K.cb (ix3 l k e) = (L l).code k e

/-- A layer's slab at an index. -/
theorem slab_ap {p q : ℕ} (l : Fin 4) (x : FVec Ideal ⟨3, ![4, p, q]⟩ .f32) (i : Fin p) (j : Fin q) :
    slab l x (ix3 0 i j) = x (ix3 l i j) := rfl

/-- A difference at an index. -/
theorem subf_ap {s : Shape} (x y : FVec Ideal s .f32) (i : s.Idx) : subf x y i = (x i - y i : EReal) := rfl

/-- A sum at an index. -/
theorem addf_ap {s : Shape} (x y : FVec Ideal s .f32) (i : s.Idx) : addf x y i = (x i + y i : EReal) := rfl

variable {K : Params} {L : Fin 4 → Layer} (h : Fits K L) (l : Fin 4) {x : FVec Ideal S512x512 .f32}
  {X : Fin 512 → Fin 512 → EReal} (hx : ∀ r c, x (ix2 r c) = X r c)
include h hx

/-- The projection of a row. -/
theorem P_ap (r : Fin 512) (e : Fin 256) : K.P l x (ix2 r e) = proj (L l) (X r) e := by
  unfold Params.P
  rw [kProj_ap]
  simp only [slab_ap, h.w, h.b, hx]
  rfl

/-- The logits of a row. -/
theorem Y_ap (r : Fin 512) (k : Fin 1024) : K.Y l x (ix2 r k) = logit (L l) (X r) k := by
  unfold Params.Y kLogit
  rw [subf_ap, kNear_ap, kRow_ap]
  simp only [slab_ap, kUnit_ap, h.ct, h.cn, P_ap h l hx]
  rfl

/-- The pick of a row. -/
theorem I_ap (r : Fin 512) : K.I l x (ix1 r) = word (pick (L l) (X r)) := by
  unfold Params.I
  rw [kIdx_ap]
  simp only [Y_ap h l hx]
  rfl

/-- The picked row less the projection. -/
theorem D_ap (r : Fin 512) (e : Fin 256) : K.D l x (ix2 r e) = diff (L l) (X r) e := by
  unfold Params.D kDiff
  rw [subf_ap, kRows_ap _ _ r e _ (I_ap h l hx r), slab_ap, h.cb, P_ap h l hx]
  rfl

/-- The layer's output. -/
theorem O_ap (r c : Fin 512) : K.O l x (ix2 r c) = out (L l) (X r) c := by
  unfold Params.O
  rw [kOut_ap]
  simp only [slab_ap, h.wo, h.bo, P_ap h l hx, D_ap h l hx]
  rfl

/-- The residual it hands on. -/
theorem N_ap (r c : Fin 512) : K.N l x (ix2 r c) = next (L l) (X r) c := by
  unfold Params.N
  rw [subf_ap, O_ap h l hx, hx]
  rfl

/-- The residual layer `l` sees. -/
theorem R_ap (r c : Fin 512) : K.R x l (ix2 r c) = res L (X r) l.val c := by
  have h1 := N_ap h 0 hx
  have h2 := N_ap h 1 h1
  match l with
  | 0 => exact hx r c
  | 1 => exact h1 r c
  | 2 => exact h2 r c
  | 3 => exact N_ap h 2 h2 r c

/-- The sum of the outputs. -/
theorem tot_ap (r c : Fin 512) : K.tot x (ix2 r c) = total L (X r) c := by
  unfold Params.tot
  simp only [addf_ap]
  rw [O_ap h 0 (R_ap h 0 hx), O_ap h 1 (R_ap h 1 hx), O_ap h 2 (R_ap h 2 hx), O_ap h 3 (R_ap h 3 hx)]
  have : zero (ix2 r c) = (0 : EReal) := Ideal.ofBits_zero_f32
  rw [this]
  rfl

/-- The picks, a column per layer. -/
theorem idx_ap (r : Fin 512) : K.idx x (ix2 r l) = word (pick (L l) (res L (X r) l.val)) := by
  have e : K.idx x (ix2 r l) = K.I l (K.R x l) (ix1 r) := by
    unfold Params.idx
    fin_cases l <;> pointwise [k0_pay1, kCol]
  rw [e, I_ap h l (R_ap h l hx)]

/-- The logits, a slab per layer. -/
theorem lgt_ap (r : Fin 512) (k : Fin 1024) : K.lgt x (ix3 r l k) = logit (L l) (res L (X r) l.val) k :=
  Y_ap h l (R_ap h l hx) r k

/-- The squared error of the tile. -/
theorem sse_eq : K.sse x = ∑ l, ∑ r, err L (X r) l := by
  unfold Params.sse
  have e : ∀ l, kSum (K.D l (K.R x l)) = ∑ r, err L (X r) l := by
    intro l
    rw [kSum_ap]
    simp only [D_ap h l (R_ap h l hx)]
    rfl
  simp only [e]
  rw [Fin.sum_univ_four]
  show (((Ideal.ofBits .f32 0x00000000#32 + _) + _) + _) + _ = _
  rw [Ideal.ofBits_zero_f32, zero_add]

end Cert.KernelIdeal.Value

end
-- ==== Proof.KHost.lean ====
/-
  What the host leaves for the kernel: each array the grid reads, in the terms of Results.lean.
-/
module

public import proofs.«01_k».proof.Proof.KStage
public import proofs.«01_k».proof.Proof.Results
public import Idealize.ShloMosaic.Lib.Pointwise
public import Idealize.ShloMosaic.Lib.StableHlo.RunRead
public import Mathlib.Tactic.DefEqTransformations

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (c : Dev nD)

/-- The weight-normalised input projections, transposed. -/
def winK (a1 : FVec Ideal S4x256x512 .f32) (a2 : FVec Ideal S4x256 .f32) : FVec Ideal S4x512x256 .f32 :=
  transpose S4x512x256 [0, 2, 1] (mulf a1 (broadcastInDim S4x256x512 ![0, 1, 2] bcast_S4x256x1_S4x256x512_0_1_2
    (Host.divf (broadcastInDim S4x256x1 ![0, 1] bcast_S4x256_S4x256x1_0_1 a2)
      (maximumf (Host.sqrt (broadcastInDim S4x256x1 ![0, 1] bcast_S4x256_S4x256x1_0_1
        (Host.reduceAdd (mulf a1 a1) (constant S_ .f32 0x00000000#32) reducesTo_S4x256x512_S4x256_d2 h_S_)))
        (broadcastInDim S4x256x1 ![] bcast_S_S4x256x1 (constant S_ .f32 0x2B8CBCCC#32))))))
    transposes_S4x256x512_S4x512x256_0_2_1

/-- The weight-normalised output projections, transposed. -/
def woutK (a4 : FVec Ideal S4x512x256 .f32) (a5 : FVec Ideal S4x512 .f32) : FVec Ideal S4x256x512 .f32 :=
  transpose S4x256x512 [0, 2, 1] (mulf a4 (broadcastInDim S4x512x256 ![0, 1, 2] bcast_S4x512x1_S4x512x256_0_1_2
    (Host.divf (broadcastInDim S4x512x1 ![0, 1] bcast_S4x512_S4x512x1_0_1 a5)
      (maximumf (Host.sqrt (broadcastInDim S4x512x1 ![0, 1] bcast_S4x512_S4x512x1_0_1
        (Host.reduceAdd (mulf a4 a4) (constant S_ .f32 0x00000000#32) reducesTo_S4x512x256_S4x512_d2 h_S_)))
        (broadcastInDim S4x512x1 ![] bcast_S_S4x512x1 (constant S_ .f32 0x2B8CBCCC#32))))))
    transposes_S4x512x256_S4x256x512_0_2_1

/-- The codebooks' directions. -/
def dirK (a7 : FVec Ideal S4x1024x256 .f32) : FVec Ideal S4x1024x256 .f32 :=
  Host.divf a7 (broadcastInDim S4x1024x256 ![0, 1, 2] bcast_S4x1024x1_S4x1024x256_0_1_2
    (maximumf (Host.sqrt (broadcastInDim S4x1024x1 ![0, 1] bcast_S4x1024_S4x1024x1_0_1
      (Host.reduceAdd (mulf a7 a7) (constant S_ .f32 0x00000000#32) reducesTo_S4x1024x256_S4x1024_d2 h_S_)))
      (broadcastInDim S4x1024x1 ![] bcast_S_S4x1024x1 (constant S_ .f32 0x2B8CBCCC#32))))

/-- The directions, transposed. -/
def dirT (a7 : FVec Ideal S4x1024x256 .f32) : FVec Ideal S4x256x1024 .f32 :=
  transpose S4x256x1024 [0, 2, 1] (dirK a7) transposes_S4x1024x256_S4x256x1024_0_2_1

/-- Their squared lengths. -/
def dirN (a7 : FVec Ideal S4x1024x256 .f32) : FVec Ideal S4x1x1024 .f32 :=
  shapeCast S4x1x1024 (Host.reduceAdd (mulf (dirK a7) (dirK a7)) (constant S_ .f32 0x00000000#32) reducesTo_S4x1024x256_S4x1024_d2 h_S_)
    shapeCasts_S4x1024_S4x1x1024

/-- The tokens, a row each. -/
def tokK (a0 : FVec Ideal S8x512x1024 .f32) : FVec Ideal S8192x512 .f32 :=
  shapeCast S8192x512 (transpose S8x1024x512 [0, 2, 1] a0 transposes_S8x512x1024_S8x1024x512_0_2_1) shapeCasts_S8x1024x512_S8192x512

/-- The contents of every buffer, at the ideal values. -/
abbrev Vals : Type := Valuation τ sig (Elt Ideal)

/-- The host operations before the kernel, in one list. -/
abbrev pre : List (HloOp τ sig (Elt Ideal)) := List.flatten [hostOps0, hostOps0_1, hostOps0_2]

variable (W : Vals)

/-- The tokens that the host operations leave. -/
theorem pre_x : StableHlo.after pre W (no_index (Proc.devRef .tc main_v1)) = tokK (W (Proc.devRef .tc main_arg0)) := by
  simp only [pre, hostOps0, hostOps0_1, hostOps0_2, List.flatten_cons, List.flatten_nil, List.append_nil, List.cons_append, List.nil_append]
  after_reads_simp
  eta_reduce
  rfl

/-- The input weights that they leave. -/
theorem pre_win : StableHlo.after pre W (no_index (Proc.devRef .tc main_v29)) = winK (W (Proc.devRef .tc main_arg1)) (W (Proc.devRef .tc main_arg2)) := by
  simp only [pre, hostOps0, hostOps0_1, hostOps0_2, List.flatten_cons, List.flatten_nil, List.append_nil, List.cons_append, List.nil_append]
  after_reads_simp
  eta_reduce
  rfl

/-- The output weights that they leave. -/
theorem pre_wout : StableHlo.after pre W (no_index (Proc.devRef .tc main_v30)) = woutK (W (Proc.devRef .tc main_arg4)) (W (Proc.devRef .tc main_arg5)) := by
  simp only [pre, hostOps0, hostOps0_1, hostOps0_2, List.flatten_cons, List.flatten_nil, List.append_nil, List.cons_append, List.nil_append]
  after_reads_simp
  eta_reduce
  rfl

/-- The transposed directions that they leave. -/
theorem pre_dir : StableHlo.after pre W (no_index (Proc.devRef .tc main_v31)) = dirT (W (Proc.devRef .tc main_arg7)) := by
  simp only [pre, hostOps0, hostOps0_1, hostOps0_2, List.flatten_cons, List.flatten_nil, List.append_nil, List.cons_append, List.nil_append]
  after_reads_simp
  eta_reduce
  rfl

/-- The input biases that they leave. -/
theorem pre_inb : StableHlo.after pre W (no_index (Proc.devRef .tc main_v32)) = shapeCast S4x1x256 (W (Proc.devRef .tc main_arg3)) shapeCasts_S4x256_S4x1x256 := by
  simp only [pre, hostOps0, hostOps0_1, hostOps0_2, List.flatten_cons, List.flatten_nil, List.append_nil, List.cons_append, List.nil_append]
  after_reads_simp
  eta_reduce
  rfl

/-- The output biases that they leave. -/
theorem pre_outb : StableHlo.after pre W (no_index (Proc.devRef .tc main_v33)) = shapeCast S4x1x512 (W (Proc.devRef .tc main_arg6)) shapeCasts_S4x512_S4x1x512 := by
  simp only [pre, hostOps0, hostOps0_1, hostOps0_2, List.flatten_cons, List.flatten_nil, List.append_nil, List.cons_append, List.nil_append]
  after_reads_simp
  eta_reduce
  rfl

/-- The squared lengths that they leave. -/
theorem pre_norm : StableHlo.after pre W (no_index (Proc.devRef .tc main_v34)) = dirN (W (Proc.devRef .tc main_arg7)) := by
  simp only [pre, hostOps0, hostOps0_1, hostOps0_2, List.flatten_cons, List.flatten_nil, List.append_nil, List.cons_append, List.nil_append]
  after_reads_simp
  eta_reduce
  rfl

/-! ### Each of these at an index -/

open Cert.Spec (wnorm unit len)

/-- The input weights are `wnorm`, transposed. -/
theorem winK_ap (a1 : FVec Ideal S4x256x512 .f32) (a2 : FVec Ideal S4x256 .f32) (l : Fin 4) (k : Fin 512) (e : Fin 256) :
    winK a1 a2 (ix3 l k e) = wnorm (fun k => a1 (ix3 l e k)) (a2 (ix2 l e)) k := by
  pointwise [winK, wnorm, len, Cert.Spec.sq, Cert.Spec.eps]

/-- The output weights are `wnorm`, transposed. -/
theorem woutK_ap (a4 : FVec Ideal S4x512x256 .f32) (a5 : FVec Ideal S4x512 .f32) (l : Fin 4) (e : Fin 256) (k : Fin 512) :
    woutK a4 a5 (ix3 l e k) = wnorm (fun e => a4 (ix3 l k e)) (a5 (ix2 l k)) e := by
  pointwise [woutK, wnorm, len, Cert.Spec.sq, Cert.Spec.eps]

/-- A direction is `unit` of its codebook row. -/
theorem dirK_ap (a7 : FVec Ideal S4x1024x256 .f32) (l : Fin 4) (k : Fin 1024) (e : Fin 256) :
    dirK a7 (ix3 l k e) = unit (fun e => a7 (ix3 l k e)) e := by
  pointwise [dirK, unit, len, Cert.Spec.sq, Cert.Spec.eps]

/-- The transposed directions at an index. -/
theorem dirT_ap (a7 : FVec Ideal S4x1024x256 .f32) (l : Fin 4) (e : Fin 256) (k : Fin 1024) :
    dirT a7 (ix3 l e k) = dirK a7 (ix3 l k e) := by
  pointwise [dirT]

/-- The squared length of a direction. -/
theorem dirN_ap (a7 : FVec Ideal S4x1024x256 .f32) (l : Fin 4) (z : Fin 1) (k : Fin 1024) :
    dirN a7 (ix3 l z k) = Cert.Spec.sq fun e => dirK a7 (ix3 l k e) := by
  pointwise [dirN, Cert.Spec.sq]

/-- The input biases at an index. -/
theorem inbK_ap (a3 : FVec Ideal S4x256 .f32) (l : Fin 4) (z : Fin 1) (e : Fin 256) :
    shapeCast S4x1x256 a3 shapeCasts_S4x256_S4x1x256 (ix3 l z e) = a3 (ix2 l e) := by
  pointwise []

/-- The output biases at an index. -/
theorem outbK_ap (a6 : FVec Ideal S4x512 .f32) (l : Fin 4) (z : Fin 1) (k : Fin 512) :
    shapeCast S4x1x512 a6 shapeCasts_S4x512_S4x1x512 (ix3 l z k) = a6 (ix2 l k) := by
  pointwise []

/-- Row `n` holds the activations of token `n`. -/
theorem tokK_ap (a0 : FVec Ideal S8x512x1024 .f32) (n : Fin 8192) (k : Fin 512) :
    tokK a0 (ix2 n k) = a0 (ix3 (Cert.Spec.batchOf n) k (Cert.Spec.timeOf n)) := by
  pointwise [tokK, Cert.Spec.batchOf, Cert.Spec.timeOf]

end Cert.KernelIdeal.Value

end
-- ==== Proof.KGrid.lean ====
/-
  What the grid reads and leaves: the sixteen steps' tiles are the 8192 tokens, and the four result arrays the kernel
  writes hold what Spec.lean says of those tokens.
-/
module

public import proofs.«01_k».proof.Proof.KTile
public import proofs.«01_k».proof.Proof.KHost
public import Idealize.ShloMosaic.Lib.Pipeline.Value

@[expose] public section

set_option maxRecDepth 16384

noncomputable section

namespace Cert.KernelIdeal.Value

open Cert.KernelIdeal Cert.KernelIdeal.Gen Idealize.ShloMosaic Idealize.ShloMosaic.TcCoe
open Idealize.ShloMosaic.Pipeline (Dat)
open Cert.Spec (Inputs pick logit res total err batchOf timeOf loss)

/-! ### Rows and tokens -/

/-- The token row `r` of step `n`'s tile is. -/
def rowOf (n : ℕ) (r : Fin 512) : Fin 8192 := ⟨(512 * n + r.val) % 8192, Nat.mod_lt _ (by norm_num)⟩

/-- The sixteen tiles of 512 rows are the tokens, each once. -/
theorem sum_rows {M : Type} [AddCommMonoid M] (f : Fin 8192 → M) : ∑ n ∈ Finset.range 16, ∑ r, f (rowOf n r) = ∑ i, f i := by
  rw [Finset.sum_range, ← Fintype.sum_prod_type' (f := fun (n : Fin 16) (r : Fin 512) => f (rowOf n.val r)),
    ← Equiv.sum_comp (finProdFinEquiv (m := 16) (n := 512))]
  refine Finset.sum_congr rfl fun p _ => congrArg f (Fin.ext ?_)
  show (512 * p.1.val + p.2.val) % 8192 = p.2.val + 512 * p.1.val
  omega

/-- So are the eight batch entries of 1024 times. -/
theorem sum_tokens {M : Type} [AddCommMonoid M] (f : Fin 8 → Fin 1024 → M) :
    ∑ i, f (batchOf i) (timeOf i) = ∑ b, ∑ s, f b s := by
  rw [← Fintype.sum_prod_type' (f := f), ← Equiv.sum_comp (finProdFinEquiv (m := 8) (n := 1024))]
  refine Finset.sum_congr rfl fun p _ => ?_
  have hv : (finProdFinEquiv p : Fin (8 * 1024)).val = p.2.val + 1024 * p.1.val := rfl
  have hb : batchOf (finProdFinEquiv p) = p.1 := Fin.ext (by show (finProdFinEquiv p : Fin (8 * 1024)).val / 1024 = _; rw [hv]; omega)
  have hs : timeOf (finProdFinEquiv p) = p.2 := Fin.ext (by show (finProdFinEquiv p : Fin (8 * 1024)).val % 1024 = _; rw [hv]; omega)
  rw [hb, hs]

variable (m : (ℓ : Loc nD τ sig) → Buf (Elt Ideal) ℓ) (c : Dev nD)

/-- The kernel's arguments as the inputs. -/
def inK : Inputs := ⟨m (c.tc.loc main_arg0), m (c.tc.loc main_arg1), m (c.tc.loc main_arg2), m (c.tc.loc main_arg3),
  m (c.tc.loc main_arg4), m (c.tc.loc main_arg5), m (c.tc.loc main_arg6), m (c.tc.loc main_arg7)⟩

/-- The activations of token `n`. -/
abbrev tokenK (n : Fin 8192) : Fin 512 → EReal := (inK m c).token (batchOf n) (timeOf n)

/-! ### What a step reads -/

/-- A window that never moves reads its whole array. -/
theorem blk_1 (t : Fin cfg0.N) : iblk m c 1 t = V m c main_v29 :=
  Memref.read_access_unit_zero (Elt Ideal) main_v29 (off := fun a => win0_1.index t a * main_v29.ty.shape.size a)
    (funext fun a => by fin_cases a <;> rfl) (fun a => by fin_cases a <;> exact Nat.le_refl _) _

/-- Window 2 reads the input biases whole. -/
theorem blk_2 (t : Fin cfg0.N) : iblk m c 2 t = V m c main_v32 :=
  Memref.read_access_unit_zero (Elt Ideal) main_v32 (off := fun a => win0_2.index t a * main_v32.ty.shape.size a)
    (funext fun a => by fin_cases a <;> rfl) (fun a => by fin_cases a <;> exact Nat.le_refl _) _

/-- Window 3 reads the output weights whole. -/
theorem blk_3 (t : Fin cfg0.N) : iblk m c 3 t = V m c main_v30 :=
  Memref.read_access_unit_zero (Elt Ideal) main_v30 (off := fun a => win0_3.index t a * main_v30.ty.shape.size a)
    (funext fun a => by fin_cases a <;> rfl) (fun a => by fin_cases a <;> exact Nat.le_refl _) _

/-- Window 4 reads the output biases whole. -/
theorem blk_4 (t : Fin cfg0.N) : iblk m c 4 t = V m c main_v33 :=
  Memref.read_access_unit_zero (Elt Ideal) main_v33 (off := fun a => win0_4.index t a * main_v33.ty.shape.size a)
    (funext fun a => by fin_cases a <;> rfl) (fun a => by fin_cases a <;> exact Nat.le_refl _) _

/-- Window 5 reads the transposed directions whole. -/
theorem blk_5 (t : Fin cfg0.N) : iblk m c 5 t = V m c main_v31 :=
  Memref.read_access_unit_zero (Elt Ideal) main_v31 (off := fun a => win0_5.index t a * main_v31.ty.shape.size a)
    (funext fun a => by fin_cases a <;> rfl) (fun a => by fin_cases a <;> exact Nat.le_refl _) _

/-- Window 6 reads the directions' squared lengths whole. -/
theorem blk_6 (t : Fin cfg0.N) : iblk m c 6 t = V m c main_v34 :=
  Memref.read_access_unit_zero (Elt Ideal) main_v34 (off := fun a => win0_6.index t a * main_v34.ty.shape.size a)
    (funext fun a => by fin_cases a <;> rfl) (fun a => by fin_cases a <;> exact Nat.le_refl _) _

/-- Window 7 reads the codebooks whole. -/
theorem blk_7 (t : Fin cfg0.N) : iblk m c 7 t = V m c main_arg7 :=
  Memref.read_access_unit_zero (Elt Ideal) main_arg7 (off := fun a => win0_7.index t a * main_arg7.ty.shape.size a)
    (funext fun a => by fin_cases a <;> rfl) (fun a => by fin_cases a <;> exact Nat.le_refl _) _

/-! ### The arrays the host operations hand the kernel -/

/-- Window 1's array: the normalized input weights. -/
theorem V_win : V m c main_v29 = winK (inK m c).a1 (inK m c).a2 := pre_win _
/-- Window 2's array: the input biases. -/
theorem V_inb : V m c main_v32 = shapeCast S4x1x256 (inK m c).a3 shapeCasts_S4x256_S4x1x256 := pre_inb _
/-- Window 3's array: the normalized output weights. -/
theorem V_wout : V m c main_v30 = woutK (inK m c).a4 (inK m c).a5 := pre_wout _
/-- Window 4's array: the output biases. -/
theorem V_outb : V m c main_v33 = shapeCast S4x1x512 (inK m c).a6 shapeCasts_S4x512_S4x1x512 := pre_outb _
/-- Window 5's array: the codebooks' directions, transposed. -/
theorem V_dir : V m c main_v31 = dirT (inK m c).a7 := pre_dir _
/-- Window 6's array: the squared lengths of the directions. -/
theorem V_norm : V m c main_v34 = dirN (inK m c).a7 := pre_norm _
/-- Window 7's array: the codebooks. -/
theorem V_code : V m c main_arg7 = (inK m c).a7 := V_main_arg7 m c

/-- The parameters every step reads are the layers'. -/
theorem fits (t : Fin cfg0.N) : Fits (par m c t) (inK m c).lay where
  w l k e := by
    unfold par
    dsimp only
    rw [blk_1, V_win, winK_ap]
    rfl
  b l e := by
    unfold par
    dsimp only
    rw [blk_2, V_inb, inbK_ap]
    rfl
  wo l e k := by
    unfold par
    dsimp only
    rw [blk_3, V_wout, woutK_ap]
    rfl
  bo l k := by
    unfold par
    dsimp only
    rw [blk_4, V_outb, outbK_ap]
    rfl
  ct l e k := by
    unfold par
    dsimp only
    rw [blk_5, V_dir, dirT_ap, dirK_ap]
    rfl
  cn l k := by
    unfold par
    dsimp only
    rw [blk_6, V_norm, dirN_ap]
    simp only [dirK_ap]
    rfl
  cb l k e := by
    unfold par
    dsimp only
    rw [blk_7, V_code]
    rfl

/-- The activations of a tile's token. -/
theorem tile_ap (t : Fin cfg0.N) (r k : Fin 512) : iblk m c 0 t (ix2 r k) = tokenK m c (rowOf t.val r) k := by
  have hi : ∀ t : Fin cfg0.N, win0_0.index t 0 = t.val ∧ win0_0.index t 1 = 0 :=
    (by decide +kernel : ∀ t : Fin grid0.N, win0_0.index t 0 = t.val ∧ win0_0.index t 1 = 0)
  have hN : cfg0.N = 16 := N_0
  have ht := t.isLt
  have e : iblk m c 0 t (ix2 r k) = V m c main_v1 (ix2 (rowOf t.val r) k) := by
    unfold iblk
    rw [View.read_apply]
    show V m c main_v1 _ = V m c main_v1 _
    congr 1
    funext a
    apply Fin.ext
    match a with
    | ⟨0, _⟩ => show win0_0.index t 0 * 512 + 1 * r.val = (512 * t.val + r.val) % 8192; rw [(hi t).1]; omega
    | ⟨1, _⟩ => show win0_0.index t 1 * 512 + 1 * k.val = k.val; rw [(hi t).2]; omega
  rw [e]
  show StableHlo.after pre _ (Proc.devRef .tc main_v1) _ = _
  rw [pre_x, tokK_ap]
  rfl

/-! ### The arrays the kernel leaves -/

/-- The outputs' sum, a row per token. -/
def totArr : FVec Ideal S8192x512 .f32 := fun i => total (inK m c).lay (tokenK m c (i 0)) (i 1)

/-- The picks, a row per token. -/
def idxArr : IVec S8192x4 32 := fun i => word (pick ((inK m c).lay (i 1)) (res (inK m c).lay (tokenK m c (i 0)) (i 1).val))

/-- The first result array holds the outputs' sum: every step writes its tile, and the tiles cover it. -/
theorem final_8 : (dats m 0 c).arrAt 8 cfg0.N = totArr m c := by
  have hi : ∀ t : Fin cfg0.N, win0_8.index t 0 = t.val ∧ win0_8.index t 1 = 0 :=
    (by decide +kernel : ∀ t : Fin grid0.N, win0_8.index t 0 = t.val ∧ win0_8.index t 1 = 0)
  have hs : ∀ t : Fin cfg0.N, win0_8.xsize (grid0.coords t) 0 = 512 ∧ win0_8.xsize (grid0.coords t) 1 = 512 :=
    (by decide +kernel : ∀ t : Fin grid0.N, win0_8.xsize (grid0.coords t) 0 = 512 ∧ win0_8.xsize (grid0.coords t) 1 = 512)
  have hN : cfg0.N = 16 := N_0
  refine (dats m 0 c).arrAt_eq_of_cover 8 (totArr m c) (fun t _ => ?_) fun i => ?_
  · show (cfg0.win 8).cut (grid0.coords t) ((dats m 0 c).after 8 t) = _
    rw [after0_8, outs_8]
    funext j
    rw [View.read_apply]
    obtain ⟨r, k, rfl⟩ : ∃ (r k : Fin 512), j = (ix2 r k : S512x512.Idx) := ⟨j 0, j 1, by
      funext a; match a with | ⟨0, _⟩ => rfl | ⟨1, _⟩ => rfl⟩
    refine (tot_ap (fits m c t) (tile_ap m c t) r k).trans ?_
    show totArr m c (ix2 (rowOf t.val r) k) = totArr m c _
    congr 1
    have ht : t.val < 16 := lt_of_lt_of_eq t.isLt hN
    funext a
    apply Fin.ext
    match a with
    | ⟨0, _⟩ => show (512 * t.val + r.val) % 8192 = win0_8.index t 0 * 512 + 1 * r.val; rw [(hi t).1]; omega
    | ⟨1, _⟩ => show k.val = win0_8.index t 1 * 512 + 1 * k.val; rw [(hi t).2]; omega
  · have h0 : (i 0 : Nat) < 8192 := (i 0).isLt
    have h1 : (i 1 : Nat) < 512 := (i 1).isLt
    let t : Fin cfg0.N := ⟨(i 0 : Nat) / 512, by omega⟩
    have htv : t.val = (i 0 : Nat) / 512 := rfl
    refine ⟨t, flush0_8 t, ?_⟩
    show i ∈ ((View.whole main_v35_0).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + win0_8.xsize (grid0.coords t) 0
                rw [(hi t).1, (hs t).1]; omega
    | ⟨1, _⟩ => show win0_8.index t 1 * 512 ≤ (i 1 : Nat) ∧ (i 1 : Nat) < win0_8.index t 1 * 512 + win0_8.xsize (grid0.coords t) 1
                rw [(hi t).2, (hs t).2]; omega

/-- The second holds the picks. -/
theorem final_9 : (dats m 0 c).arrAt 9 cfg0.N = idxArr m c := by
  have hi : ∀ t : Fin cfg0.N, win0_9.index t 0 = t.val ∧ win0_9.index t 1 = 0 :=
    (by decide +kernel : ∀ t : Fin grid0.N, win0_9.index t 0 = t.val ∧ win0_9.index t 1 = 0)
  have hs : ∀ t : Fin cfg0.N, win0_9.xsize (grid0.coords t) 0 = 512 ∧ win0_9.xsize (grid0.coords t) 1 = 4 :=
    (by decide +kernel : ∀ t : Fin grid0.N, win0_9.xsize (grid0.coords t) 0 = 512 ∧ win0_9.xsize (grid0.coords t) 1 = 4)
  have hN : cfg0.N = 16 := N_0
  refine (dats m 0 c).arrAt_eq_of_cover 9 (idxArr m c) (fun t _ => ?_) fun i => ?_
  · show (cfg0.win 9).cut (grid0.coords t) ((dats m 0 c).after 9 t) = _
    rw [after0_9, outs_9]
    funext j
    rw [View.read_apply]
    obtain ⟨r, l, rfl⟩ : ∃ (r : Fin 512) (l : Fin 4), j = (ix2 r l : S512x4.Idx) := ⟨j 0, j 1, by
      funext a; match a with | ⟨0, _⟩ => rfl | ⟨1, _⟩ => rfl⟩
    refine (idx_ap (fits m c t) l (tile_ap m c t) r).trans ?_
    show idxArr m c (ix2 (rowOf t.val r) l) = idxArr m c _
    congr 1
    have ht : t.val < 16 := lt_of_lt_of_eq t.isLt hN
    funext a
    apply Fin.ext
    match a with
    | ⟨0, _⟩ => show (512 * t.val + r.val) % 8192 = win0_9.index t 0 * 512 + 1 * r.val; rw [(hi t).1]; omega
    | ⟨1, _⟩ => show l.val = win0_9.index t 1 * 4 + 1 * l.val; rw [(hi t).2]; omega
  · have h0 : (i 0 : Nat) < 8192 := (i 0).isLt
    have h1 : (i 1 : Nat) < 4 := (i 1).isLt
    let t : Fin cfg0.N := ⟨(i 0 : Nat) / 512, by omega⟩
    have htv : t.val = (i 0 : Nat) / 512 := rfl
    refine ⟨t, flush0_9 t, ?_⟩
    show i ∈ ((View.whole main_v35_1).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + win0_9.xsize (grid0.coords t) 0
                rw [(hi t).1, (hs t).1]; omega
    | ⟨1, _⟩ => show win0_9.index t 1 * 4 ≤ (i 1 : Nat) ∧ (i 1 : Nat) < win0_9.index t 1 * 4 + win0_9.xsize (grid0.coords t) 1
                rw [(hi t).2, (hs t).2]; omega

/-- The third holds the logits. -/
theorem final_10 : (dats m 0 c).arrAt 10 cfg0.N = (inK m c).logitsOf := by
  have hi : ∀ t : Fin cfg0.N, win0_10.index t 0 = t.val ∧ win0_10.index t 1 = 0 ∧ win0_10.index t 2 = 0 :=
    (by decide +kernel : ∀ t : Fin grid0.N, win0_10.index t 0 = t.val ∧ win0_10.index t 1 = 0 ∧ win0_10.index t 2 = 0)
  have hs : ∀ t : Fin cfg0.N, win0_10.xsize (grid0.coords t) 0 = 512 ∧ win0_10.xsize (grid0.coords t) 1 = 4
      ∧ win0_10.xsize (grid0.coords t) 2 = 1024 :=
    (by decide +kernel : ∀ t : Fin grid0.N, win0_10.xsize (grid0.coords t) 0 = 512 ∧ win0_10.xsize (grid0.coords t) 1 = 4
      ∧ win0_10.xsize (grid0.coords t) 2 = 1024)
  have hN : cfg0.N = 16 := N_0
  refine (dats m 0 c).arrAt_eq_of_cover 10 (inK m c).logitsOf (fun t _ => ?_) fun i => ?_
  · show (cfg0.win 10).cut (grid0.coords t) ((dats m 0 c).after 10 t) = _
    rw [after0_10, outs_10]
    funext j
    rw [View.read_apply]
    obtain ⟨r, l, k, rfl⟩ : ∃ (r : Fin 512) (l : Fin 4) (k : Fin 1024), j = (ix3 r l k : S512x4x1024.Idx) := ⟨j 0, j 1, j 2, by
      funext a; match a with | ⟨0, _⟩ => rfl | ⟨1, _⟩ => rfl | ⟨2, _⟩ => rfl⟩
    refine (lgt_ap (fits m c t) l (tile_ap m c t) r k).trans ?_
    show (inK m c).logitsOf (ix3 (rowOf t.val r) l k) = (inK m c).logitsOf _
    congr 1
    have ht : t.val < 16 := lt_of_lt_of_eq t.isLt hN
    funext a
    apply Fin.ext
    match a with
    | ⟨0, _⟩ => show (512 * t.val + r.val) % 8192 = win0_10.index t 0 * 512 + 1 * r.val; rw [(hi t).1]; omega
    | ⟨1, _⟩ => show l.val = win0_10.index t 1 * 4 + 1 * l.val; rw [(hi t).2.1]; omega
    | ⟨2, _⟩ => show k.val = win0_10.index t 2 * 1024 + 1 * k.val; rw [(hi t).2.2]; omega
  · have h0 : (i 0 : Nat) < 8192 := (i 0).isLt
    have h1 : (i 1 : Nat) < 4 := (i 1).isLt
    have h2 : (i 2 : Nat) < 1024 := (i 2).isLt
    let t : Fin cfg0.N := ⟨(i 0 : Nat) / 512, by omega⟩
    have htv : t.val = (i 0 : Nat) / 512 := rfl
    refine ⟨t, flush0_10 t, ?_⟩
    show i ∈ ((View.whole main_v35_2).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + win0_10.xsize (grid0.coords t) 0
                rw [(hi t).1, (hs t).1]; omega
    | ⟨1, _⟩ => show win0_10.index t 1 * 4 ≤ (i 1 : Nat) ∧ (i 1 : Nat) < win0_10.index t 1 * 4 + win0_10.xsize (grid0.coords t) 1
                rw [(hi t).2.1, (hs t).2.1]; omega
    | ⟨2, _⟩ => show win0_10.index t 2 * 1024 ≤ (i 2 : Nat) ∧ (i 2 : Nat) < win0_10.index t 2 * 1024 + win0_10.xsize (grid0.coords t) 2
                rw [(hi t).2.2, (hs t).2.2]; omega

/-! ### The loss -/

/-- What step `n` adds to the loss. -/
def part (n : ℕ) : EReal :=
  Ideal.div (∑ l, ∑ r, err (inK m c).lay (tokenK m c (rowOf n r)) l) (Ideal.ofBits .f32 0x4A000000#32)

/-- A step adds its squared error, divided by the number of entries, to the loss. -/
theorem pay2_ap (s : Ideal .f32) (x : FVec Ideal S1x1 .f32) (i : S1x1.Idx) :
    k0_pay2 s x i = (x i + Ideal.div s (Ideal.ofBits .f32 0x4A000000#32) : EReal) := by
  unfold k0_pay2
  rw [addf_ap, shapeCast_self]
  rfl

/-- What it adds is `part`. -/
theorem sse_part (t : Fin cfg0.N) : Ideal.div ((par m c t).sse (iblk m c 0 t)) (Ideal.ofBits .f32 0x4A000000#32) = part m c t.val := by
  rw [sse_eq (fits m c t) (tile_ap m c t)]
  rfl

/-- After step `n` the loss's block holds the sum of the parts up to it. -/
theorem loss_upto : ∀ (n : ℕ) (h : n < cfg0.N) (i : S1x1.Idx), (outsAt0 m c n h).2.2.2 i = ∑ k ∈ Finset.range (n + 1), part m c k
  | 0, h, i => by
    rw [outs_11_first m c ⟨0, h⟩ rfl, pay2_ap, sse_part m c ⟨0, h⟩, Finset.sum_range_one]
    have : k0_pay3 (F := Ideal) i = (0 : EReal) := Ideal.ofBits_zero_f32
    rw [this, zero_add]
  | n + 1, h, i => by
    have hN : cfg0.N = 16 := N_0
    have hB : ¬(⟨n + 1, h⟩ : Fin cfg0.N).val % 16 = 0 := by dsimp only; omega
    rw [outs_11_next m c ⟨n + 1, h⟩ hB, pay2_ap, sse_part m c ⟨n + 1, h⟩, Finset.sum_range_succ, ← loss_upto n (Nat.lt_of_succ_lt h) i]
    rfl

/-- All sixteen parts are the loss. -/
theorem parts_eq : ∑ k ∈ Finset.range 16, part m c k = loss (inK m c).lay (inK m c).token := by
  unfold part loss
  rw [Cert.Spec.entries_eq, Cert.Spec.sum_div _ _ (fun k => Finset.sum_nonneg fun l _ => Finset.sum_nonneg fun r _ =>
    Cert.Spec.err_nonneg _ _ _) (by norm_num), Finset.sum_comm]
  have e : ∀ l, ∑ k ∈ Finset.range 16, ∑ r, err (inK m c).lay (tokenK m c (rowOf k r)) l
      = ∑ b, ∑ s, err (inK m c).lay ((inK m c).token b s) l := fun l =>
    (sum_rows fun n => err (inK m c).lay (tokenK m c n) l).trans
      (sum_tokens fun b s => err (inK m c).lay ((inK m c).token b s) l)
  simp only [e]

/-- The last holds the loss, written back after the last step. -/
theorem final_11 : (dats m 0 c).arrAt 11 cfg0.N = (fun _ => loss (inK m c).lay (inK m c).token : FVec Ideal S1x1 .f32) := by
  have hN : cfg0.N = 16 := N_0
  refine (dats m 0 c).arrAt_eq_of_cover 11 (fun _ => loss (inK m c).lay (inK m c).token : FVec Ideal S1x1 .f32) (fun t hf => ?_) fun i => ?_
  · have h15 : t.val = 15 := by have := (flush0_11 t).mp hf; have := t.isLt; omega
    show (cfg0.win 11).cut (grid0.coords t) ((dats m 0 c).after 11 t) = _
    rw [after0_11]
    funext j
    rw [View.read_apply]
    refine (loss_upto m c t.val t.isLt _).trans ?_
    rw [h15, parts_eq]
    rfl
  · let t : Fin cfg0.N := ⟨15, by omega⟩
    have hi : win0_11.index t 0 = 0 ∧ win0_11.index t 1 = 0 := ⟨rfl, rfl⟩
    have h0 : (i 0 : Nat) < 1 := (i 0).isLt
    have h1 : (i 1 : Nat) < 1 := (i 1).isLt
    refine ⟨t, (flush0_11 t).mpr rfl, ?_⟩
    show i ∈ ((View.whole main_v35_3).slice (win0_11.rect t)).set
    rw [View.set_slice_whole, Rect.mem_set_unit]
    intro a
    match a with
    | ⟨0, _⟩ => show win0_11.index t 0 * 1 ≤ (i 0 : Nat) ∧ (i 0 : Nat) < win0_11.index t 0 * 1 + 1
                rw [hi.1]; omega
    | ⟨1, _⟩ => show win0_11.index t 1 * 1 ≤ (i 1 : Nat) ∧ (i 1 : Nat) < win0_11.index t 1 * 1 + 1
                rw [hi.2]; omega

end Cert.KernelIdeal.Value

end
-- ==== Proof.KTail.lean ====
/-
  The five operations after the kernel: the outputs and the picks are put back batch by channel by time, and the loss
  loses its two dimensions of one. So the four distinct results the program returns are those of Results.lean.
-/
module

public import proofs.«01_k».proof.Proof.KGrid
public import Idealize.ShloMosaic.Lib.StableHlo.RunRead
public import Mathlib.Tactic.DefEqTransformations

@[expose] public section

set_option maxRecDepth 16384

noncomputable section

namespace Cert.KernelIdeal.Value

open Cert.KernelIdeal Cert.KernelIdeal.Gen Idealize.ShloMosaic Idealize.ShloMosaic.TcCoe Idealize.SL.Sem
open Cert.Spec (batchOf timeOf)

/-- What the last operations leave as the first result. -/
theorem tail_total (W : Vals) : StableHlo.after hostOps1 W (no_index (Proc.devRef .tc main_v37)) =
    transpose S8x512x1024 [0, 2, 1] (shapeCast S8x1024x512 (W (Proc.devRef .tc main_v35_0) : FVec Ideal S8192x512 .f32)
      shapeCasts_S8192x512_S8x1024x512) transposes_S8x1024x512_S8x512x1024_0_2_1 := by
  simp only [hostOps1]
  after_reads_simp
  eta_reduce
  rfl

/-- What they leave as the second. -/
theorem tail_indices (W : Vals) : StableHlo.after hostOps1 W (no_index (Proc.devRef .tc main_v39)) =
    transpose S8x4x1024 [0, 2, 1] (shapeCast S8x1024x4 (W (Proc.devRef .tc main_v35_1) : IVec S8192x4 32)
      shapeCasts_S8192x4_S8x1024x4) transposes_S8x1024x4_S8x4x1024_0_2_1 := by
  simp only [hostOps1]
  after_reads_simp
  eta_reduce
  rfl

/-- What they leave as the two losses. -/
theorem tail_loss (W : Vals) : StableHlo.after hostOps1 W (no_index (Proc.devRef .tc main_v40)) =
    shapeCast S_ (W (Proc.devRef .tc main_v35_3) : FVec Ideal S1x1 .f32) shapeCasts_S1x1_S_ := by
  simp only [hostOps1]
  after_reads_simp
  eta_reduce
  rfl

/-- Rows of tokens put back batch by channel by time. -/
theorem back_ap (x : FVec Ideal S8192x512 .f32) (b : Fin 8) (k : Fin 512) (s : Fin 1024) :
    transpose S8x512x1024 [0, 2, 1] (shapeCast S8x1024x512 x shapeCasts_S8192x512_S8x1024x512)
      transposes_S8x1024x512_S8x512x1024_0_2_1 (ix3 b k s) = x (ix2 (⟨b.val * 1024 + s.val, by omega⟩ : Fin 8192) k) := by
  pointwise []

/-- Rows of picks put back batch by layer by time. -/
theorem backI_ap (x : IVec S8192x4 32) (b : Fin 8) (k : Fin 4) (s : Fin 1024) :
    transpose S8x4x1024 [0, 2, 1] (shapeCast S8x1024x4 x shapeCasts_S8192x4_S8x1024x4)
      transposes_S8x1024x4_S8x4x1024_0_2_1 (ix3 b k s) = x (ix2 (⟨b.val * 1024 + s.val, by omega⟩ : Fin 8192) k) := by
  pointwise []

/-- The batch entry of token `1024 b + s` is `b`. -/
theorem batch_at (b : Fin 8) (s : Fin 1024) (h : b.val * 1024 + s.val < 8192) : batchOf ⟨b.val * 1024 + s.val, h⟩ = b :=
  Fin.ext (by show (b.val * 1024 + s.val) / 1024 = b.val; omega)

/-- Its time is `s`. -/
theorem time_at (b : Fin 8) (s : Fin 1024) (h : b.val * 1024 + s.val < 8192) : timeOf ⟨b.val * 1024 + s.val, h⟩ = s :=
  Fin.ext (by show (b.val * 1024 + s.val) % 1024 = s.val; omega)

/-- An index of three dimensions is its three coordinates. -/
theorem ix3_parts {p q r : ℕ} (i : (⟨3, ![p, q, r]⟩ : Shape).Idx) : ∃ x y z, i = ix3 x y z :=
  ⟨i 0, i 1, i 2, by
    funext d
    match d with
    | ⟨0, _⟩ => rfl
    | ⟨1, _⟩ => rfl
    | ⟨2, _⟩ => rfl⟩

variable (m : (ℓ : Loc nD τ sig) → Buf (Elt Ideal) ℓ) (c : Dev nD)

/-- The contents when the kernel is done. -/
abbrev left : Vals := Pipeline.withArrays (cfgs 0).spec c (V0 m c) fun w => (dats m 0 c).arrAt w (cfgs 0).N

/-- An array the kernel writes is then as the kernel left it. -/
theorem left_arr (w : Fin (cfgs 0).W) :
    left m c (Proc.devRef .tc (Pipeline.arrRef (cfgs 0).spec w)) = (dats m 0 c).arrAt w (cfgs 0).N :=
  Pipeline.withArrays_arr (cfgs 0).spec launch0.win.arr_inj c (V0 m c) (fun w => (dats m 0 c).arrAt w (cfgs 0).N) w

/-- The program's first result is the sum of the layers' outputs. -/
theorem total_left : Pipeline.afterTail₀ cfgs (dats m) 0 (V0 m) [hostOps1] c main_v37 = (inK m c).totalOf := by
  have e : left m c (Proc.devRef .tc main_v35_0) = totArr m c := (left_arr m c 8).trans (final_8 m c)
  refine (tail_total (left m c)).trans ?_
  rw [e]
  funext i
  obtain ⟨b, k, s, rfl⟩ := ix3_parts i
  rw [back_ap]
  show Cert.Spec.total _ ((inK m c).token (batchOf ⟨b.val * 1024 + s.val, _⟩) (timeOf ⟨b.val * 1024 + s.val, _⟩)) k = _
  rw [batch_at, time_at]
  rfl

/-- Its second result is the picks. -/
theorem indices_left : Pipeline.afterTail₀ cfgs (dats m) 0 (V0 m) [hostOps1] c main_v39 = (inK m c).indicesOf := by
  have e : left m c (Proc.devRef .tc main_v35_1) = idxArr m c := (left_arr m c 9).trans (final_9 m c)
  refine (tail_indices (left m c)).trans ?_
  rw [e]
  funext i
  obtain ⟨b, l, s, rfl⟩ := ix3_parts i
  rw [backI_ap]
  show word (Cert.Spec.pick ((inK m c).lay l) (Cert.Spec.res _
    ((inK m c).token (batchOf ⟨b.val * 1024 + s.val, _⟩) (timeOf ⟨b.val * 1024 + s.val, _⟩)) l.val)) = _
  rw [batch_at, time_at]
  rfl

/-- Its last two results are the loss. -/
theorem loss_left : Pipeline.afterTail₀ cfgs (dats m) 0 (V0 m) [hostOps1] c main_v40 = (inK m c).lossOf := by
  have e : left m c (Proc.devRef .tc main_v35_3) = (fun _ => Cert.Spec.loss (inK m c).lay (inK m c).token : FVec Ideal S1x1 .f32) :=
    (left_arr m c 11).trans (final_11 m c)
  refine (tail_loss (left m c)).trans ?_
  rw [e]
  rfl

/-- The run: on every device the four distinct results are the quantizer's of the arguments, which are unchanged. -/
theorem run_value (ρ : Dev nD → PrngReg) : θ_run defs (onTc (τ := τ) (main (F := Ideal))) ⟨m, fun _ => 0, ρ⟩ fun r => ∀ c : Dev nD,
    r.2.mem ((c.tc : Thread nD τ).loc main_v37) = (inK m c).totalOf
    ∧ r.2.mem ((c.tc : Thread nD τ).loc main_v39) = (inK m c).indicesOf
    ∧ r.2.mem ((c.tc : Thread nD τ).loc main_v35_2) = (inK m c).logitsOf
    ∧ r.2.mem ((c.tc : Thread nD τ).loc main_v40) = (inK m c).lossOf :=
  (θ_run defs _ _).mono (fun _ h c =>
    ⟨((h c).2 main_v37 (Pipeline.mem_restRefs_of main_v37 (by decide) (by decide))).trans (total_left m c),
     ((h c).2 main_v39 (Pipeline.mem_restRefs_of main_v39 (by decide) (by decide))).trans (indices_left m c),
     ((h c).1 10).trans (final_10 m c),
     ((h c).2 main_v40 (Pipeline.mem_restRefs_of main_v40 (by decide) (by decide))).trans (loss_left m c)⟩)
    (run_main m ρ)

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.RefResult
public import proofs.«01_k».proof.Proof.RefValue
public import proofs.«01_k».proof.Proof.KTail
public import Idealize.ShloMosaic.Adequacy
public import Idealize.ShloMosaic.Init

@[expose] public section

noncomputable section

namespace Cert.Proof

open Idealize.ShloMosaic Idealize.ShloMosaic.TcCoe Idealize.SL.Sem
open Cert.Spec (Inputs)

/-- The reference's arguments as the inputs. -/
def inR (m : (ℓ : Loc Cert.ReferenceIdeal.nD Cert.ReferenceIdeal.τ Cert.ReferenceIdeal.sig) → Buf (Elt Ideal) ℓ)
    (c : Dev Cert.ReferenceIdeal.nD) : Inputs := (Cert.Ref.args (StableHlo.launchContents m c)).inp

/-- The reference's run leaves its arguments as they were. -/
theorem kept (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ (c : Dev Cert.ReferenceIdeal.nD) (b : Ref Cert.ReferenceIdeal.sig .tc),
        b ∈ [Cert.ReferenceIdeal.main_arg0, Cert.ReferenceIdeal.main_arg1, Cert.ReferenceIdeal.main_arg2, Cert.ReferenceIdeal.main_arg3,
          Cert.ReferenceIdeal.main_arg4, Cert.ReferenceIdeal.main_arg5, Cert.ReferenceIdeal.main_arg6, Cert.ReferenceIdeal.main_arg7] →
        r.2.mem ((c.tc : Thread Cert.ReferenceIdeal.nD Cert.ReferenceIdeal.τ).loc b)
          = m ((c.tc : Thread Cert.ReferenceIdeal.nD Cert.ReferenceIdeal.τ).loc b)) :=
  (θ_run Cert.ReferenceIdeal.defs _ _).mono (fun _ h c b hb => (h c b).trans (Cert.Ref.args_read _ hb)) (Cert.Ref.run m g)

/-- The reference runs, keeps its arguments and signals nothing. -/
theorem frame_reference : Cert.quiescent_ReferenceIdeal (hReferenceIdeal := Cert.ReferenceIdeal.Gen.facts) := fun m g _ =>
  (θ_run Cert.ReferenceIdeal.defs _ _).mono (fun r h =>
    ⟨fun c => ⟨h c _ (by simp), h c _ (by simp), h c _ (by simp), h c _ (by simp), h c _ (by simp), h c _ (by simp), h c _ (by simp),
      h c _ (by simp)⟩, sem_eq_zero_of_no_sems (by decide) r.2⟩) (kept m g)

/-- The reference's five results are the quantizer's of its arguments. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v399) = (inR m c).totalOf
        ∧ r.2.mem ((c.tc : Thread Cert.ReferenceIdeal.nD Cert.ReferenceIdeal.τ).loc Cert.ReferenceIdeal.main_v405) = (inR m c).indicesOf
        ∧ r.2.mem ((c.tc : Thread Cert.ReferenceIdeal.nD Cert.ReferenceIdeal.τ).loc Cert.ReferenceIdeal.main_v410) = (inR m c).logitsOf
        ∧ r.2.mem ((c.tc : Thread Cert.ReferenceIdeal.nD Cert.ReferenceIdeal.τ).loc Cert.ReferenceIdeal.main_v367) = (inR m c).lossOf
        ∧ r.2.mem ((c.tc : Thread Cert.ReferenceIdeal.nD Cert.ReferenceIdeal.τ).loc Cert.ReferenceIdeal.main_v375) = (inR m c).lossOf) :=
  (θ_run Cert.ReferenceIdeal.defs _ _).mono (fun _ h c =>
    ⟨(h c _).trans ((Cert.Ref.total_read _).trans (Cert.Ref.total_eq _)),
     (h c _).trans ((Cert.Ref.indices_read _).trans (Cert.Ref.indices_eq _)),
     (h c _).trans ((Cert.Ref.logits_read _).trans (Cert.Ref.logits_eq _)),
     (h c _).trans ((Cert.Ref.commit_read _).trans (Cert.Ref.commit_eq _)),
     (h c _).trans ((Cert.Ref.codebook_read _).trans (Cert.Ref.codebook_eq _))⟩) (Cert.Ref.run m g)

/-- The kernel and the reference return the same five results of the same arguments. -/
theorem same : Cert.algebraic_KernelIdeal_ReferenceIdeal (hKernelIdeal := Cert.KernelIdeal.Gen.facts)
    (hReferenceIdeal := Cert.ReferenceIdeal.Gen.facts) := by
  intro m g m' g' _ hagree
  have e : ∀ c, inR m' c = Cert.KernelIdeal.Value.inK m c := by
    intro c
    obtain ⟨h0, h1, h2, h3, h4, h5, h6, h7⟩ := hagree c
    show Inputs.mk _ _ _ _ _ _ _ _ = Inputs.mk _ _ _ _ _ _ _ _
    congr 1
  refine ⟨fun c => (Cert.KernelIdeal.Value.inK m c).totalOf, fun c => (Cert.KernelIdeal.Value.inK m c).indicesOf,
    fun c => (Cert.KernelIdeal.Value.inK m c).logitsOf, fun c => (Cert.KernelIdeal.Value.inK m c).lossOf,
    fun c => (Cert.KernelIdeal.Value.inK m c).lossOf, ?_, ?_⟩
  · exact (θ_run Cert.KernelIdeal.defs _ _).mono (fun _ h c =>
      ⟨(h.1 c).1, (h.1 c).2.1, (h.1 c).2.2.1, (h.1 c).2.2.2, (h.1 c).2.2.2, h.2.1 c⟩)
      (θ_run_and (Cert.KernelIdeal.Value.run_value m g) (Cert.KernelIdeal.Gen.frame m g))
  · refine (θ_run Cert.ReferenceIdeal.defs _ _).mono (fun _ h c => ?_) (θ_run_and (run_reference m' g') (kept m' g'))
    have hc := h.1 c
    rw [e c] at hc
    exact ⟨hc.1, hc.2.1, hc.2.2.1, hc.2.2.2.1, hc.2.2.2.2, h.2 c _ (by simp), h.2 c _ (by simp),
      h.2 c _ (by simp), h.2 c _ (by simp), h.2 c _ (by simp), h.2 c _ (by simp), h.2 c _ (by simp), h.2 c _ (by simp)⟩

/-- All five claims. -/
theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, frame_reference, trivial, same⟩

end Cert.Proof

end
